-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S8x128x10000 : Shape := ⟨3, ![8, 128, 10000]⟩
abbrev S5000x16 : Shape := ⟨2, ![5000, 16]⟩
abbrev S_ : Shape := ⟨0, ![]⟩

class Facts : Prop where
  bcast_S_S5000x16 : S_.BroadcastsInDim S5000x16 (![] : Fin 0 → Fin S5000x16.rank)
  reducesTo_S5000x16_S_d0_1 : S5000x16.ReducesTo [0, 1] S_
  h_S_ : 0 < S_.numel

variable [Facts]

def fn {F : FTy → Type} [FloatOps F] (main_arg0 : FVec F S8x128x10000 .f32) (main_arg1 : IVec S5000x16 32) : IVec S_ 1 :=
  let main_c : IVec S_ 32 := constantI S_ 32 0#32
  let main_v0 : IVec S5000x16 32 := broadcastInDim S5000x16 ![] bcast_S_S5000x16 main_c
  let main_v1 : IVec S5000x16 1 := cmpi .sge main_arg1 main_v0
  let main_c_0 : IVec S_ 32 := constantI S_ 32 10000#32
  let main_v2 : IVec S5000x16 32 := broadcastInDim S5000x16 ![] bcast_S_S5000x16 main_c_0
  let main_v3 : IVec S5000x16 1 := cmpi .slt main_arg1 main_v2
  let main_v4 : IVec S5000x16 1 := andi main_v1 main_v3
  let main_c_1 : IVec S_ 1 := constantI S_ 1 1#1
  let main_v5 : IVec S_ 1 := (fun x v => Host.reduce IntOp.andi x v reducesTo_S5000x16_S_d0_1 h_S_) main_v4 main_c_1
  main_v5
-- ==== Kernel.lean ====
abbrev S8x128x10000 : Shape := ⟨3, ![8, 128, 10000]⟩
abbrev S5000x16 : Shape := ⟨2, ![5000, 16]⟩
abbrev S16x5000 : Shape := ⟨2, ![16, 5000]⟩
abbrev S8x128x5000 : Shape := ⟨3, ![8, 128, 5000]⟩
abbrev S8x10000 : Shape := ⟨2, ![8, 10000]⟩
abbrev S2x16x512 : Shape := ⟨3, ![2, 16, 512]⟩
abbrev S2x8x512 : Shape := ⟨3, ![2, 8, 512]⟩
abbrev S_ : Shape := ⟨0, ![]⟩
abbrev S1x16x512 : Shape := ⟨3, ![1, 16, 512]⟩
abbrev S16x512 : Shape := ⟨2, ![16, 512]⟩
abbrev S1x8x10000 : Shape := ⟨3, ![1, 8, 10000]⟩
abbrev S1x8x512 : Shape := ⟨3, ![1, 8, 512]⟩
abbrev S8x512 : Shape := ⟨2, ![8, 512]⟩
abbrev S16 : Shape := ⟨1, ![16]⟩
abbrev S1x1x16 : Shape := ⟨3, ![1, 1, 16]⟩

abbrev nBuf : Table → Nat
  | .hbm => 4
  | .local .scVector .vmem => 3
  | _ => 0

abbrev bufTy : (tb : Table) → Fin (nBuf tb) → BufTy
  | .hbm, ⟨0, _⟩ => ⟨S8x128x10000, .f32⟩
  | .hbm, ⟨1, _⟩ => ⟨S5000x16, .i32⟩
  | .hbm, ⟨2, _⟩ => ⟨S16x5000, .i32⟩
  | .hbm, ⟨3, _⟩ => ⟨S8x128x5000, .f32⟩
  | .local .scVector .vmem, ⟨0, _⟩ => ⟨S8x10000, .f32⟩
  | .local .scVector .vmem, ⟨1, _⟩ => ⟨S2x16x512, .i32⟩
  | .local .scVector .vmem, ⟨2, _⟩ => ⟨S2x8x512, .f32⟩
  | _, _ => ⟨S8x128x10000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c4_i32 : BitVec 32 := 4#32
  let v2 : BitVec 32 := Scalar.addi c0_i32_0 c4_i32
  let c1_i32 : BitVec 32 := 1#32
  ⟨c0_i32_0, v2, c1_i32⟩
def k0_mult1 : BitVec 32 :=
  let c0_i32_35 : BitVec 32 := 0#32
  let c4488_i32 : BitVec 32 := 4488#32
  let v49 : BitVec 32 := Scalar.minsi c0_i32_35 c4488_i32
  v49
def k0_off1 : Fin 2 → Nat :=
  let c0_i32_39 : BitVec 32 := 0#32
  let c0_i32_35 : BitVec 32 := 0#32
  let c4488_i32 : BitVec 32 := 4488#32
  let v49 : BitVec 32 := Scalar.minsi c0_i32_35 c4488_i32
  let v50 : BitVec 32 := v49
  ![0, v50.toNat]
def k0_off2 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_22 : BitVec 32 := 4#32
  let v19 : BitVec 32 := Scalar.muli v1 c4_i32_22
  let c0_i32_0 : BitVec 32 := 0#32
  let c1_i32 : BitVec 32 := 1#32
  let arg12 : BitVec 32 := Scf.iv c0_i32_0 c1_i32 k0_t1
  let v20 : BitVec 32 := Scalar.addi v19 arg12
  let c0_i32_23 : BitVec 32 := 0#32
  let v22 : BitVec 1 := Scalar.cmpi .sgt v20 c0_i32_23
  let v23 : BitVec 32 := Scalar.extui v22
  let c0_i32_24 : BitVec 32 := 0#32
  let v24 : BitVec 1 := Scalar.cmpi .slt v20 c0_i32_24
  let v25 : BitVec 32 := Scalar.extui v24
  let v26 : BitVec 32 := Scalar.subi v23 v25
  let c16_i32 : BitVec 32 := 16#32
  let c0_i32_25 : BitVec 32 := 0#32
  let v27 : BitVec 1 := Scalar.cmpi .sgt c16_i32 c0_i32_25
  let v28 : BitVec 32 := Scalar.extui v27
  let c0_i32_26 : BitVec 32 := 0#32
  let v29 : BitVec 1 := Scalar.cmpi .slt c16_i32 c0_i32_26
  let v30 : BitVec 32 := Scalar.extui v29
  let v31 : BitVec 32 := Scalar.subi v28 v30
  let v32 : BitVec 1 := Scalar.cmpi .ne v26 v31
  let v33 : BitVec 32 := Scalar.remsi v20 c16_i32
  let c0_i32_27 : BitVec 32 := 0#32
  let v34 : BitVec 1 := Scalar.cmpi .ne v33 c0_i32_27
  let v35 : BitVec 1 := Scalar.andi v32 v34
  let v21 : BitVec 32 := Scalar.divsi v20 c16_i32
  let c1_i32_28 : BitVec 32 := 1#32
  let v36 : BitVec 32 := Scalar.subi v21 c1_i32_28
  let v37 : BitVec 32 := Scalar.select v35 v36 v21
  let c16_i32_29 : BitVec 32 := 16#32
  let c0_i32_30 : BitVec 32 := 0#32
  let v38 : BitVec 1 := Scalar.cmpi .eq c16_i32_29 c0_i32_30
  let c1_i32_31 : BitVec 32 := 1#32
  let v39 : BitVec 32 := Scalar.select v38 c1_i32_31 c16_i32_29
  let v40 : BitVec 32 := Scalar.remsi v20 v39
  let c0_i32_33 : BitVec 32 := 0#32
  let v42 : BitVec 1 := Scalar.cmpi .slt v40 c0_i32_33
  let c0_i32_34 : BitVec 32 := 0#32
  let v43 : BitVec 1 := Scalar.cmpi .slt v39 c0_i32_34
  let v44 : BitVec 1 := Scalar.xori v42 v43
  let c0_i32_32 : BitVec 32 := 0#32
  let v41 : BitVec 1 := Scalar.cmpi .ne v40 c0_i32_32
  let v45 : BitVec 1 := Scalar.andi v44 v41
  let v46 : BitVec 32 := Scalar.addi v40 v39
  let v47 : BitVec 32 := Scalar.select v45 v46 v40
  let c8_i32 : BitVec 32 := 8#32
  let v48 : BitVec 32 := Scalar.muli v47 c8_i32
  let c0_i32_47_r0 : BitVec 32 := 0#32
  ![v37.toNat, v48.toNat, 0]
@[reducible] def k0_t2_loop : Scf.Loop 32 :=
  let c0_i32_44 : BitVec 32 := 0#32
  let c5_i32 : BitVec 32 := 5#32
  let v57 : BitVec 32 := Scalar.addi c0_i32_44 c5_i32
  let c1_i32_45 : BitVec 32 := 1#32
  ⟨c0_i32_44, v57, c1_i32_45⟩
def k0_mult2 (k0_t2 : Fin k0_t2_loop.trips) : BitVec 32 :=
  let c0_i32_44 : BitVec 32 := 0#32
  let c1_i32_45 : BitVec 32 := 1#32
  let arg13 : BitVec 32 := Scf.iv c0_i32_44 c1_i32_45 k0_t2
  let c2_i32_47 : BitVec 32 := 2#32
  let v58 : BitVec 32 := Scalar.muli arg13 c2_i32_47
  let c0_i32_48 : BitVec 32 := 0#32
  let v59 : BitVec 32 := Scalar.addi v58 c0_i32_48
  let c512_i32 : BitVec 32 := 512#32
  let v60 : BitVec 32 := Scalar.muli v59 c512_i32
  let c4488_i32_49 : BitVec 32 := 4488#32
  let v61 : BitVec 32 := Scalar.minsi v60 c4488_i32_49
  v61
def k0_cond1 (k0_t2 : Fin k0_t2_loop.trips) : BitVec 1 :=
  let c0_i32_44 : BitVec 32 := 0#32
  let c1_i32_45 : BitVec 32 := 1#32
  let arg13 : BitVec 32 := Scf.iv c0_i32_44 c1_i32_45 k0_t2
  let c2_i32_47 : BitVec 32 := 2#32
  let v58 : BitVec 32 := Scalar.muli arg13 c2_i32_47
  let c0_i32_48 : BitVec 32 := 0#32
  let v59 : BitVec 32 := Scalar.addi v58 c0_i32_48
  let c1_i32_59 : BitVec 32 := 1#32
  let v69 : BitVec 32 := Scalar.addi v59 c1_i32_59
  let c10_i32 : BitVec 32 := 10#32
  let v70 : BitVec 1 := Scalar.cmpi .slt v69 c10_i32
  let v71 : BitVec 32 := Scalar.extui v70
  let c0_i32_60 : BitVec 32 := 0#32
  let v72 : BitVec 1 := Scalar.cmpi .ne v71 c0_i32_60
  v72

def k0_mult3 (k0_t2 : Fin k0_t2_loop.trips) : BitVec 32 :=
  let c0_i32_44 : BitVec 32 := 0#32
  let c1_i32_45 : BitVec 32 := 1#32
  let arg13 : BitVec 32 := Scf.iv c0_i32_44 c1_i32_45 k0_t2
  let c2_i32_47 : BitVec 32 := 2#32
  let v58 : BitVec 32 := Scalar.muli arg13 c2_i32_47
  let c0_i32_48 : BitVec 32 := 0#32
  let v59 : BitVec 32 := Scalar.addi v58 c0_i32_48
  let c1_i32_100 : BitVec 32 := 1#32
  let v116 : BitVec 32 := Scalar.addi v59 c1_i32_100
  let c512_i32_101 : BitVec 32 := 512#32
  let v117 : BitVec 32 := Scalar.muli v116 c512_i32_101
  let c4488_i32_102 : BitVec 32 := 4488#32
  let v118 : BitVec 32 := Scalar.minsi v117 c4488_i32_102
  v118
def k0_off3 (k0_t2 : Fin k0_t2_loop.trips) : Fin 2 → Nat :=
  let c0_i32_106 : BitVec 32 := 0#32
  let c0_i32_44 : BitVec 32 := 0#32
  let c1_i32_45 : BitVec 32 := 1#32
  let arg13 : BitVec 32 := Scf.iv c0_i32_44 c1_i32_45 k0_t2
  let c2_i32_47 : BitVec 32 := 2#32
  let v58 : BitVec 32 := Scalar.muli arg13 c2_i32_47
  let c0_i32_48 : BitVec 32 := 0#32
  let v59 : BitVec 32 := Scalar.addi v58 c0_i32_48
  let c1_i32_100 : BitVec 32 := 1#32
  let v116 : BitVec 32 := Scalar.addi v59 c1_i32_100
  let c512_i32_101 : BitVec 32 := 512#32
  let v117 : BitVec 32 := Scalar.muli v116 c512_i32_101
  let c4488_i32_102 : BitVec 32 := 4488#32
  let v118 : BitVec 32 := Scalar.minsi v117 c4488_i32_102
  let v119 : BitVec 32 := v118
  ![0, v119.toNat]
@[reducible] def k0_t3_loop : Scf.Loop 32 :=
  let c0_i32_64 : BitVec 32 := 0#32
  let c32_i32 : BitVec 32 := 32#32
  let v78 : BitVec 32 := Scalar.addi c0_i32_64 c32_i32
  let c1_i32_65 : BitVec 32 := 1#32
  ⟨c0_i32_64, v78, c1_i32_65⟩
def k0_off4 (k0_t3 : Fin k0_t3_loop.trips) : Fin 3 → Nat :=
  let c0_i32_103 : BitVec 32 := 0#32
  let v119 : Index := Scalar.indexCast c0_i32_103
  let c0_i32_104 : BitVec 32 := 0#32
  let v120 : Index := Scalar.indexCast c0_i32_104
  let c0_i32_101 : BitVec 32 := 0#32
  let c0_i32_64 : BitVec 32 := 0#32
  let c1_i32_65 : BitVec 32 := 1#32
  let arg14 : BitVec 32 := Scf.iv c0_i32_64 c1_i32_65 k0_t3
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v121 : Index := Scalar.indexCast v118
  ![0, 0, v121.toNat]
def k0_off5 (k0_t3 : Fin k0_t3_loop.trips) : Fin 3 → Nat :=
  let c0_i32_105 : BitVec 32 := 0#32
  let v123 : Index := Scalar.indexCast c0_i32_105
  let c1_i32_106 : BitVec 32 := 1#32
  let v124 : Index := Scalar.indexCast c1_i32_106
  let c0_i32_101 : BitVec 32 := 0#32
  let c0_i32_64 : BitVec 32 := 0#32
  let c1_i32_65 : BitVec 32 := 1#32
  let arg14 : BitVec 32 := Scf.iv c0_i32_64 c1_i32_65 k0_t3
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v125 : Index := Scalar.indexCast v118
  ![0, 1, v125.toNat]
def k0_off6 (k0_t3 : Fin k0_t3_loop.trips) : Fin 3 → Nat :=
  let c0_i32_107 : BitVec 32 := 0#32
  let v127 : Index := Scalar.indexCast c0_i32_107
  let c2_i32_108 : BitVec 32 := 2#32
  let v128 : Index := Scalar.indexCast c2_i32_108
  let c0_i32_101 : BitVec 32 := 0#32
  let c0_i32_64 : BitVec 32 := 0#32
  let c1_i32_65 : BitVec 32 := 1#32
  let arg14 : BitVec 32 := Scf.iv c0_i32_64 c1_i32_65 k0_t3
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v129 : Index := Scalar.indexCast v118
  ![0, 2, v129.toNat]
def k0_off7 (k0_t3 : Fin k0_t3_loop.trips) : Fin 3 → Nat :=
  let c0_i32_109 : BitVec 32 := 0#32
  let v131 : Index := Scalar.indexCast c0_i32_109
  let c3_i32 : BitVec 32 := 3#32
  let v132 : Index := Scalar.indexCast c3_i32
  let c0_i32_101 : BitVec 32 := 0#32
  let c0_i32_64 : BitVec 32 := 0#32
  let c1_i32_65 : BitVec 32 := 1#32
  let arg14 : BitVec 32 := Scf.iv c0_i32_64 c1_i32_65 k0_t3
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v133 : Index := Scalar.indexCast v118
  ![0, 3, v133.toNat]
def k0_off8 (k0_t3 : Fin k0_t3_loop.trips) : Fin 3 → Nat :=
  let c0_i32_110 : BitVec 32 := 0#32
  let v135 : Index := Scalar.indexCast c0_i32_110
  let c4_i32_111 : BitVec 32 := 4#32
  let v136 : Index := Scalar.indexCast c4_i32_111
  let c0_i32_101 : BitVec 32 := 0#32
  let c0_i32_64 : BitVec 32 := 0#32
  let c1_i32_65 : BitVec 32 := 1#32
  let arg14 : BitVec 32 := Scf.iv c0_i32_64 c1_i32_65 k0_t3
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v137 : Index := Scalar.indexCast v118
  ![0, 4, v137.toNat]
def k0_off9 (k0_t3 : Fin k0_t3_loop.trips) : Fin 3 → Nat :=
  let c0_i32_112 : BitVec 32 := 0#32
  let v139 : Index := Scalar.indexCast c0_i32_112
  let c5_i32_113 : BitVec 32 := 5#32
  let v140 : Index := Scalar.indexCast c5_i32_113
  let c0_i32_101 : BitVec 32 := 0#32
  let c0_i32_64 : BitVec 32 := 0#32
  let c1_i32_65 : BitVec 32 := 1#32
  let arg14 : BitVec 32 := Scf.iv c0_i32_64 c1_i32_65 k0_t3
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v141 : Index := Scalar.indexCast v118
  ![0, 5, v141.toNat]
def k0_off10 (k0_t3 : Fin k0_t3_loop.trips) : Fin 3 → Nat :=
  let c0_i32_114 : BitVec 32 := 0#32
  let v143 : Index := Scalar.indexCast c0_i32_114
  let c6_i32 : BitVec 32 := 6#32
  let v144 : Index := Scalar.indexCast c6_i32
  let c0_i32_101 : BitVec 32 := 0#32
  let c0_i32_64 : BitVec 32 := 0#32
  let c1_i32_65 : BitVec 32 := 1#32
  let arg14 : BitVec 32 := Scf.iv c0_i32_64 c1_i32_65 k0_t3
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v145 : Index := Scalar.indexCast v118
  ![0, 6, v145.toNat]
def k0_off11 (k0_t3 : Fin k0_t3_loop.trips) : Fin 3 → Nat :=
  let c0_i32_115 : BitVec 32 := 0#32
  let v147 : Index := Scalar.indexCast c0_i32_115
  let c7_i32 : BitVec 32 := 7#32
  let v148 : Index := Scalar.indexCast c7_i32
  let c0_i32_101 : BitVec 32 := 0#32
  let c0_i32_64 : BitVec 32 := 0#32
  let c1_i32_65 : BitVec 32 := 1#32
  let arg14 : BitVec 32 := Scf.iv c0_i32_64 c1_i32_65 k0_t3
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v149 : Index := Scalar.indexCast v118
  ![0, 7, v149.toNat]
def k0_off12 (k0_t3 : Fin k0_t3_loop.trips) : Fin 3 → Nat :=
  let c0_i32_116 : BitVec 32 := 0#32
  let v151 : Index := Scalar.indexCast c0_i32_116
  let c8_i32_117 : BitVec 32 := 8#32
  let v152 : Index := Scalar.indexCast c8_i32_117
  let c0_i32_101 : BitVec 32 := 0#32
  let c0_i32_64 : BitVec 32 := 0#32
  let c1_i32_65 : BitVec 32 := 1#32
  let arg14 : BitVec 32 := Scf.iv c0_i32_64 c1_i32_65 k0_t3
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v153 : Index := Scalar.indexCast v118
  ![0, 8, v153.toNat]
def k0_off13 (k0_t3 : Fin k0_t3_loop.trips) : Fin 3 → Nat :=
  let c0_i32_118 : BitVec 32 := 0#32
  let v155 : Index := Scalar.indexCast c0_i32_118
  let c9_i32 : BitVec 32 := 9#32
  let v156 : Index := Scalar.indexCast c9_i32
  let c0_i32_101 : BitVec 32 := 0#32
  let c0_i32_64 : BitVec 32 := 0#32
  let c1_i32_65 : BitVec 32 := 1#32
  let arg14 : BitVec 32 := Scf.iv c0_i32_64 c1_i32_65 k0_t3
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v157 : Index := Scalar.indexCast v118
  ![0, 9, v157.toNat]
def k0_off14 (k0_t3 : Fin k0_t3_loop.trips) : Fin 3 → Nat :=
  let c0_i32_119 : BitVec 32 := 0#32
  let v159 : Index := Scalar.indexCast c0_i32_119
  let c10_i32_120 : BitVec 32 := 10#32
  let v160 : Index := Scalar.indexCast c10_i32_120
  let c0_i32_101 : BitVec 32 := 0#32
  let c0_i32_64 : BitVec 32 := 0#32
  let c1_i32_65 : BitVec 32 := 1#32
  let arg14 : BitVec 32 := Scf.iv c0_i32_64 c1_i32_65 k0_t3
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v161 : Index := Scalar.indexCast v118
  ![0, 10, v161.toNat]
def k0_off15 (k0_t3 : Fin k0_t3_loop.trips) : Fin 3 → Nat :=
  let c0_i32_121 : BitVec 32 := 0#32
  let v163 : Index := Scalar.indexCast c0_i32_121
  let c11_i32 : BitVec 32 := 11#32
  let v164 : Index := Scalar.indexCast c11_i32
  let c0_i32_101 : BitVec 32 := 0#32
  let c0_i32_64 : BitVec 32 := 0#32
  let c1_i32_65 : BitVec 32 := 1#32
  let arg14 : BitVec 32 := Scf.iv c0_i32_64 c1_i32_65 k0_t3
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v165 : Index := Scalar.indexCast v118
  ![0, 11, v165.toNat]
def k0_off16 (k0_t3 : Fin k0_t3_loop.trips) : Fin 3 → Nat :=
  let c0_i32_122 : BitVec 32 := 0#32
  let v167 : Index := Scalar.indexCast c0_i32_122
  let c12_i32 : BitVec 32 := 12#32
  let v168 : Index := Scalar.indexCast c12_i32
  let c0_i32_101 : BitVec 32 := 0#32
  let c0_i32_64 : BitVec 32 := 0#32
  let c1_i32_65 : BitVec 32 := 1#32
  let arg14 : BitVec 32 := Scf.iv c0_i32_64 c1_i32_65 k0_t3
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v169 : Index := Scalar.indexCast v118
  ![0, 12, v169.toNat]
def k0_off17 (k0_t3 : Fin k0_t3_loop.trips) : Fin 3 → Nat :=
  let c0_i32_123 : BitVec 32 := 0#32
  let v171 : Index := Scalar.indexCast c0_i32_123
  let c13_i32 : BitVec 32 := 13#32
  let v172 : Index := Scalar.indexCast c13_i32
  let c0_i32_101 : BitVec 32 := 0#32
  let c0_i32_64 : BitVec 32 := 0#32
  let c1_i32_65 : BitVec 32 := 1#32
  let arg14 : BitVec 32 := Scf.iv c0_i32_64 c1_i32_65 k0_t3
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v173 : Index := Scalar.indexCast v118
  ![0, 13, v173.toNat]
def k0_off18 (k0_t3 : Fin k0_t3_loop.trips) : Fin 3 → Nat :=
  let c0_i32_124 : BitVec 32 := 0#32
  let v175 : Index := Scalar.indexCast c0_i32_124
  let c14_i32 : BitVec 32 := 14#32
  let v176 : Index := Scalar.indexCast c14_i32
  let c0_i32_101 : BitVec 32 := 0#32
  let c0_i32_64 : BitVec 32 := 0#32
  let c1_i32_65 : BitVec 32 := 1#32
  let arg14 : BitVec 32 := Scf.iv c0_i32_64 c1_i32_65 k0_t3
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v177 : Index := Scalar.indexCast v118
  ![0, 14, v177.toNat]
def k0_off19 (k0_t3 : Fin k0_t3_loop.trips) : Fin 3 → Nat :=
  let c0_i32_125 : BitVec 32 := 0#32
  let v179 : Index := Scalar.indexCast c0_i32_125
  let c15_i32 : BitVec 32 := 15#32
  let v180 : Index := Scalar.indexCast c15_i32
  let c0_i32_101 : BitVec 32 := 0#32
  let c0_i32_64 : BitVec 32 := 0#32
  let c1_i32_65 : BitVec 32 := 1#32
  let arg14 : BitVec 32 := Scf.iv c0_i32_64 c1_i32_65 k0_t3
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v181 : Index := Scalar.indexCast v118
  ![0, 15, v181.toNat]

def k0_chk1 (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v183 : IVec S16 32) : Prop :=
  (∀ a x, ((![v183, v122] : Fin 2 → IVec S16 32) a x).toNat < S8x10000.size a) ∧
  (∀ a x, ((![v183, v126] : Fin 2 → IVec S16 32) a x).toNat < S8x10000.size a) ∧
  (∀ a x, ((![v183, v130] : Fin 2 → IVec S16 32) a x).toNat < S8x10000.size a) ∧
  (∀ a x, ((![v183, v134] : Fin 2 → IVec S16 32) a x).toNat < S8x10000.size a) ∧
  (∀ a x, ((![v183, v138] : Fin 2 → IVec S16 32) a x).toNat < S8x10000.size a) ∧
  (∀ a x, ((![v183, v142] : Fin 2 → IVec S16 32) a x).toNat < S8x10000.size a) ∧
  (∀ a x, ((![v183, v146] : Fin 2 → IVec S16 32) a x).toNat < S8x10000.size a) ∧
  (∀ a x, ((![v183, v150] : Fin 2 → IVec S16 32) a x).toNat < S8x10000.size a) ∧
  (∀ a x, ((![v183, v154] : Fin 2 → IVec S16 32) a x).toNat < S8x10000.size a) ∧
  (∀ a x, ((![v183, v158] : Fin 2 → IVec S16 32) a x).toNat < S8x10000.size a) ∧
  (∀ a x, ((![v183, v162] : Fin 2 → IVec S16 32) a x).toNat < S8x10000.size a) ∧
  (∀ a x, ((![v183, v166] : Fin 2 → IVec S16 32) a x).toNat < S8x10000.size a) ∧
  (∀ a x, ((![v183, v170] : Fin 2 → IVec S16 32) a x).toNat < S8x10000.size a) ∧
  (∀ a x, ((![v183, v174] : Fin 2 → IVec S16 32) a x).toNat < S8x10000.size a) ∧
  (∀ a x, ((![v183, v178] : Fin 2 → IVec S16 32) a x).toNat < S8x10000.size a) ∧
  (∀ a x, ((![v183, v182] : Fin 2 → IVec S16 32) a x).toNat < S8x10000.size a)
theorem k0_idx1_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v183 : IVec S16 32) (k0_hw1 : k0_chk1 v122 v126 v130 v134 v138 v142 v146 v150 v154 v158 v162 v166 v170 v174 v178 v182 v183), ∀ a x, ((![v183, v122] : Fin 2 → IVec S16 32) a x).toNat < S8x10000.size a := fun v122 v126 v130 v134 v138 v142 v146 v150 v154 v158 v162 v166 v170 v174 v178 v182 v183 k0_hw1 => k0_hw1.1
theorem k0_idx2_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v183 : IVec S16 32) (k0_hw1 : k0_chk1 v122 v126 v130 v134 v138 v142 v146 v150 v154 v158 v162 v166 v170 v174 v178 v182 v183), ∀ a x, ((![v183, v126] : Fin 2 → IVec S16 32) a x).toNat < S8x10000.size a := fun v122 v126 v130 v134 v138 v142 v146 v150 v154 v158 v162 v166 v170 v174 v178 v182 v183 k0_hw1 => k0_hw1.2.1
theorem k0_idx3_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v183 : IVec S16 32) (k0_hw1 : k0_chk1 v122 v126 v130 v134 v138 v142 v146 v150 v154 v158 v162 v166 v170 v174 v178 v182 v183), ∀ a x, ((![v183, v130] : Fin 2 → IVec S16 32) a x).toNat < S8x10000.size a := fun v122 v126 v130 v134 v138 v142 v146 v150 v154 v158 v162 v166 v170 v174 v178 v182 v183 k0_hw1 => k0_hw1.2.2.1
theorem k0_idx4_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v183 : IVec S16 32) (k0_hw1 : k0_chk1 v122 v126 v130 v134 v138 v142 v146 v150 v154 v158 v162 v166 v170 v174 v178 v182 v183), ∀ a x, ((![v183, v134] : Fin 2 → IVec S16 32) a x).toNat < S8x10000.size a := fun v122 v126 v130 v134 v138 v142 v146 v150 v154 v158 v162 v166 v170 v174 v178 v182 v183 k0_hw1 => k0_hw1.2.2.2.1
theorem k0_idx5_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v183 : IVec S16 32) (k0_hw1 : k0_chk1 v122 v126 v130 v134 v138 v142 v146 v150 v154 v158 v162 v166 v170 v174 v178 v182 v183), ∀ a x, ((![v183, v138] : Fin 2 → IVec S16 32) a x).toNat < S8x10000.size a := fun v122 v126 v130 v134 v138 v142 v146 v150 v154 v158 v162 v166 v170 v174 v178 v182 v183 k0_hw1 => k0_hw1.2.2.2.2.1
theorem k0_idx6_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v183 : IVec S16 32) (k0_hw1 : k0_chk1 v122 v126 v130 v134 v138 v142 v146 v150 v154 v158 v162 v166 v170 v174 v178 v182 v183), ∀ a x, ((![v183, v142] : Fin 2 → IVec S16 32) a x).toNat < S8x10000.size a := fun v122 v126 v130 v134 v138 v142 v146 v150 v154 v158 v162 v166 v170 v174 v178 v182 v183 k0_hw1 => k0_hw1.2.2.2.2.2.1
theorem k0_idx7_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v183 : IVec S16 32) (k0_hw1 : k0_chk1 v122 v126 v130 v134 v138 v142 v146 v150 v154 v158 v162 v166 v170 v174 v178 v182 v183), ∀ a x, ((![v183, v146] : Fin 2 → IVec S16 32) a x).toNat < S8x10000.size a := fun v122 v126 v130 v134 v138 v142 v146 v150 v154 v158 v162 v166 v170 v174 v178 v182 v183 k0_hw1 => k0_hw1.2.2.2.2.2.2.1
theorem k0_idx8_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v183 : IVec S16 32) (k0_hw1 : k0_chk1 v122 v126 v130 v134 v138 v142 v146 v150 v154 v158 v162 v166 v170 v174 v178 v182 v183), ∀ a x, ((![v183, v150] : Fin 2 → IVec S16 32) a x).toNat < S8x10000.size a := fun v122 v126 v130 v134 v138 v142 v146 v150 v154 v158 v162 v166 v170 v174 v178 v182 v183 k0_hw1 => k0_hw1.2.2.2.2.2.2.2.1
theorem k0_idx9_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v183 : IVec S16 32) (k0_hw1 : k0_chk1 v122 v126 v130 v134 v138 v142 v146 v150 v154 v158 v162 v166 v170 v174 v178 v182 v183), ∀ a x, ((![v183, v154] : Fin 2 → IVec S16 32) a x).toNat < S8x10000.size a := fun v122 v126 v130 v134 v138 v142 v146 v150 v154 v158 v162 v166 v170 v174 v178 v182 v183 k0_hw1 => k0_hw1.2.2.2.2.2.2.2.2.1
theorem k0_idx10_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v183 : IVec S16 32) (k0_hw1 : k0_chk1 v122 v126 v130 v134 v138 v142 v146 v150 v154 v158 v162 v166 v170 v174 v178 v182 v183), ∀ a x, ((![v183, v158] : Fin 2 → IVec S16 32) a x).toNat < S8x10000.size a := fun v122 v126 v130 v134 v138 v142 v146 v150 v154 v158 v162 v166 v170 v174 v178 v182 v183 k0_hw1 => k0_hw1.2.2.2.2.2.2.2.2.2.1
theorem k0_idx11_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v183 : IVec S16 32) (k0_hw1 : k0_chk1 v122 v126 v130 v134 v138 v142 v146 v150 v154 v158 v162 v166 v170 v174 v178 v182 v183), ∀ a x, ((![v183, v162] : Fin 2 → IVec S16 32) a x).toNat < S8x10000.size a := fun v122 v126 v130 v134 v138 v142 v146 v150 v154 v158 v162 v166 v170 v174 v178 v182 v183 k0_hw1 => k0_hw1.2.2.2.2.2.2.2.2.2.2.1
theorem k0_idx12_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v183 : IVec S16 32) (k0_hw1 : k0_chk1 v122 v126 v130 v134 v138 v142 v146 v150 v154 v158 v162 v166 v170 v174 v178 v182 v183), ∀ a x, ((![v183, v166] : Fin 2 → IVec S16 32) a x).toNat < S8x10000.size a := fun v122 v126 v130 v134 v138 v142 v146 v150 v154 v158 v162 v166 v170 v174 v178 v182 v183 k0_hw1 => k0_hw1.2.2.2.2.2.2.2.2.2.2.2.1
theorem k0_idx13_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v183 : IVec S16 32) (k0_hw1 : k0_chk1 v122 v126 v130 v134 v138 v142 v146 v150 v154 v158 v162 v166 v170 v174 v178 v182 v183), ∀ a x, ((![v183, v170] : Fin 2 → IVec S16 32) a x).toNat < S8x10000.size a := fun v122 v126 v130 v134 v138 v142 v146 v150 v154 v158 v162 v166 v170 v174 v178 v182 v183 k0_hw1 => k0_hw1.2.2.2.2.2.2.2.2.2.2.2.2.1
theorem k0_idx14_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v183 : IVec S16 32) (k0_hw1 : k0_chk1 v122 v126 v130 v134 v138 v142 v146 v150 v154 v158 v162 v166 v170 v174 v178 v182 v183), ∀ a x, ((![v183, v174] : Fin 2 → IVec S16 32) a x).toNat < S8x10000.size a := fun v122 v126 v130 v134 v138 v142 v146 v150 v154 v158 v162 v166 v170 v174 v178 v182 v183 k0_hw1 => k0_hw1.2.2.2.2.2.2.2.2.2.2.2.2.2.1
theorem k0_idx15_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v183 : IVec S16 32) (k0_hw1 : k0_chk1 v122 v126 v130 v134 v138 v142 v146 v150 v154 v158 v162 v166 v170 v174 v178 v182 v183), ∀ a x, ((![v183, v178] : Fin 2 → IVec S16 32) a x).toNat < S8x10000.size a := fun v122 v126 v130 v134 v138 v142 v146 v150 v154 v158 v162 v166 v170 v174 v178 v182 v183 k0_hw1 => k0_hw1.2.2.2.2.2.2.2.2.2.2.2.2.2.2.1
theorem k0_idx16_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v183 : IVec S16 32) (k0_hw1 : k0_chk1 v122 v126 v130 v134 v138 v142 v146 v150 v154 v158 v162 v166 v170 v174 v178 v182 v183), ∀ a x, ((![v183, v182] : Fin 2 → IVec S16 32) a x).toNat < S8x10000.size a := fun v122 v126 v130 v134 v138 v142 v146 v150 v154 v158 v162 v166 v170 v174 v178 v182 v183 k0_hw1 => k0_hw1.2.2.2.2.2.2.2.2.2.2.2.2.2.2.2
def k0_off20 (k0_t3 : Fin k0_t3_loop.trips) : Fin 3 → Nat :=
  let c0_i32_127 : BitVec 32 := 0#32
  let v215 : Index := Scalar.indexCast c0_i32_127
  let c0_i32_128 : BitVec 32 := 0#32
  let v216 : Index := Scalar.indexCast c0_i32_128
  let c0_i32_101 : BitVec 32 := 0#32
  let c0_i32_64 : BitVec 32 := 0#32
  let c1_i32_65 : BitVec 32 := 1#32
  let arg14 : BitVec 32 := Scf.iv c0_i32_64 c1_i32_65 k0_t3
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v217 : Index := Scalar.indexCast v118
  ![0, 0, v217.toNat]

def k0_chk2 (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v219 : IVec S16 32) : Prop :=
  (∀ a x, ((![v219, v122] : Fin 2 → IVec S16 32) a x).toNat < S8x10000.size a) ∧
  (∀ a x, ((![v219, v126] : Fin 2 → IVec S16 32) a x).toNat < S8x10000.size a) ∧
  (∀ a x, ((![v219, v130] : Fin 2 → IVec S16 32) a x).toNat < S8x10000.size a) ∧
  (∀ a x, ((![v219, v134] : Fin 2 → IVec S16 32) a x).toNat < S8x10000.size a) ∧
  (∀ a x, ((![v219, v138] : Fin 2 → IVec S16 32) a x).toNat < S8x10000.size a) ∧
  (∀ a x, ((![v219, v142] : Fin 2 → IVec S16 32) a x).toNat < S8x10000.size a) ∧
  (∀ a x, ((![v219, v146] : Fin 2 → IVec S16 32) a x).toNat < S8x10000.size a) ∧
  (∀ a x, ((![v219, v150] : Fin 2 → IVec S16 32) a x).toNat < S8x10000.size a) ∧
  (∀ a x, ((![v219, v154] : Fin 2 → IVec S16 32) a x).toNat < S8x10000.size a) ∧
  (∀ a x, ((![v219, v158] : Fin 2 → IVec S16 32) a x).toNat < S8x10000.size a) ∧
  (∀ a x, ((![v219, v162] : Fin 2 → IVec S16 32) a x).toNat < S8x10000.size a) ∧
  (∀ a x, ((![v219, v166] : Fin 2 → IVec S16 32) a x).toNat < S8x10000.size a) ∧
  (∀ a x, ((![v219, v170] : Fin 2 → IVec S16 32) a x).toNat < S8x10000.size a) ∧
  (∀ a x, ((![v219, v174] : Fin 2 → IVec S16 32) a x).toNat < S8x10000.size a) ∧
  (∀ a x, ((![v219, v178] : Fin 2 → IVec S16 32) a x).toNat < S8x10000.size a) ∧
  (∀ a x, ((![v219, v182] : Fin 2 → IVec S16 32) a x).toNat < S8x10000.size a)
theorem k0_idx17_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v219 : IVec S16 32) (k0_hw2 : k0_chk2 v122 v126 v130 v134 v138 v142 v146 v150 v154 v158 v162 v166 v170 v174 v178 v182 v219), ∀ a x, ((![v219, v122] : Fin 2 → IVec S16 32) a x).toNat < S8x10000.size a := fun v122 v126 v130 v134 v138 v142 v146 v150 v154 v158 v162 v166 v170 v174 v178 v182 v219 k0_hw2 => k0_hw2.1
theorem k0_idx18_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v219 : IVec S16 32) (k0_hw2 : k0_chk2 v122 v126 v130 v134 v138 v142 v146 v150 v154 v158 v162 v166 v170 v174 v178 v182 v219), ∀ a x, ((![v219, v126] : Fin 2 → IVec S16 32) a x).toNat < S8x10000.size a := fun v122 v126 v130 v134 v138 v142 v146 v150 v154 v158 v162 v166 v170 v174 v178 v182 v219 k0_hw2 => k0_hw2.2.1
theorem k0_idx19_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v219 : IVec S16 32) (k0_hw2 : k0_chk2 v122 v126 v130 v134 v138 v142 v146 v150 v154 v158 v162 v166 v170 v174 v178 v182 v219), ∀ a x, ((![v219, v130] : Fin 2 → IVec S16 32) a x).toNat < S8x10000.size a := fun v122 v126 v130 v134 v138 v142 v146 v150 v154 v158 v162 v166 v170 v174 v178 v182 v219 k0_hw2 => k0_hw2.2.2.1
theorem k0_idx20_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v219 : IVec S16 32) (k0_hw2 : k0_chk2 v122 v126 v130 v134 v138 v142 v146 v150 v154 v158 v162 v166 v170 v174 v178 v182 v219), ∀ a x, ((![v219, v134] : Fin 2 → IVec S16 32) a x).toNat < S8x10000.size a := fun v122 v126 v130 v134 v138 v142 v146 v150 v154 v158 v162 v166 v170 v174 v178 v182 v219 k0_hw2 => k0_hw2.2.2.2.1
theorem k0_idx21_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v219 : IVec S16 32) (k0_hw2 : k0_chk2 v122 v126 v130 v134 v138 v142 v146 v150 v154 v158 v162 v166 v170 v174 v178 v182 v219), ∀ a x, ((![v219, v138] : Fin 2 → IVec S16 32) a x).toNat < S8x10000.size a := fun v122 v126 v130 v134 v138 v142 v146 v150 v154 v158 v162 v166 v170 v174 v178 v182 v219 k0_hw2 => k0_hw2.2.2.2.2.1
theorem k0_idx22_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v219 : IVec S16 32) (k0_hw2 : k0_chk2 v122 v126 v130 v134 v138 v142 v146 v150 v154 v158 v162 v166 v170 v174 v178 v182 v219), ∀ a x, ((![v219, v142] : Fin 2 → IVec S16 32) a x).toNat < S8x10000.size a := fun v122 v126 v130 v134 v138 v142 v146 v150 v154 v158 v162 v166 v170 v174 v178 v182 v219 k0_hw2 => k0_hw2.2.2.2.2.2.1
theorem k0_idx23_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v219 : IVec S16 32) (k0_hw2 : k0_chk2 v122 v126 v130 v134 v138 v142 v146 v150 v154 v158 v162 v166 v170 v174 v178 v182 v219), ∀ a x, ((![v219, v146] : Fin 2 → IVec S16 32) a x).toNat < S8x10000.size a := fun v122 v126 v130 v134 v138 v142 v146 v150 v154 v158 v162 v166 v170 v174 v178 v182 v219 k0_hw2 => k0_hw2.2.2.2.2.2.2.1
theorem k0_idx24_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v219 : IVec S16 32) (k0_hw2 : k0_chk2 v122 v126 v130 v134 v138 v142 v146 v150 v154 v158 v162 v166 v170 v174 v178 v182 v219), ∀ a x, ((![v219, v150] : Fin 2 → IVec S16 32) a x).toNat < S8x10000.size a := fun v122 v126 v130 v134 v138 v142 v146 v150 v154 v158 v162 v166 v170 v174 v178 v182 v219 k0_hw2 => k0_hw2.2.2.2.2.2.2.2.1
theorem k0_idx25_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v219 : IVec S16 32) (k0_hw2 : k0_chk2 v122 v126 v130 v134 v138 v142 v146 v150 v154 v158 v162 v166 v170 v174 v178 v182 v219), ∀ a x, ((![v219, v154] : Fin 2 → IVec S16 32) a x).toNat < S8x10000.size a := fun v122 v126 v130 v134 v138 v142 v146 v150 v154 v158 v162 v166 v170 v174 v178 v182 v219 k0_hw2 => k0_hw2.2.2.2.2.2.2.2.2.1
theorem k0_idx26_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v219 : IVec S16 32) (k0_hw2 : k0_chk2 v122 v126 v130 v134 v138 v142 v146 v150 v154 v158 v162 v166 v170 v174 v178 v182 v219), ∀ a x, ((![v219, v158] : Fin 2 → IVec S16 32) a x).toNat < S8x10000.size a := fun v122 v126 v130 v134 v138 v142 v146 v150 v154 v158 v162 v166 v170 v174 v178 v182 v219 k0_hw2 => k0_hw2.2.2.2.2.2.2.2.2.2.1
theorem k0_idx27_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v219 : IVec S16 32) (k0_hw2 : k0_chk2 v122 v126 v130 v134 v138 v142 v146 v150 v154 v158 v162 v166 v170 v174 v178 v182 v219), ∀ a x, ((![v219, v162] : Fin 2 → IVec S16 32) a x).toNat < S8x10000.size a := fun v122 v126 v130 v134 v138 v142 v146 v150 v154 v158 v162 v166 v170 v174 v178 v182 v219 k0_hw2 => k0_hw2.2.2.2.2.2.2.2.2.2.2.1
theorem k0_idx28_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v219 : IVec S16 32) (k0_hw2 : k0_chk2 v122 v126 v130 v134 v138 v142 v146 v150 v154 v158 v162 v166 v170 v174 v178 v182 v219), ∀ a x, ((![v219, v166] : Fin 2 → IVec S16 32) a x).toNat < S8x10000.size a := fun v122 v126 v130 v134 v138 v142 v146 v150 v154 v158 v162 v166 v170 v174 v178 v182 v219 k0_hw2 => k0_hw2.2.2.2.2.2.2.2.2.2.2.2.1
theorem k0_idx29_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v219 : IVec S16 32) (k0_hw2 : k0_chk2 v122 v126 v130 v134 v138 v142 v146 v150 v154 v158 v162 v166 v170 v174 v178 v182 v219), ∀ a x, ((![v219, v170] : Fin 2 → IVec S16 32) a x).toNat < S8x10000.size a := fun v122 v126 v130 v134 v138 v142 v146 v150 v154 v158 v162 v166 v170 v174 v178 v182 v219 k0_hw2 => k0_hw2.2.2.2.2.2.2.2.2.2.2.2.2.1
theorem k0_idx30_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v219 : IVec S16 32) (k0_hw2 : k0_chk2 v122 v126 v130 v134 v138 v142 v146 v150 v154 v158 v162 v166 v170 v174 v178 v182 v219), ∀ a x, ((![v219, v174] : Fin 2 → IVec S16 32) a x).toNat < S8x10000.size a := fun v122 v126 v130 v134 v138 v142 v146 v150 v154 v158 v162 v166 v170 v174 v178 v182 v219 k0_hw2 => k0_hw2.2.2.2.2.2.2.2.2.2.2.2.2.2.1
theorem k0_idx31_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v219 : IVec S16 32) (k0_hw2 : k0_chk2 v122 v126 v130 v134 v138 v142 v146 v150 v154 v158 v162 v166 v170 v174 v178 v182 v219), ∀ a x, ((![v219, v178] : Fin 2 → IVec S16 32) a x).toNat < S8x10000.size a := fun v122 v126 v130 v134 v138 v142 v146 v150 v154 v158 v162 v166 v170 v174 v178 v182 v219 k0_hw2 => k0_hw2.2.2.2.2.2.2.2.2.2.2.2.2.2.2.1
theorem k0_idx32_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v219 : IVec S16 32) (k0_hw2 : k0_chk2 v122 v126 v130 v134 v138 v142 v146 v150 v154 v158 v162 v166 v170 v174 v178 v182 v219), ∀ a x, ((![v219, v182] : Fin 2 → IVec S16 32) a x).toNat < S8x10000.size a := fun v122 v126 v130 v134 v138 v142 v146 v150 v154 v158 v162 v166 v170 v174 v178 v182 v219 k0_hw2 => k0_hw2.2.2.2.2.2.2.2.2.2.2.2.2.2.2.2
def k0_off21 (k0_t3 : Fin k0_t3_loop.trips) : Fin 3 → Nat :=
  let c0_i32_130 : BitVec 32 := 0#32
  let v251 : Index := Scalar.indexCast c0_i32_130
  let c1_i32_131 : BitVec 32 := 1#32
  let v252 : Index := Scalar.indexCast c1_i32_131
  let c0_i32_101 : BitVec 32 := 0#32
  let c0_i32_64 : BitVec 32 := 0#32
  let c1_i32_65 : BitVec 32 := 1#32
  let arg14 : BitVec 32 := Scf.iv c0_i32_64 c1_i32_65 k0_t3
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v253 : Index := Scalar.indexCast v118
  ![0, 1, v253.toNat]

def k0_chk3 (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v255 : IVec S16 32) : Prop :=
  (∀ a x, ((![v255, v122] : Fin 2 → IVec S16 32) a x).toNat < S8x10000.size a) ∧
  (∀ a x, ((![v255, v126] : Fin 2 → IVec S16 32) a x).toNat < S8x10000.size a) ∧
  (∀ a x, ((![v255, v130] : Fin 2 → IVec S16 32) a x).toNat < S8x10000.size a) ∧
  (∀ a x, ((![v255, v134] : Fin 2 → IVec S16 32) a x).toNat < S8x10000.size a) ∧
  (∀ a x, ((![v255, v138] : Fin 2 → IVec S16 32) a x).toNat < S8x10000.size a) ∧
  (∀ a x, ((![v255, v142] : Fin 2 → IVec S16 32) a x).toNat < S8x10000.size a) ∧
  (∀ a x, ((![v255, v146] : Fin 2 → IVec S16 32) a x).toNat < S8x10000.size a) ∧
  (∀ a x, ((![v255, v150] : Fin 2 → IVec S16 32) a x).toNat < S8x10000.size a) ∧
  (∀ a x, ((![v255, v154] : Fin 2 → IVec S16 32) a x).toNat < S8x10000.size a) ∧
  (∀ a x, ((![v255, v158] : Fin 2 → IVec S16 32) a x).toNat < S8x10000.size a) ∧
  (∀ a x, ((![v255, v162] : Fin 2 → IVec S16 32) a x).toNat < S8x10000.size a) ∧
  (∀ a x, ((![v255, v166] : Fin 2 → IVec S16 32) a x).toNat < S8x10000.size a) ∧
  (∀ a x, ((![v255, v170] : Fin 2 → IVec S16 32) a x).toNat < S8x10000.size a) ∧
  (∀ a x, ((![v255, v174] : Fin 2 → IVec S16 32) a x).toNat < S8x10000.size a) ∧
  (∀ a x, ((![v255, v178] : Fin 2 → IVec S16 32) a x).toNat < S8x10000.size a) ∧
  (∀ a x, ((![v255, v182] : Fin 2 → IVec S16 32) a x).toNat < S8x10000.size a)
theorem k0_idx33_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v255 : IVec S16 32) (k0_hw3 : k0_chk3 v122 v126 v130 v134 v138 v142 v146 v150 v154 v158 v162 v166 v170 v174 v178 v182 v255), ∀ a x, ((![v255, v122] : Fin 2 → IVec S16 32) a x).toNat < S8x10000.size a := fun v122 v126 v130 v134 v138 v142 v146 v150 v154 v158 v162 v166 v170 v174 v178 v182 v255 k0_hw3 => k0_hw3.1
theorem k0_idx34_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v255 : IVec S16 32) (k0_hw3 : k0_chk3 v122 v126 v130 v134 v138 v142 v146 v150 v154 v158 v162 v166 v170 v174 v178 v182 v255), ∀ a x, ((![v255, v126] : Fin 2 → IVec S16 32) a x).toNat < S8x10000.size a := fun v122 v126 v130 v134 v138 v142 v146 v150 v154 v158 v162 v166 v170 v174 v178 v182 v255 k0_hw3 => k0_hw3.2.1
theorem k0_idx35_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v255 : IVec S16 32) (k0_hw3 : k0_chk3 v122 v126 v130 v134 v138 v142 v146 v150 v154 v158 v162 v166 v170 v174 v178 v182 v255), ∀ a x, ((![v255, v130] : Fin 2 → IVec S16 32) a x).toNat < S8x10000.size a := fun v122 v126 v130 v134 v138 v142 v146 v150 v154 v158 v162 v166 v170 v174 v178 v182 v255 k0_hw3 => k0_hw3.2.2.1
theorem k0_idx36_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v255 : IVec S16 32) (k0_hw3 : k0_chk3 v122 v126 v130 v134 v138 v142 v146 v150 v154 v158 v162 v166 v170 v174 v178 v182 v255), ∀ a x, ((![v255, v134] : Fin 2 → IVec S16 32) a x).toNat < S8x10000.size a := fun v122 v126 v130 v134 v138 v142 v146 v150 v154 v158 v162 v166 v170 v174 v178 v182 v255 k0_hw3 => k0_hw3.2.2.2.1
theorem k0_idx37_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v255 : IVec S16 32) (k0_hw3 : k0_chk3 v122 v126 v130 v134 v138 v142 v146 v150 v154 v158 v162 v166 v170 v174 v178 v182 v255), ∀ a x, ((![v255, v138] : Fin 2 → IVec S16 32) a x).toNat < S8x10000.size a := fun v122 v126 v130 v134 v138 v142 v146 v150 v154 v158 v162 v166 v170 v174 v178 v182 v255 k0_hw3 => k0_hw3.2.2.2.2.1
theorem k0_idx38_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v255 : IVec S16 32) (k0_hw3 : k0_chk3 v122 v126 v130 v134 v138 v142 v146 v150 v154 v158 v162 v166 v170 v174 v178 v182 v255), ∀ a x, ((![v255, v142] : Fin 2 → IVec S16 32) a x).toNat < S8x10000.size a := fun v122 v126 v130 v134 v138 v142 v146 v150 v154 v158 v162 v166 v170 v174 v178 v182 v255 k0_hw3 => k0_hw3.2.2.2.2.2.1
theorem k0_idx39_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v255 : IVec S16 32) (k0_hw3 : k0_chk3 v122 v126 v130 v134 v138 v142 v146 v150 v154 v158 v162 v166 v170 v174 v178 v182 v255), ∀ a x, ((![v255, v146] : Fin 2 → IVec S16 32) a x).toNat < S8x10000.size a := fun v122 v126 v130 v134 v138 v142 v146 v150 v154 v158 v162 v166 v170 v174 v178 v182 v255 k0_hw3 => k0_hw3.2.2.2.2.2.2.1
theorem k0_idx40_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v255 : IVec S16 32) (k0_hw3 : k0_chk3 v122 v126 v130 v134 v138 v142 v146 v150 v154 v158 v162 v166 v170 v174 v178 v182 v255), ∀ a x, ((![v255, v150] : Fin 2 → IVec S16 32) a x).toNat < S8x10000.size a := fun v122 v126 v130 v134 v138 v142 v146 v150 v154 v158 v162 v166 v170 v174 v178 v182 v255 k0_hw3 => k0_hw3.2.2.2.2.2.2.2.1
theorem k0_idx41_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v255 : IVec S16 32) (k0_hw3 : k0_chk3 v122 v126 v130 v134 v138 v142 v146 v150 v154 v158 v162 v166 v170 v174 v178 v182 v255), ∀ a x, ((![v255, v154] : Fin 2 → IVec S16 32) a x).toNat < S8x10000.size a := fun v122 v126 v130 v134 v138 v142 v146 v150 v154 v158 v162 v166 v170 v174 v178 v182 v255 k0_hw3 => k0_hw3.2.2.2.2.2.2.2.2.1
theorem k0_idx42_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v255 : IVec S16 32) (k0_hw3 : k0_chk3 v122 v126 v130 v134 v138 v142 v146 v150 v154 v158 v162 v166 v170 v174 v178 v182 v255), ∀ a x, ((![v255, v158] : Fin 2 → IVec S16 32) a x).toNat < S8x10000.size a := fun v122 v126 v130 v134 v138 v142 v146 v150 v154 v158 v162 v166 v170 v174 v178 v182 v255 k0_hw3 => k0_hw3.2.2.2.2.2.2.2.2.2.1
theorem k0_idx43_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v255 : IVec S16 32) (k0_hw3 : k0_chk3 v122 v126 v130 v134 v138 v142 v146 v150 v154 v158 v162 v166 v170 v174 v178 v182 v255), ∀ a x, ((![v255, v162] : Fin 2 → IVec S16 32) a x).toNat < S8x10000.size a := fun v122 v126 v130 v134 v138 v142 v146 v150 v154 v158 v162 v166 v170 v174 v178 v182 v255 k0_hw3 => k0_hw3.2.2.2.2.2.2.2.2.2.2.1
theorem k0_idx44_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v255 : IVec S16 32) (k0_hw3 : k0_chk3 v122 v126 v130 v134 v138 v142 v146 v150 v154 v158 v162 v166 v170 v174 v178 v182 v255), ∀ a x, ((![v255, v166] : Fin 2 → IVec S16 32) a x).toNat < S8x10000.size a := fun v122 v126 v130 v134 v138 v142 v146 v150 v154 v158 v162 v166 v170 v174 v178 v182 v255 k0_hw3 => k0_hw3.2.2.2.2.2.2.2.2.2.2.2.1
theorem k0_idx45_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v255 : IVec S16 32) (k0_hw3 : k0_chk3 v122 v126 v130 v134 v138 v142 v146 v150 v154 v158 v162 v166 v170 v174 v178 v182 v255), ∀ a x, ((![v255, v170] : Fin 2 → IVec S16 32) a x).toNat < S8x10000.size a := fun v122 v126 v130 v134 v138 v142 v146 v150 v154 v158 v162 v166 v170 v174 v178 v182 v255 k0_hw3 => k0_hw3.2.2.2.2.2.2.2.2.2.2.2.2.1
theorem k0_idx46_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v255 : IVec S16 32) (k0_hw3 : k0_chk3 v122 v126 v130 v134 v138 v142 v146 v150 v154 v158 v162 v166 v170 v174 v178 v182 v255), ∀ a x, ((![v255, v174] : Fin 2 → IVec S16 32) a x).toNat < S8x10000.size a := fun v122 v126 v130 v134 v138 v142 v146 v150 v154 v158 v162 v166 v170 v174 v178 v182 v255 k0_hw3 => k0_hw3.2.2.2.2.2.2.2.2.2.2.2.2.2.1
theorem k0_idx47_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v255 : IVec S16 32) (k0_hw3 : k0_chk3 v122 v126 v130 v134 v138 v142 v146 v150 v154 v158 v162 v166 v170 v174 v178 v182 v255), ∀ a x, ((![v255, v178] : Fin 2 → IVec S16 32) a x).toNat < S8x10000.size a := fun v122 v126 v130 v134 v138 v142 v146 v150 v154 v158 v162 v166 v170 v174 v178 v182 v255 k0_hw3 => k0_hw3.2.2.2.2.2.2.2.2.2.2.2.2.2.2.1
theorem k0_idx48_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v255 : IVec S16 32) (k0_hw3 : k0_chk3 v122 v126 v130 v134 v138 v142 v146 v150 v154 v158 v162 v166 v170 v174 v178 v182 v255), ∀ a x, ((![v255, v182] : Fin 2 → IVec S16 32) a x).toNat < S8x10000.size a := fun v122 v126 v130 v134 v138 v142 v146 v150 v154 v158 v162 v166 v170 v174 v178 v182 v255 k0_hw3 => k0_hw3.2.2.2.2.2.2.2.2.2.2.2.2.2.2.2
def k0_off22 (k0_t3 : Fin k0_t3_loop.trips) : Fin 3 → Nat :=
  let c0_i32_133 : BitVec 32 := 0#32
  let v287 : Index := Scalar.indexCast c0_i32_133
  let c2_i32_134 : BitVec 32 := 2#32
  let v288 : Index := Scalar.indexCast c2_i32_134
  let c0_i32_101 : BitVec 32 := 0#32
  let c0_i32_64 : BitVec 32 := 0#32
  let c1_i32_65 : BitVec 32 := 1#32
  let arg14 : BitVec 32 := Scf.iv c0_i32_64 c1_i32_65 k0_t3
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v289 : Index := Scalar.indexCast v118
  ![0, 2, v289.toNat]

def k0_chk4 (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v291 : IVec S16 32) : Prop :=
  (∀ a x, ((![v291, v122] : Fin 2 → IVec S16 32) a x).toNat < S8x10000.size a) ∧
  (∀ a x, ((![v291, v126] : Fin 2 → IVec S16 32) a x).toNat < S8x10000.size a) ∧
  (∀ a x, ((![v291, v130] : Fin 2 → IVec S16 32) a x).toNat < S8x10000.size a) ∧
  (∀ a x, ((![v291, v134] : Fin 2 → IVec S16 32) a x).toNat < S8x10000.size a) ∧
  (∀ a x, ((![v291, v138] : Fin 2 → IVec S16 32) a x).toNat < S8x10000.size a) ∧
  (∀ a x, ((![v291, v142] : Fin 2 → IVec S16 32) a x).toNat < S8x10000.size a) ∧
  (∀ a x, ((![v291, v146] : Fin 2 → IVec S16 32) a x).toNat < S8x10000.size a) ∧
  (∀ a x, ((![v291, v150] : Fin 2 → IVec S16 32) a x).toNat < S8x10000.size a) ∧
  (∀ a x, ((![v291, v154] : Fin 2 → IVec S16 32) a x).toNat < S8x10000.size a) ∧
  (∀ a x, ((![v291, v158] : Fin 2 → IVec S16 32) a x).toNat < S8x10000.size a) ∧
  (∀ a x, ((![v291, v162] : Fin 2 → IVec S16 32) a x).toNat < S8x10000.size a) ∧
  (∀ a x, ((![v291, v166] : Fin 2 → IVec S16 32) a x).toNat < S8x10000.size a) ∧
  (∀ a x, ((![v291, v170] : Fin 2 → IVec S16 32) a x).toNat < S8x10000.size a) ∧
  (∀ a x, ((![v291, v174] : Fin 2 → IVec S16 32) a x).toNat < S8x10000.size a) ∧
  (∀ a x, ((![v291, v178] : Fin 2 → IVec S16 32) a x).toNat < S8x10000.size a) ∧
  (∀ a x, ((![v291, v182] : Fin 2 → IVec S16 32) a x).toNat < S8x10000.size a)
theorem k0_idx49_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v291 : IVec S16 32) (k0_hw4 : k0_chk4 v122 v126 v130 v134 v138 v142 v146 v150 v154 v158 v162 v166 v170 v174 v178 v182 v291), ∀ a x, ((![v291, v122] : Fin 2 → IVec S16 32) a x).toNat < S8x10000.size a := fun v122 v126 v130 v134 v138 v142 v146 v150 v154 v158 v162 v166 v170 v174 v178 v182 v291 k0_hw4 => k0_hw4.1
theorem k0_idx50_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v291 : IVec S16 32) (k0_hw4 : k0_chk4 v122 v126 v130 v134 v138 v142 v146 v150 v154 v158 v162 v166 v170 v174 v178 v182 v291), ∀ a x, ((![v291, v126] : Fin 2 → IVec S16 32) a x).toNat < S8x10000.size a := fun v122 v126 v130 v134 v138 v142 v146 v150 v154 v158 v162 v166 v170 v174 v178 v182 v291 k0_hw4 => k0_hw4.2.1
theorem k0_idx51_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v291 : IVec S16 32) (k0_hw4 : k0_chk4 v122 v126 v130 v134 v138 v142 v146 v150 v154 v158 v162 v166 v170 v174 v178 v182 v291), ∀ a x, ((![v291, v130] : Fin 2 → IVec S16 32) a x).toNat < S8x10000.size a := fun v122 v126 v130 v134 v138 v142 v146 v150 v154 v158 v162 v166 v170 v174 v178 v182 v291 k0_hw4 => k0_hw4.2.2.1
theorem k0_idx52_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v291 : IVec S16 32) (k0_hw4 : k0_chk4 v122 v126 v130 v134 v138 v142 v146 v150 v154 v158 v162 v166 v170 v174 v178 v182 v291), ∀ a x, ((![v291, v134] : Fin 2 → IVec S16 32) a x).toNat < S8x10000.size a := fun v122 v126 v130 v134 v138 v142 v146 v150 v154 v158 v162 v166 v170 v174 v178 v182 v291 k0_hw4 => k0_hw4.2.2.2.1
theorem k0_idx53_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v291 : IVec S16 32) (k0_hw4 : k0_chk4 v122 v126 v130 v134 v138 v142 v146 v150 v154 v158 v162 v166 v170 v174 v178 v182 v291), ∀ a x, ((![v291, v138] : Fin 2 → IVec S16 32) a x).toNat < S8x10000.size a := fun v122 v126 v130 v134 v138 v142 v146 v150 v154 v158 v162 v166 v170 v174 v178 v182 v291 k0_hw4 => k0_hw4.2.2.2.2.1
theorem k0_idx54_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v291 : IVec S16 32) (k0_hw4 : k0_chk4 v122 v126 v130 v134 v138 v142 v146 v150 v154 v158 v162 v166 v170 v174 v178 v182 v291), ∀ a x, ((![v291, v142] : Fin 2 → IVec S16 32) a x).toNat < S8x10000.size a := fun v122 v126 v130 v134 v138 v142 v146 v150 v154 v158 v162 v166 v170 v174 v178 v182 v291 k0_hw4 => k0_hw4.2.2.2.2.2.1
theorem k0_idx55_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v291 : IVec S16 32) (k0_hw4 : k0_chk4 v122 v126 v130 v134 v138 v142 v146 v150 v154 v158 v162 v166 v170 v174 v178 v182 v291), ∀ a x, ((![v291, v146] : Fin 2 → IVec S16 32) a x).toNat < S8x10000.size a := fun v122 v126 v130 v134 v138 v142 v146 v150 v154 v158 v162 v166 v170 v174 v178 v182 v291 k0_hw4 => k0_hw4.2.2.2.2.2.2.1
theorem k0_idx56_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v291 : IVec S16 32) (k0_hw4 : k0_chk4 v122 v126 v130 v134 v138 v142 v146 v150 v154 v158 v162 v166 v170 v174 v178 v182 v291), ∀ a x, ((![v291, v150] : Fin 2 → IVec S16 32) a x).toNat < S8x10000.size a := fun v122 v126 v130 v134 v138 v142 v146 v150 v154 v158 v162 v166 v170 v174 v178 v182 v291 k0_hw4 => k0_hw4.2.2.2.2.2.2.2.1
theorem k0_idx57_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v291 : IVec S16 32) (k0_hw4 : k0_chk4 v122 v126 v130 v134 v138 v142 v146 v150 v154 v158 v162 v166 v170 v174 v178 v182 v291), ∀ a x, ((![v291, v154] : Fin 2 → IVec S16 32) a x).toNat < S8x10000.size a := fun v122 v126 v130 v134 v138 v142 v146 v150 v154 v158 v162 v166 v170 v174 v178 v182 v291 k0_hw4 => k0_hw4.2.2.2.2.2.2.2.2.1
theorem k0_idx58_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v291 : IVec S16 32) (k0_hw4 : k0_chk4 v122 v126 v130 v134 v138 v142 v146 v150 v154 v158 v162 v166 v170 v174 v178 v182 v291), ∀ a x, ((![v291, v158] : Fin 2 → IVec S16 32) a x).toNat < S8x10000.size a := fun v122 v126 v130 v134 v138 v142 v146 v150 v154 v158 v162 v166 v170 v174 v178 v182 v291 k0_hw4 => k0_hw4.2.2.2.2.2.2.2.2.2.1
theorem k0_idx59_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v291 : IVec S16 32) (k0_hw4 : k0_chk4 v122 v126 v130 v134 v138 v142 v146 v150 v154 v158 v162 v166 v170 v174 v178 v182 v291), ∀ a x, ((![v291, v162] : Fin 2 → IVec S16 32) a x).toNat < S8x10000.size a := fun v122 v126 v130 v134 v138 v142 v146 v150 v154 v158 v162 v166 v170 v174 v178 v182 v291 k0_hw4 => k0_hw4.2.2.2.2.2.2.2.2.2.2.1
theorem k0_idx60_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v291 : IVec S16 32) (k0_hw4 : k0_chk4 v122 v126 v130 v134 v138 v142 v146 v150 v154 v158 v162 v166 v170 v174 v178 v182 v291), ∀ a x, ((![v291, v166] : Fin 2 → IVec S16 32) a x).toNat < S8x10000.size a := fun v122 v126 v130 v134 v138 v142 v146 v150 v154 v158 v162 v166 v170 v174 v178 v182 v291 k0_hw4 => k0_hw4.2.2.2.2.2.2.2.2.2.2.2.1
theorem k0_idx61_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v291 : IVec S16 32) (k0_hw4 : k0_chk4 v122 v126 v130 v134 v138 v142 v146 v150 v154 v158 v162 v166 v170 v174 v178 v182 v291), ∀ a x, ((![v291, v170] : Fin 2 → IVec S16 32) a x).toNat < S8x10000.size a := fun v122 v126 v130 v134 v138 v142 v146 v150 v154 v158 v162 v166 v170 v174 v178 v182 v291 k0_hw4 => k0_hw4.2.2.2.2.2.2.2.2.2.2.2.2.1
theorem k0_idx62_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v291 : IVec S16 32) (k0_hw4 : k0_chk4 v122 v126 v130 v134 v138 v142 v146 v150 v154 v158 v162 v166 v170 v174 v178 v182 v291), ∀ a x, ((![v291, v174] : Fin 2 → IVec S16 32) a x).toNat < S8x10000.size a := fun v122 v126 v130 v134 v138 v142 v146 v150 v154 v158 v162 v166 v170 v174 v178 v182 v291 k0_hw4 => k0_hw4.2.2.2.2.2.2.2.2.2.2.2.2.2.1
theorem k0_idx63_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v291 : IVec S16 32) (k0_hw4 : k0_chk4 v122 v126 v130 v134 v138 v142 v146 v150 v154 v158 v162 v166 v170 v174 v178 v182 v291), ∀ a x, ((![v291, v178] : Fin 2 → IVec S16 32) a x).toNat < S8x10000.size a := fun v122 v126 v130 v134 v138 v142 v146 v150 v154 v158 v162 v166 v170 v174 v178 v182 v291 k0_hw4 => k0_hw4.2.2.2.2.2.2.2.2.2.2.2.2.2.2.1
theorem k0_idx64_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v291 : IVec S16 32) (k0_hw4 : k0_chk4 v122 v126 v130 v134 v138 v142 v146 v150 v154 v158 v162 v166 v170 v174 v178 v182 v291), ∀ a x, ((![v291, v182] : Fin 2 → IVec S16 32) a x).toNat < S8x10000.size a := fun v122 v126 v130 v134 v138 v142 v146 v150 v154 v158 v162 v166 v170 v174 v178 v182 v291 k0_hw4 => k0_hw4.2.2.2.2.2.2.2.2.2.2.2.2.2.2.2
def k0_off23 (k0_t3 : Fin k0_t3_loop.trips) : Fin 3 → Nat :=
  let c0_i32_136 : BitVec 32 := 0#32
  let v323 : Index := Scalar.indexCast c0_i32_136
  let c3_i32_137 : BitVec 32 := 3#32
  let v324 : Index := Scalar.indexCast c3_i32_137
  let c0_i32_101 : BitVec 32 := 0#32
  let c0_i32_64 : BitVec 32 := 0#32
  let c1_i32_65 : BitVec 32 := 1#32
  let arg14 : BitVec 32 := Scf.iv c0_i32_64 c1_i32_65 k0_t3
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v325 : Index := Scalar.indexCast v118
  ![0, 3, v325.toNat]

def k0_chk5 (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v327 : IVec S16 32) : Prop :=
  (∀ a x, ((![v327, v122] : Fin 2 → IVec S16 32) a x).toNat < S8x10000.size a) ∧
  (∀ a x, ((![v327, v126] : Fin 2 → IVec S16 32) a x).toNat < S8x10000.size a) ∧
  (∀ a x, ((![v327, v130] : Fin 2 → IVec S16 32) a x).toNat < S8x10000.size a) ∧
  (∀ a x, ((![v327, v134] : Fin 2 → IVec S16 32) a x).toNat < S8x10000.size a) ∧
  (∀ a x, ((![v327, v138] : Fin 2 → IVec S16 32) a x).toNat < S8x10000.size a) ∧
  (∀ a x, ((![v327, v142] : Fin 2 → IVec S16 32) a x).toNat < S8x10000.size a) ∧
  (∀ a x, ((![v327, v146] : Fin 2 → IVec S16 32) a x).toNat < S8x10000.size a) ∧
  (∀ a x, ((![v327, v150] : Fin 2 → IVec S16 32) a x).toNat < S8x10000.size a) ∧
  (∀ a x, ((![v327, v154] : Fin 2 → IVec S16 32) a x).toNat < S8x10000.size a) ∧
  (∀ a x, ((![v327, v158] : Fin 2 → IVec S16 32) a x).toNat < S8x10000.size a) ∧
  (∀ a x, ((![v327, v162] : Fin 2 → IVec S16 32) a x).toNat < S8x10000.size a) ∧
  (∀ a x, ((![v327, v166] : Fin 2 → IVec S16 32) a x).toNat < S8x10000.size a) ∧
  (∀ a x, ((![v327, v170] : Fin 2 → IVec S16 32) a x).toNat < S8x10000.size a) ∧
  (∀ a x, ((![v327, v174] : Fin 2 → IVec S16 32) a x).toNat < S8x10000.size a) ∧
  (∀ a x, ((![v327, v178] : Fin 2 → IVec S16 32) a x).toNat < S8x10000.size a) ∧
  (∀ a x, ((![v327, v182] : Fin 2 → IVec S16 32) a x).toNat < S8x10000.size a)
theorem k0_idx65_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v327 : IVec S16 32) (k0_hw5 : k0_chk5 v122 v126 v130 v134 v138 v142 v146 v150 v154 v158 v162 v166 v170 v174 v178 v182 v327), ∀ a x, ((![v327, v122] : Fin 2 → IVec S16 32) a x).toNat < S8x10000.size a := fun v122 v126 v130 v134 v138 v142 v146 v150 v154 v158 v162 v166 v170 v174 v178 v182 v327 k0_hw5 => k0_hw5.1
theorem k0_idx66_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v327 : IVec S16 32) (k0_hw5 : k0_chk5 v122 v126 v130 v134 v138 v142 v146 v150 v154 v158 v162 v166 v170 v174 v178 v182 v327), ∀ a x, ((![v327, v126] : Fin 2 → IVec S16 32) a x).toNat < S8x10000.size a := fun v122 v126 v130 v134 v138 v142 v146 v150 v154 v158 v162 v166 v170 v174 v178 v182 v327 k0_hw5 => k0_hw5.2.1
theorem k0_idx67_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v327 : IVec S16 32) (k0_hw5 : k0_chk5 v122 v126 v130 v134 v138 v142 v146 v150 v154 v158 v162 v166 v170 v174 v178 v182 v327), ∀ a x, ((![v327, v130] : Fin 2 → IVec S16 32) a x).toNat < S8x10000.size a := fun v122 v126 v130 v134 v138 v142 v146 v150 v154 v158 v162 v166 v170 v174 v178 v182 v327 k0_hw5 => k0_hw5.2.2.1
theorem k0_idx68_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v327 : IVec S16 32) (k0_hw5 : k0_chk5 v122 v126 v130 v134 v138 v142 v146 v150 v154 v158 v162 v166 v170 v174 v178 v182 v327), ∀ a x, ((![v327, v134] : Fin 2 → IVec S16 32) a x).toNat < S8x10000.size a := fun v122 v126 v130 v134 v138 v142 v146 v150 v154 v158 v162 v166 v170 v174 v178 v182 v327 k0_hw5 => k0_hw5.2.2.2.1
theorem k0_idx69_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v327 : IVec S16 32) (k0_hw5 : k0_chk5 v122 v126 v130 v134 v138 v142 v146 v150 v154 v158 v162 v166 v170 v174 v178 v182 v327), ∀ a x, ((![v327, v138] : Fin 2 → IVec S16 32) a x).toNat < S8x10000.size a := fun v122 v126 v130 v134 v138 v142 v146 v150 v154 v158 v162 v166 v170 v174 v178 v182 v327 k0_hw5 => k0_hw5.2.2.2.2.1
theorem k0_idx70_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v327 : IVec S16 32) (k0_hw5 : k0_chk5 v122 v126 v130 v134 v138 v142 v146 v150 v154 v158 v162 v166 v170 v174 v178 v182 v327), ∀ a x, ((![v327, v142] : Fin 2 → IVec S16 32) a x).toNat < S8x10000.size a := fun v122 v126 v130 v134 v138 v142 v146 v150 v154 v158 v162 v166 v170 v174 v178 v182 v327 k0_hw5 => k0_hw5.2.2.2.2.2.1
theorem k0_idx71_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v327 : IVec S16 32) (k0_hw5 : k0_chk5 v122 v126 v130 v134 v138 v142 v146 v150 v154 v158 v162 v166 v170 v174 v178 v182 v327), ∀ a x, ((![v327, v146] : Fin 2 → IVec S16 32) a x).toNat < S8x10000.size a := fun v122 v126 v130 v134 v138 v142 v146 v150 v154 v158 v162 v166 v170 v174 v178 v182 v327 k0_hw5 => k0_hw5.2.2.2.2.2.2.1
theorem k0_idx72_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v327 : IVec S16 32) (k0_hw5 : k0_chk5 v122 v126 v130 v134 v138 v142 v146 v150 v154 v158 v162 v166 v170 v174 v178 v182 v327), ∀ a x, ((![v327, v150] : Fin 2 → IVec S16 32) a x).toNat < S8x10000.size a := fun v122 v126 v130 v134 v138 v142 v146 v150 v154 v158 v162 v166 v170 v174 v178 v182 v327 k0_hw5 => k0_hw5.2.2.2.2.2.2.2.1
theorem k0_idx73_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v327 : IVec S16 32) (k0_hw5 : k0_chk5 v122 v126 v130 v134 v138 v142 v146 v150 v154 v158 v162 v166 v170 v174 v178 v182 v327), ∀ a x, ((![v327, v154] : Fin 2 → IVec S16 32) a x).toNat < S8x10000.size a := fun v122 v126 v130 v134 v138 v142 v146 v150 v154 v158 v162 v166 v170 v174 v178 v182 v327 k0_hw5 => k0_hw5.2.2.2.2.2.2.2.2.1
theorem k0_idx74_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v327 : IVec S16 32) (k0_hw5 : k0_chk5 v122 v126 v130 v134 v138 v142 v146 v150 v154 v158 v162 v166 v170 v174 v178 v182 v327), ∀ a x, ((![v327, v158] : Fin 2 → IVec S16 32) a x).toNat < S8x10000.size a := fun v122 v126 v130 v134 v138 v142 v146 v150 v154 v158 v162 v166 v170 v174 v178 v182 v327 k0_hw5 => k0_hw5.2.2.2.2.2.2.2.2.2.1
theorem k0_idx75_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v327 : IVec S16 32) (k0_hw5 : k0_chk5 v122 v126 v130 v134 v138 v142 v146 v150 v154 v158 v162 v166 v170 v174 v178 v182 v327), ∀ a x, ((![v327, v162] : Fin 2 → IVec S16 32) a x).toNat < S8x10000.size a := fun v122 v126 v130 v134 v138 v142 v146 v150 v154 v158 v162 v166 v170 v174 v178 v182 v327 k0_hw5 => k0_hw5.2.2.2.2.2.2.2.2.2.2.1
theorem k0_idx76_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v327 : IVec S16 32) (k0_hw5 : k0_chk5 v122 v126 v130 v134 v138 v142 v146 v150 v154 v158 v162 v166 v170 v174 v178 v182 v327), ∀ a x, ((![v327, v166] : Fin 2 → IVec S16 32) a x).toNat < S8x10000.size a := fun v122 v126 v130 v134 v138 v142 v146 v150 v154 v158 v162 v166 v170 v174 v178 v182 v327 k0_hw5 => k0_hw5.2.2.2.2.2.2.2.2.2.2.2.1
theorem k0_idx77_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v327 : IVec S16 32) (k0_hw5 : k0_chk5 v122 v126 v130 v134 v138 v142 v146 v150 v154 v158 v162 v166 v170 v174 v178 v182 v327), ∀ a x, ((![v327, v170] : Fin 2 → IVec S16 32) a x).toNat < S8x10000.size a := fun v122 v126 v130 v134 v138 v142 v146 v150 v154 v158 v162 v166 v170 v174 v178 v182 v327 k0_hw5 => k0_hw5.2.2.2.2.2.2.2.2.2.2.2.2.1
theorem k0_idx78_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v327 : IVec S16 32) (k0_hw5 : k0_chk5 v122 v126 v130 v134 v138 v142 v146 v150 v154 v158 v162 v166 v170 v174 v178 v182 v327), ∀ a x, ((![v327, v174] : Fin 2 → IVec S16 32) a x).toNat < S8x10000.size a := fun v122 v126 v130 v134 v138 v142 v146 v150 v154 v158 v162 v166 v170 v174 v178 v182 v327 k0_hw5 => k0_hw5.2.2.2.2.2.2.2.2.2.2.2.2.2.1
theorem k0_idx79_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v327 : IVec S16 32) (k0_hw5 : k0_chk5 v122 v126 v130 v134 v138 v142 v146 v150 v154 v158 v162 v166 v170 v174 v178 v182 v327), ∀ a x, ((![v327, v178] : Fin 2 → IVec S16 32) a x).toNat < S8x10000.size a := fun v122 v126 v130 v134 v138 v142 v146 v150 v154 v158 v162 v166 v170 v174 v178 v182 v327 k0_hw5 => k0_hw5.2.2.2.2.2.2.2.2.2.2.2.2.2.2.1
theorem k0_idx80_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v327 : IVec S16 32) (k0_hw5 : k0_chk5 v122 v126 v130 v134 v138 v142 v146 v150 v154 v158 v162 v166 v170 v174 v178 v182 v327), ∀ a x, ((![v327, v182] : Fin 2 → IVec S16 32) a x).toNat < S8x10000.size a := fun v122 v126 v130 v134 v138 v142 v146 v150 v154 v158 v162 v166 v170 v174 v178 v182 v327 k0_hw5 => k0_hw5.2.2.2.2.2.2.2.2.2.2.2.2.2.2.2
def k0_off24 (k0_t3 : Fin k0_t3_loop.trips) : Fin 3 → Nat :=
  let c0_i32_139 : BitVec 32 := 0#32
  let v359 : Index := Scalar.indexCast c0_i32_139
  let c4_i32_140 : BitVec 32 := 4#32
  let v360 : Index := Scalar.indexCast c4_i32_140
  let c0_i32_101 : BitVec 32 := 0#32
  let c0_i32_64 : BitVec 32 := 0#32
  let c1_i32_65 : BitVec 32 := 1#32
  let arg14 : BitVec 32 := Scf.iv c0_i32_64 c1_i32_65 k0_t3
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v361 : Index := Scalar.indexCast v118
  ![0, 4, v361.toNat]

def k0_chk6 (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v363 : IVec S16 32) : Prop :=
  (∀ a x, ((![v363, v122] : Fin 2 → IVec S16 32) a x).toNat < S8x10000.size a) ∧
  (∀ a x, ((![v363, v126] : Fin 2 → IVec S16 32) a x).toNat < S8x10000.size a) ∧
  (∀ a x, ((![v363, v130] : Fin 2 → IVec S16 32) a x).toNat < S8x10000.size a) ∧
  (∀ a x, ((![v363, v134] : Fin 2 → IVec S16 32) a x).toNat < S8x10000.size a) ∧
  (∀ a x, ((![v363, v138] : Fin 2 → IVec S16 32) a x).toNat < S8x10000.size a) ∧
  (∀ a x, ((![v363, v142] : Fin 2 → IVec S16 32) a x).toNat < S8x10000.size a) ∧
  (∀ a x, ((![v363, v146] : Fin 2 → IVec S16 32) a x).toNat < S8x10000.size a) ∧
  (∀ a x, ((![v363, v150] : Fin 2 → IVec S16 32) a x).toNat < S8x10000.size a) ∧
  (∀ a x, ((![v363, v154] : Fin 2 → IVec S16 32) a x).toNat < S8x10000.size a) ∧
  (∀ a x, ((![v363, v158] : Fin 2 → IVec S16 32) a x).toNat < S8x10000.size a) ∧
  (∀ a x, ((![v363, v162] : Fin 2 → IVec S16 32) a x).toNat < S8x10000.size a) ∧
  (∀ a x, ((![v363, v166] : Fin 2 → IVec S16 32) a x).toNat < S8x10000.size a) ∧
  (∀ a x, ((![v363, v170] : Fin 2 → IVec S16 32) a x).toNat < S8x10000.size a) ∧
  (∀ a x, ((![v363, v174] : Fin 2 → IVec S16 32) a x).toNat < S8x10000.size a) ∧
  (∀ a x, ((![v363, v178] : Fin 2 → IVec S16 32) a x).toNat < S8x10000.size a) ∧
  (∀ a x, ((![v363, v182] : Fin 2 → IVec S16 32) a x).toNat < S8x10000.size a)
theorem k0_idx81_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v363 : IVec S16 32) (k0_hw6 : k0_chk6 v122 v126 v130 v134 v138 v142 v146 v150 v154 v158 v162 v166 v170 v174 v178 v182 v363), ∀ a x, ((![v363, v122] : Fin 2 → IVec S16 32) a x).toNat < S8x10000.size a := fun v122 v126 v130 v134 v138 v142 v146 v150 v154 v158 v162 v166 v170 v174 v178 v182 v363 k0_hw6 => k0_hw6.1
theorem k0_idx82_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v363 : IVec S16 32) (k0_hw6 : k0_chk6 v122 v126 v130 v134 v138 v142 v146 v150 v154 v158 v162 v166 v170 v174 v178 v182 v363), ∀ a x, ((![v363, v126] : Fin 2 → IVec S16 32) a x).toNat < S8x10000.size a := fun v122 v126 v130 v134 v138 v142 v146 v150 v154 v158 v162 v166 v170 v174 v178 v182 v363 k0_hw6 => k0_hw6.2.1
theorem k0_idx83_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v363 : IVec S16 32) (k0_hw6 : k0_chk6 v122 v126 v130 v134 v138 v142 v146 v150 v154 v158 v162 v166 v170 v174 v178 v182 v363), ∀ a x, ((![v363, v130] : Fin 2 → IVec S16 32) a x).toNat < S8x10000.size a := fun v122 v126 v130 v134 v138 v142 v146 v150 v154 v158 v162 v166 v170 v174 v178 v182 v363 k0_hw6 => k0_hw6.2.2.1
theorem k0_idx84_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v363 : IVec S16 32) (k0_hw6 : k0_chk6 v122 v126 v130 v134 v138 v142 v146 v150 v154 v158 v162 v166 v170 v174 v178 v182 v363), ∀ a x, ((![v363, v134] : Fin 2 → IVec S16 32) a x).toNat < S8x10000.size a := fun v122 v126 v130 v134 v138 v142 v146 v150 v154 v158 v162 v166 v170 v174 v178 v182 v363 k0_hw6 => k0_hw6.2.2.2.1
theorem k0_idx85_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v363 : IVec S16 32) (k0_hw6 : k0_chk6 v122 v126 v130 v134 v138 v142 v146 v150 v154 v158 v162 v166 v170 v174 v178 v182 v363), ∀ a x, ((![v363, v138] : Fin 2 → IVec S16 32) a x).toNat < S8x10000.size a := fun v122 v126 v130 v134 v138 v142 v146 v150 v154 v158 v162 v166 v170 v174 v178 v182 v363 k0_hw6 => k0_hw6.2.2.2.2.1
theorem k0_idx86_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v363 : IVec S16 32) (k0_hw6 : k0_chk6 v122 v126 v130 v134 v138 v142 v146 v150 v154 v158 v162 v166 v170 v174 v178 v182 v363), ∀ a x, ((![v363, v142] : Fin 2 → IVec S16 32) a x).toNat < S8x10000.size a := fun v122 v126 v130 v134 v138 v142 v146 v150 v154 v158 v162 v166 v170 v174 v178 v182 v363 k0_hw6 => k0_hw6.2.2.2.2.2.1
theorem k0_idx87_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v363 : IVec S16 32) (k0_hw6 : k0_chk6 v122 v126 v130 v134 v138 v142 v146 v150 v154 v158 v162 v166 v170 v174 v178 v182 v363), ∀ a x, ((![v363, v146] : Fin 2 → IVec S16 32) a x).toNat < S8x10000.size a := fun v122 v126 v130 v134 v138 v142 v146 v150 v154 v158 v162 v166 v170 v174 v178 v182 v363 k0_hw6 => k0_hw6.2.2.2.2.2.2.1
theorem k0_idx88_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v363 : IVec S16 32) (k0_hw6 : k0_chk6 v122 v126 v130 v134 v138 v142 v146 v150 v154 v158 v162 v166 v170 v174 v178 v182 v363), ∀ a x, ((![v363, v150] : Fin 2 → IVec S16 32) a x).toNat < S8x10000.size a := fun v122 v126 v130 v134 v138 v142 v146 v150 v154 v158 v162 v166 v170 v174 v178 v182 v363 k0_hw6 => k0_hw6.2.2.2.2.2.2.2.1
theorem k0_idx89_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v363 : IVec S16 32) (k0_hw6 : k0_chk6 v122 v126 v130 v134 v138 v142 v146 v150 v154 v158 v162 v166 v170 v174 v178 v182 v363), ∀ a x, ((![v363, v154] : Fin 2 → IVec S16 32) a x).toNat < S8x10000.size a := fun v122 v126 v130 v134 v138 v142 v146 v150 v154 v158 v162 v166 v170 v174 v178 v182 v363 k0_hw6 => k0_hw6.2.2.2.2.2.2.2.2.1
theorem k0_idx90_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v363 : IVec S16 32) (k0_hw6 : k0_chk6 v122 v126 v130 v134 v138 v142 v146 v150 v154 v158 v162 v166 v170 v174 v178 v182 v363), ∀ a x, ((![v363, v158] : Fin 2 → IVec S16 32) a x).toNat < S8x10000.size a := fun v122 v126 v130 v134 v138 v142 v146 v150 v154 v158 v162 v166 v170 v174 v178 v182 v363 k0_hw6 => k0_hw6.2.2.2.2.2.2.2.2.2.1
theorem k0_idx91_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v363 : IVec S16 32) (k0_hw6 : k0_chk6 v122 v126 v130 v134 v138 v142 v146 v150 v154 v158 v162 v166 v170 v174 v178 v182 v363), ∀ a x, ((![v363, v162] : Fin 2 → IVec S16 32) a x).toNat < S8x10000.size a := fun v122 v126 v130 v134 v138 v142 v146 v150 v154 v158 v162 v166 v170 v174 v178 v182 v363 k0_hw6 => k0_hw6.2.2.2.2.2.2.2.2.2.2.1
theorem k0_idx92_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v363 : IVec S16 32) (k0_hw6 : k0_chk6 v122 v126 v130 v134 v138 v142 v146 v150 v154 v158 v162 v166 v170 v174 v178 v182 v363), ∀ a x, ((![v363, v166] : Fin 2 → IVec S16 32) a x).toNat < S8x10000.size a := fun v122 v126 v130 v134 v138 v142 v146 v150 v154 v158 v162 v166 v170 v174 v178 v182 v363 k0_hw6 => k0_hw6.2.2.2.2.2.2.2.2.2.2.2.1
theorem k0_idx93_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v363 : IVec S16 32) (k0_hw6 : k0_chk6 v122 v126 v130 v134 v138 v142 v146 v150 v154 v158 v162 v166 v170 v174 v178 v182 v363), ∀ a x, ((![v363, v170] : Fin 2 → IVec S16 32) a x).toNat < S8x10000.size a := fun v122 v126 v130 v134 v138 v142 v146 v150 v154 v158 v162 v166 v170 v174 v178 v182 v363 k0_hw6 => k0_hw6.2.2.2.2.2.2.2.2.2.2.2.2.1
theorem k0_idx94_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v363 : IVec S16 32) (k0_hw6 : k0_chk6 v122 v126 v130 v134 v138 v142 v146 v150 v154 v158 v162 v166 v170 v174 v178 v182 v363), ∀ a x, ((![v363, v174] : Fin 2 → IVec S16 32) a x).toNat < S8x10000.size a := fun v122 v126 v130 v134 v138 v142 v146 v150 v154 v158 v162 v166 v170 v174 v178 v182 v363 k0_hw6 => k0_hw6.2.2.2.2.2.2.2.2.2.2.2.2.2.1
theorem k0_idx95_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v363 : IVec S16 32) (k0_hw6 : k0_chk6 v122 v126 v130 v134 v138 v142 v146 v150 v154 v158 v162 v166 v170 v174 v178 v182 v363), ∀ a x, ((![v363, v178] : Fin 2 → IVec S16 32) a x).toNat < S8x10000.size a := fun v122 v126 v130 v134 v138 v142 v146 v150 v154 v158 v162 v166 v170 v174 v178 v182 v363 k0_hw6 => k0_hw6.2.2.2.2.2.2.2.2.2.2.2.2.2.2.1
theorem k0_idx96_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v363 : IVec S16 32) (k0_hw6 : k0_chk6 v122 v126 v130 v134 v138 v142 v146 v150 v154 v158 v162 v166 v170 v174 v178 v182 v363), ∀ a x, ((![v363, v182] : Fin 2 → IVec S16 32) a x).toNat < S8x10000.size a := fun v122 v126 v130 v134 v138 v142 v146 v150 v154 v158 v162 v166 v170 v174 v178 v182 v363 k0_hw6 => k0_hw6.2.2.2.2.2.2.2.2.2.2.2.2.2.2.2
def k0_off25 (k0_t3 : Fin k0_t3_loop.trips) : Fin 3 → Nat :=
  let c0_i32_142 : BitVec 32 := 0#32
  let v395 : Index := Scalar.indexCast c0_i32_142
  let c5_i32_143 : BitVec 32 := 5#32
  let v396 : Index := Scalar.indexCast c5_i32_143
  let c0_i32_101 : BitVec 32 := 0#32
  let c0_i32_64 : BitVec 32 := 0#32
  let c1_i32_65 : BitVec 32 := 1#32
  let arg14 : BitVec 32 := Scf.iv c0_i32_64 c1_i32_65 k0_t3
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v397 : Index := Scalar.indexCast v118
  ![0, 5, v397.toNat]

def k0_chk7 (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v399 : IVec S16 32) : Prop :=
  (∀ a x, ((![v399, v122] : Fin 2 → IVec S16 32) a x).toNat < S8x10000.size a) ∧
  (∀ a x, ((![v399, v126] : Fin 2 → IVec S16 32) a x).toNat < S8x10000.size a) ∧
  (∀ a x, ((![v399, v130] : Fin 2 → IVec S16 32) a x).toNat < S8x10000.size a) ∧
  (∀ a x, ((![v399, v134] : Fin 2 → IVec S16 32) a x).toNat < S8x10000.size a) ∧
  (∀ a x, ((![v399, v138] : Fin 2 → IVec S16 32) a x).toNat < S8x10000.size a) ∧
  (∀ a x, ((![v399, v142] : Fin 2 → IVec S16 32) a x).toNat < S8x10000.size a) ∧
  (∀ a x, ((![v399, v146] : Fin 2 → IVec S16 32) a x).toNat < S8x10000.size a) ∧
  (∀ a x, ((![v399, v150] : Fin 2 → IVec S16 32) a x).toNat < S8x10000.size a) ∧
  (∀ a x, ((![v399, v154] : Fin 2 → IVec S16 32) a x).toNat < S8x10000.size a) ∧
  (∀ a x, ((![v399, v158] : Fin 2 → IVec S16 32) a x).toNat < S8x10000.size a) ∧
  (∀ a x, ((![v399, v162] : Fin 2 → IVec S16 32) a x).toNat < S8x10000.size a) ∧
  (∀ a x, ((![v399, v166] : Fin 2 → IVec S16 32) a x).toNat < S8x10000.size a) ∧
  (∀ a x, ((![v399, v170] : Fin 2 → IVec S16 32) a x).toNat < S8x10000.size a) ∧
  (∀ a x, ((![v399, v174] : Fin 2 → IVec S16 32) a x).toNat < S8x10000.size a) ∧
  (∀ a x, ((![v399, v178] : Fin 2 → IVec S16 32) a x).toNat < S8x10000.size a) ∧
  (∀ a x, ((![v399, v182] : Fin 2 → IVec S16 32) a x).toNat < S8x10000.size a)
theorem k0_idx97_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v399 : IVec S16 32) (k0_hw7 : k0_chk7 v122 v126 v130 v134 v138 v142 v146 v150 v154 v158 v162 v166 v170 v174 v178 v182 v399), ∀ a x, ((![v399, v122] : Fin 2 → IVec S16 32) a x).toNat < S8x10000.size a := fun v122 v126 v130 v134 v138 v142 v146 v150 v154 v158 v162 v166 v170 v174 v178 v182 v399 k0_hw7 => k0_hw7.1
theorem k0_idx98_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v399 : IVec S16 32) (k0_hw7 : k0_chk7 v122 v126 v130 v134 v138 v142 v146 v150 v154 v158 v162 v166 v170 v174 v178 v182 v399), ∀ a x, ((![v399, v126] : Fin 2 → IVec S16 32) a x).toNat < S8x10000.size a := fun v122 v126 v130 v134 v138 v142 v146 v150 v154 v158 v162 v166 v170 v174 v178 v182 v399 k0_hw7 => k0_hw7.2.1
theorem k0_idx99_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v399 : IVec S16 32) (k0_hw7 : k0_chk7 v122 v126 v130 v134 v138 v142 v146 v150 v154 v158 v162 v166 v170 v174 v178 v182 v399), ∀ a x, ((![v399, v130] : Fin 2 → IVec S16 32) a x).toNat < S8x10000.size a := fun v122 v126 v130 v134 v138 v142 v146 v150 v154 v158 v162 v166 v170 v174 v178 v182 v399 k0_hw7 => k0_hw7.2.2.1
theorem k0_idx100_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v399 : IVec S16 32) (k0_hw7 : k0_chk7 v122 v126 v130 v134 v138 v142 v146 v150 v154 v158 v162 v166 v170 v174 v178 v182 v399), ∀ a x, ((![v399, v134] : Fin 2 → IVec S16 32) a x).toNat < S8x10000.size a := fun v122 v126 v130 v134 v138 v142 v146 v150 v154 v158 v162 v166 v170 v174 v178 v182 v399 k0_hw7 => k0_hw7.2.2.2.1
theorem k0_idx101_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v399 : IVec S16 32) (k0_hw7 : k0_chk7 v122 v126 v130 v134 v138 v142 v146 v150 v154 v158 v162 v166 v170 v174 v178 v182 v399), ∀ a x, ((![v399, v138] : Fin 2 → IVec S16 32) a x).toNat < S8x10000.size a := fun v122 v126 v130 v134 v138 v142 v146 v150 v154 v158 v162 v166 v170 v174 v178 v182 v399 k0_hw7 => k0_hw7.2.2.2.2.1
theorem k0_idx102_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v399 : IVec S16 32) (k0_hw7 : k0_chk7 v122 v126 v130 v134 v138 v142 v146 v150 v154 v158 v162 v166 v170 v174 v178 v182 v399), ∀ a x, ((![v399, v142] : Fin 2 → IVec S16 32) a x).toNat < S8x10000.size a := fun v122 v126 v130 v134 v138 v142 v146 v150 v154 v158 v162 v166 v170 v174 v178 v182 v399 k0_hw7 => k0_hw7.2.2.2.2.2.1
theorem k0_idx103_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v399 : IVec S16 32) (k0_hw7 : k0_chk7 v122 v126 v130 v134 v138 v142 v146 v150 v154 v158 v162 v166 v170 v174 v178 v182 v399), ∀ a x, ((![v399, v146] : Fin 2 → IVec S16 32) a x).toNat < S8x10000.size a := fun v122 v126 v130 v134 v138 v142 v146 v150 v154 v158 v162 v166 v170 v174 v178 v182 v399 k0_hw7 => k0_hw7.2.2.2.2.2.2.1
theorem k0_idx104_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v399 : IVec S16 32) (k0_hw7 : k0_chk7 v122 v126 v130 v134 v138 v142 v146 v150 v154 v158 v162 v166 v170 v174 v178 v182 v399), ∀ a x, ((![v399, v150] : Fin 2 → IVec S16 32) a x).toNat < S8x10000.size a := fun v122 v126 v130 v134 v138 v142 v146 v150 v154 v158 v162 v166 v170 v174 v178 v182 v399 k0_hw7 => k0_hw7.2.2.2.2.2.2.2.1
theorem k0_idx105_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v399 : IVec S16 32) (k0_hw7 : k0_chk7 v122 v126 v130 v134 v138 v142 v146 v150 v154 v158 v162 v166 v170 v174 v178 v182 v399), ∀ a x, ((![v399, v154] : Fin 2 → IVec S16 32) a x).toNat < S8x10000.size a := fun v122 v126 v130 v134 v138 v142 v146 v150 v154 v158 v162 v166 v170 v174 v178 v182 v399 k0_hw7 => k0_hw7.2.2.2.2.2.2.2.2.1
theorem k0_idx106_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v399 : IVec S16 32) (k0_hw7 : k0_chk7 v122 v126 v130 v134 v138 v142 v146 v150 v154 v158 v162 v166 v170 v174 v178 v182 v399), ∀ a x, ((![v399, v158] : Fin 2 → IVec S16 32) a x).toNat < S8x10000.size a := fun v122 v126 v130 v134 v138 v142 v146 v150 v154 v158 v162 v166 v170 v174 v178 v182 v399 k0_hw7 => k0_hw7.2.2.2.2.2.2.2.2.2.1
theorem k0_idx107_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v399 : IVec S16 32) (k0_hw7 : k0_chk7 v122 v126 v130 v134 v138 v142 v146 v150 v154 v158 v162 v166 v170 v174 v178 v182 v399), ∀ a x, ((![v399, v162] : Fin 2 → IVec S16 32) a x).toNat < S8x10000.size a := fun v122 v126 v130 v134 v138 v142 v146 v150 v154 v158 v162 v166 v170 v174 v178 v182 v399 k0_hw7 => k0_hw7.2.2.2.2.2.2.2.2.2.2.1
theorem k0_idx108_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v399 : IVec S16 32) (k0_hw7 : k0_chk7 v122 v126 v130 v134 v138 v142 v146 v150 v154 v158 v162 v166 v170 v174 v178 v182 v399), ∀ a x, ((![v399, v166] : Fin 2 → IVec S16 32) a x).toNat < S8x10000.size a := fun v122 v126 v130 v134 v138 v142 v146 v150 v154 v158 v162 v166 v170 v174 v178 v182 v399 k0_hw7 => k0_hw7.2.2.2.2.2.2.2.2.2.2.2.1
theorem k0_idx109_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v399 : IVec S16 32) (k0_hw7 : k0_chk7 v122 v126 v130 v134 v138 v142 v146 v150 v154 v158 v162 v166 v170 v174 v178 v182 v399), ∀ a x, ((![v399, v170] : Fin 2 → IVec S16 32) a x).toNat < S8x10000.size a := fun v122 v126 v130 v134 v138 v142 v146 v150 v154 v158 v162 v166 v170 v174 v178 v182 v399 k0_hw7 => k0_hw7.2.2.2.2.2.2.2.2.2.2.2.2.1
theorem k0_idx110_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v399 : IVec S16 32) (k0_hw7 : k0_chk7 v122 v126 v130 v134 v138 v142 v146 v150 v154 v158 v162 v166 v170 v174 v178 v182 v399), ∀ a x, ((![v399, v174] : Fin 2 → IVec S16 32) a x).toNat < S8x10000.size a := fun v122 v126 v130 v134 v138 v142 v146 v150 v154 v158 v162 v166 v170 v174 v178 v182 v399 k0_hw7 => k0_hw7.2.2.2.2.2.2.2.2.2.2.2.2.2.1
theorem k0_idx111_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v399 : IVec S16 32) (k0_hw7 : k0_chk7 v122 v126 v130 v134 v138 v142 v146 v150 v154 v158 v162 v166 v170 v174 v178 v182 v399), ∀ a x, ((![v399, v178] : Fin 2 → IVec S16 32) a x).toNat < S8x10000.size a := fun v122 v126 v130 v134 v138 v142 v146 v150 v154 v158 v162 v166 v170 v174 v178 v182 v399 k0_hw7 => k0_hw7.2.2.2.2.2.2.2.2.2.2.2.2.2.2.1
theorem k0_idx112_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v399 : IVec S16 32) (k0_hw7 : k0_chk7 v122 v126 v130 v134 v138 v142 v146 v150 v154 v158 v162 v166 v170 v174 v178 v182 v399), ∀ a x, ((![v399, v182] : Fin 2 → IVec S16 32) a x).toNat < S8x10000.size a := fun v122 v126 v130 v134 v138 v142 v146 v150 v154 v158 v162 v166 v170 v174 v178 v182 v399 k0_hw7 => k0_hw7.2.2.2.2.2.2.2.2.2.2.2.2.2.2.2
def k0_off26 (k0_t3 : Fin k0_t3_loop.trips) : Fin 3 → Nat :=
  let c0_i32_145 : BitVec 32 := 0#32
  let v431 : Index := Scalar.indexCast c0_i32_145
  let c6_i32_146 : BitVec 32 := 6#32
  let v432 : Index := Scalar.indexCast c6_i32_146
  let c0_i32_101 : BitVec 32 := 0#32
  let c0_i32_64 : BitVec 32 := 0#32
  let c1_i32_65 : BitVec 32 := 1#32
  let arg14 : BitVec 32 := Scf.iv c0_i32_64 c1_i32_65 k0_t3
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v433 : Index := Scalar.indexCast v118
  ![0, 6, v433.toNat]

def k0_chk8 (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v435 : IVec S16 32) : Prop :=
  (∀ a x, ((![v435, v122] : Fin 2 → IVec S16 32) a x).toNat < S8x10000.size a) ∧
  (∀ a x, ((![v435, v126] : Fin 2 → IVec S16 32) a x).toNat < S8x10000.size a) ∧
  (∀ a x, ((![v435, v130] : Fin 2 → IVec S16 32) a x).toNat < S8x10000.size a) ∧
  (∀ a x, ((![v435, v134] : Fin 2 → IVec S16 32) a x).toNat < S8x10000.size a) ∧
  (∀ a x, ((![v435, v138] : Fin 2 → IVec S16 32) a x).toNat < S8x10000.size a) ∧
  (∀ a x, ((![v435, v142] : Fin 2 → IVec S16 32) a x).toNat < S8x10000.size a) ∧
  (∀ a x, ((![v435, v146] : Fin 2 → IVec S16 32) a x).toNat < S8x10000.size a) ∧
  (∀ a x, ((![v435, v150] : Fin 2 → IVec S16 32) a x).toNat < S8x10000.size a) ∧
  (∀ a x, ((![v435, v154] : Fin 2 → IVec S16 32) a x).toNat < S8x10000.size a) ∧
  (∀ a x, ((![v435, v158] : Fin 2 → IVec S16 32) a x).toNat < S8x10000.size a) ∧
  (∀ a x, ((![v435, v162] : Fin 2 → IVec S16 32) a x).toNat < S8x10000.size a) ∧
  (∀ a x, ((![v435, v166] : Fin 2 → IVec S16 32) a x).toNat < S8x10000.size a) ∧
  (∀ a x, ((![v435, v170] : Fin 2 → IVec S16 32) a x).toNat < S8x10000.size a) ∧
  (∀ a x, ((![v435, v174] : Fin 2 → IVec S16 32) a x).toNat < S8x10000.size a) ∧
  (∀ a x, ((![v435, v178] : Fin 2 → IVec S16 32) a x).toNat < S8x10000.size a) ∧
  (∀ a x, ((![v435, v182] : Fin 2 → IVec S16 32) a x).toNat < S8x10000.size a)
theorem k0_idx113_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v435 : IVec S16 32) (k0_hw8 : k0_chk8 v122 v126 v130 v134 v138 v142 v146 v150 v154 v158 v162 v166 v170 v174 v178 v182 v435), ∀ a x, ((![v435, v122] : Fin 2 → IVec S16 32) a x).toNat < S8x10000.size a := fun v122 v126 v130 v134 v138 v142 v146 v150 v154 v158 v162 v166 v170 v174 v178 v182 v435 k0_hw8 => k0_hw8.1
theorem k0_idx114_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v435 : IVec S16 32) (k0_hw8 : k0_chk8 v122 v126 v130 v134 v138 v142 v146 v150 v154 v158 v162 v166 v170 v174 v178 v182 v435), ∀ a x, ((![v435, v126] : Fin 2 → IVec S16 32) a x).toNat < S8x10000.size a := fun v122 v126 v130 v134 v138 v142 v146 v150 v154 v158 v162 v166 v170 v174 v178 v182 v435 k0_hw8 => k0_hw8.2.1
theorem k0_idx115_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v435 : IVec S16 32) (k0_hw8 : k0_chk8 v122 v126 v130 v134 v138 v142 v146 v150 v154 v158 v162 v166 v170 v174 v178 v182 v435), ∀ a x, ((![v435, v130] : Fin 2 → IVec S16 32) a x).toNat < S8x10000.size a := fun v122 v126 v130 v134 v138 v142 v146 v150 v154 v158 v162 v166 v170 v174 v178 v182 v435 k0_hw8 => k0_hw8.2.2.1
theorem k0_idx116_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v435 : IVec S16 32) (k0_hw8 : k0_chk8 v122 v126 v130 v134 v138 v142 v146 v150 v154 v158 v162 v166 v170 v174 v178 v182 v435), ∀ a x, ((![v435, v134] : Fin 2 → IVec S16 32) a x).toNat < S8x10000.size a := fun v122 v126 v130 v134 v138 v142 v146 v150 v154 v158 v162 v166 v170 v174 v178 v182 v435 k0_hw8 => k0_hw8.2.2.2.1
theorem k0_idx117_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v435 : IVec S16 32) (k0_hw8 : k0_chk8 v122 v126 v130 v134 v138 v142 v146 v150 v154 v158 v162 v166 v170 v174 v178 v182 v435), ∀ a x, ((![v435, v138] : Fin 2 → IVec S16 32) a x).toNat < S8x10000.size a := fun v122 v126 v130 v134 v138 v142 v146 v150 v154 v158 v162 v166 v170 v174 v178 v182 v435 k0_hw8 => k0_hw8.2.2.2.2.1
theorem k0_idx118_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v435 : IVec S16 32) (k0_hw8 : k0_chk8 v122 v126 v130 v134 v138 v142 v146 v150 v154 v158 v162 v166 v170 v174 v178 v182 v435), ∀ a x, ((![v435, v142] : Fin 2 → IVec S16 32) a x).toNat < S8x10000.size a := fun v122 v126 v130 v134 v138 v142 v146 v150 v154 v158 v162 v166 v170 v174 v178 v182 v435 k0_hw8 => k0_hw8.2.2.2.2.2.1
theorem k0_idx119_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v435 : IVec S16 32) (k0_hw8 : k0_chk8 v122 v126 v130 v134 v138 v142 v146 v150 v154 v158 v162 v166 v170 v174 v178 v182 v435), ∀ a x, ((![v435, v146] : Fin 2 → IVec S16 32) a x).toNat < S8x10000.size a := fun v122 v126 v130 v134 v138 v142 v146 v150 v154 v158 v162 v166 v170 v174 v178 v182 v435 k0_hw8 => k0_hw8.2.2.2.2.2.2.1
theorem k0_idx120_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v435 : IVec S16 32) (k0_hw8 : k0_chk8 v122 v126 v130 v134 v138 v142 v146 v150 v154 v158 v162 v166 v170 v174 v178 v182 v435), ∀ a x, ((![v435, v150] : Fin 2 → IVec S16 32) a x).toNat < S8x10000.size a := fun v122 v126 v130 v134 v138 v142 v146 v150 v154 v158 v162 v166 v170 v174 v178 v182 v435 k0_hw8 => k0_hw8.2.2.2.2.2.2.2.1
theorem k0_idx121_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v435 : IVec S16 32) (k0_hw8 : k0_chk8 v122 v126 v130 v134 v138 v142 v146 v150 v154 v158 v162 v166 v170 v174 v178 v182 v435), ∀ a x, ((![v435, v154] : Fin 2 → IVec S16 32) a x).toNat < S8x10000.size a := fun v122 v126 v130 v134 v138 v142 v146 v150 v154 v158 v162 v166 v170 v174 v178 v182 v435 k0_hw8 => k0_hw8.2.2.2.2.2.2.2.2.1
theorem k0_idx122_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v435 : IVec S16 32) (k0_hw8 : k0_chk8 v122 v126 v130 v134 v138 v142 v146 v150 v154 v158 v162 v166 v170 v174 v178 v182 v435), ∀ a x, ((![v435, v158] : Fin 2 → IVec S16 32) a x).toNat < S8x10000.size a := fun v122 v126 v130 v134 v138 v142 v146 v150 v154 v158 v162 v166 v170 v174 v178 v182 v435 k0_hw8 => k0_hw8.2.2.2.2.2.2.2.2.2.1
theorem k0_idx123_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v435 : IVec S16 32) (k0_hw8 : k0_chk8 v122 v126 v130 v134 v138 v142 v146 v150 v154 v158 v162 v166 v170 v174 v178 v182 v435), ∀ a x, ((![v435, v162] : Fin 2 → IVec S16 32) a x).toNat < S8x10000.size a := fun v122 v126 v130 v134 v138 v142 v146 v150 v154 v158 v162 v166 v170 v174 v178 v182 v435 k0_hw8 => k0_hw8.2.2.2.2.2.2.2.2.2.2.1
theorem k0_idx124_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v435 : IVec S16 32) (k0_hw8 : k0_chk8 v122 v126 v130 v134 v138 v142 v146 v150 v154 v158 v162 v166 v170 v174 v178 v182 v435), ∀ a x, ((![v435, v166] : Fin 2 → IVec S16 32) a x).toNat < S8x10000.size a := fun v122 v126 v130 v134 v138 v142 v146 v150 v154 v158 v162 v166 v170 v174 v178 v182 v435 k0_hw8 => k0_hw8.2.2.2.2.2.2.2.2.2.2.2.1
theorem k0_idx125_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v435 : IVec S16 32) (k0_hw8 : k0_chk8 v122 v126 v130 v134 v138 v142 v146 v150 v154 v158 v162 v166 v170 v174 v178 v182 v435), ∀ a x, ((![v435, v170] : Fin 2 → IVec S16 32) a x).toNat < S8x10000.size a := fun v122 v126 v130 v134 v138 v142 v146 v150 v154 v158 v162 v166 v170 v174 v178 v182 v435 k0_hw8 => k0_hw8.2.2.2.2.2.2.2.2.2.2.2.2.1
theorem k0_idx126_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v435 : IVec S16 32) (k0_hw8 : k0_chk8 v122 v126 v130 v134 v138 v142 v146 v150 v154 v158 v162 v166 v170 v174 v178 v182 v435), ∀ a x, ((![v435, v174] : Fin 2 → IVec S16 32) a x).toNat < S8x10000.size a := fun v122 v126 v130 v134 v138 v142 v146 v150 v154 v158 v162 v166 v170 v174 v178 v182 v435 k0_hw8 => k0_hw8.2.2.2.2.2.2.2.2.2.2.2.2.2.1
theorem k0_idx127_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v435 : IVec S16 32) (k0_hw8 : k0_chk8 v122 v126 v130 v134 v138 v142 v146 v150 v154 v158 v162 v166 v170 v174 v178 v182 v435), ∀ a x, ((![v435, v178] : Fin 2 → IVec S16 32) a x).toNat < S8x10000.size a := fun v122 v126 v130 v134 v138 v142 v146 v150 v154 v158 v162 v166 v170 v174 v178 v182 v435 k0_hw8 => k0_hw8.2.2.2.2.2.2.2.2.2.2.2.2.2.2.1
theorem k0_idx128_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v435 : IVec S16 32) (k0_hw8 : k0_chk8 v122 v126 v130 v134 v138 v142 v146 v150 v154 v158 v162 v166 v170 v174 v178 v182 v435), ∀ a x, ((![v435, v182] : Fin 2 → IVec S16 32) a x).toNat < S8x10000.size a := fun v122 v126 v130 v134 v138 v142 v146 v150 v154 v158 v162 v166 v170 v174 v178 v182 v435 k0_hw8 => k0_hw8.2.2.2.2.2.2.2.2.2.2.2.2.2.2.2
def k0_off27 (k0_t3 : Fin k0_t3_loop.trips) : Fin 3 → Nat :=
  let c0_i32_148 : BitVec 32 := 0#32
  let v467 : Index := Scalar.indexCast c0_i32_148
  let c7_i32_149 : BitVec 32 := 7#32
  let v468 : Index := Scalar.indexCast c7_i32_149
  let c0_i32_101 : BitVec 32 := 0#32
  let c0_i32_64 : BitVec 32 := 0#32
  let c1_i32_65 : BitVec 32 := 1#32
  let arg14 : BitVec 32 := Scf.iv c0_i32_64 c1_i32_65 k0_t3
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v469 : Index := Scalar.indexCast v118
  ![0, 7, v469.toNat]
def k0_off28 (i : grid0.Coords) (k0_t1 : Fin k0_t1_loop.trips) (k0_t2 : Fin k0_t2_loop.trips) (c0_i32_48 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_22 : BitVec 32 := 4#32
  let v19 : BitVec 32 := Scalar.muli v1 c4_i32_22
  let c0_i32_0 : BitVec 32 := 0#32
  let c1_i32 : BitVec 32 := 1#32
  let arg12 : BitVec 32 := Scf.iv c0_i32_0 c1_i32 k0_t1
  let v20 : BitVec 32 := Scalar.addi v19 arg12
  let c0_i32_23 : BitVec 32 := 0#32
  let v22 : BitVec 1 := Scalar.cmpi .sgt v20 c0_i32_23
  let v23 : BitVec 32 := Scalar.extui v22
  let c0_i32_24 : BitVec 32 := 0#32
  let v24 : BitVec 1 := Scalar.cmpi .slt v20 c0_i32_24
  let v25 : BitVec 32 := Scalar.extui v24
  let v26 : BitVec 32 := Scalar.subi v23 v25
  let c16_i32 : BitVec 32 := 16#32
  let c0_i32_25 : BitVec 32 := 0#32
  let v27 : BitVec 1 := Scalar.cmpi .sgt c16_i32 c0_i32_25
  let v28 : BitVec 32 := Scalar.extui v27
  let c0_i32_26 : BitVec 32 := 0#32
  let v29 : BitVec 1 := Scalar.cmpi .slt c16_i32 c0_i32_26
  let v30 : BitVec 32 := Scalar.extui v29
  let v31 : BitVec 32 := Scalar.subi v28 v30
  let v32 : BitVec 1 := Scalar.cmpi .ne v26 v31
  let v33 : BitVec 32 := Scalar.remsi v20 c16_i32
  let c0_i32_27 : BitVec 32 := 0#32
  let v34 : BitVec 1 := Scalar.cmpi .ne v33 c0_i32_27
  let v35 : BitVec 1 := Scalar.andi v32 v34
  let v21 : BitVec 32 := Scalar.divsi v20 c16_i32
  let c1_i32_28 : BitVec 32 := 1#32
  let v36 : BitVec 32 := Scalar.subi v21 c1_i32_28
  let v37 : BitVec 32 := Scalar.select v35 v36 v21
  let c16_i32_29 : BitVec 32 := 16#32
  let c0_i32_30 : BitVec 32 := 0#32
  let v38 : BitVec 1 := Scalar.cmpi .eq c16_i32_29 c0_i32_30
  let c1_i32_31 : BitVec 32 := 1#32
  let v39 : BitVec 32 := Scalar.select v38 c1_i32_31 c16_i32_29
  let v40 : BitVec 32 := Scalar.remsi v20 v39
  let c0_i32_33 : BitVec 32 := 0#32
  let v42 : BitVec 1 := Scalar.cmpi .slt v40 c0_i32_33
  let c0_i32_34 : BitVec 32 := 0#32
  let v43 : BitVec 1 := Scalar.cmpi .slt v39 c0_i32_34
  let v44 : BitVec 1 := Scalar.xori v42 v43
  let c0_i32_32 : BitVec 32 := 0#32
  let v41 : BitVec 1 := Scalar.cmpi .ne v40 c0_i32_32
  let v45 : BitVec 1 := Scalar.andi v44 v41
  let v46 : BitVec 32 := Scalar.addi v40 v39
  let v47 : BitVec 32 := Scalar.select v45 v46 v40
  let c8_i32 : BitVec 32 := 8#32
  let v48 : BitVec 32 := Scalar.muli v47 c8_i32
  let c0_i32_44 : BitVec 32 := 0#32
  let c1_i32_45 : BitVec 32 := 1#32
  let arg13 : BitVec 32 := Scf.iv c0_i32_44 c1_i32_45 k0_t2
  let c2_i32_47 : BitVec 32 := 2#32
  let v58 : BitVec 32 := Scalar.muli arg13 c2_i32_47
  let v59 : BitVec 32 := Scalar.addi v58 c0_i32_48
  let c512_i32 : BitVec 32 := 512#32
  let v60 : BitVec 32 := Scalar.muli v59 c512_i32
  let c4488_i32_49 : BitVec 32 := 4488#32
  let v61 : BitVec 32 := Scalar.minsi v60 c4488_i32_49
  let v62 : BitVec 32 := v61
  ![v37.toNat, v48.toNat, v62.toNat]
def k0_mult4 (k0_t2 : Fin k0_t2_loop.trips) : BitVec 32 :=
  let c0_i32_44 : BitVec 32 := 0#32
  let c1_i32_45 : BitVec 32 := 1#32
  let arg13 : BitVec 32 := Scf.iv c0_i32_44 c1_i32_45 k0_t2
  let c2_i32_72 : BitVec 32 := 2#32
  let v87 : BitVec 32 := Scalar.muli arg13 c2_i32_72
  let c1_i32_73 : BitVec 32 := 1#32
  let v88 : BitVec 32 := Scalar.addi v87 c1_i32_73
  let c512_i32_74 : BitVec 32 := 512#32
  let v89 : BitVec 32 := Scalar.muli v88 c512_i32_74
  let c4488_i32_75 : BitVec 32 := 4488#32
  let v90 : BitVec 32 := Scalar.minsi v89 c4488_i32_75
  v90
def k0_cond3 (k0_t2 : Fin k0_t2_loop.trips) : BitVec 1 :=
  let c0_i32_44 : BitVec 32 := 0#32
  let c1_i32_45 : BitVec 32 := 1#32
  let arg13 : BitVec 32 := Scf.iv c0_i32_44 c1_i32_45 k0_t2
  let c2_i32_72 : BitVec 32 := 2#32
  let v87 : BitVec 32 := Scalar.muli arg13 c2_i32_72
  let c1_i32_73 : BitVec 32 := 1#32
  let v88 : BitVec 32 := Scalar.addi v87 c1_i32_73
  let c1_i32_85 : BitVec 32 := 1#32
  let v98 : BitVec 32 := Scalar.addi v88 c1_i32_85
  let c10_i32_86 : BitVec 32 := 10#32
  let v99 : BitVec 1 := Scalar.cmpi .slt v98 c10_i32_86
  let v100 : BitVec 32 := Scalar.extui v99
  let c0_i32_87 : BitVec 32 := 0#32
  let v101 : BitVec 1 := Scalar.cmpi .ne v100 c0_i32_87
  v101

def k0_mult5 (k0_t2 : Fin k0_t2_loop.trips) : BitVec 32 :=
  let c0_i32_44 : BitVec 32 := 0#32
  let c1_i32_45 : BitVec 32 := 1#32
  let arg13 : BitVec 32 := Scf.iv c0_i32_44 c1_i32_45 k0_t2
  let c2_i32_72 : BitVec 32 := 2#32
  let v87 : BitVec 32 := Scalar.muli arg13 c2_i32_72
  let c1_i32_73 : BitVec 32 := 1#32
  let v88 : BitVec 32 := Scalar.addi v87 c1_i32_73
  let c1_i32_100 : BitVec 32 := 1#32
  let v116 : BitVec 32 := Scalar.addi v88 c1_i32_100
  let c512_i32_101 : BitVec 32 := 512#32
  let v117 : BitVec 32 := Scalar.muli v116 c512_i32_101
  let c4488_i32_102 : BitVec 32 := 4488#32
  let v118 : BitVec 32 := Scalar.minsi v117 c4488_i32_102
  v118
def k0_off29 (k0_t2 : Fin k0_t2_loop.trips) : Fin 2 → Nat :=
  let c0_i32_106 : BitVec 32 := 0#32
  let c0_i32_44 : BitVec 32 := 0#32
  let c1_i32_45 : BitVec 32 := 1#32
  let arg13 : BitVec 32 := Scf.iv c0_i32_44 c1_i32_45 k0_t2
  let c2_i32_72 : BitVec 32 := 2#32
  let v87 : BitVec 32 := Scalar.muli arg13 c2_i32_72
  let c1_i32_73 : BitVec 32 := 1#32
  let v88 : BitVec 32 := Scalar.addi v87 c1_i32_73
  let c1_i32_100 : BitVec 32 := 1#32
  let v116 : BitVec 32 := Scalar.addi v88 c1_i32_100
  let c512_i32_101 : BitVec 32 := 512#32
  let v117 : BitVec 32 := Scalar.muli v116 c512_i32_101
  let c4488_i32_102 : BitVec 32 := 4488#32
  let v118 : BitVec 32 := Scalar.minsi v117 c4488_i32_102
  let v119 : BitVec 32 := v118
  ![0, v119.toNat]
@[reducible] def k0_t4_loop : Scf.Loop 32 :=
  let c0_i32_91 : BitVec 32 := 0#32
  let c32_i32_92 : BitVec 32 := 32#32
  let v107 : BitVec 32 := Scalar.addi c0_i32_91 c32_i32_92
  let c1_i32_93 : BitVec 32 := 1#32
  ⟨c0_i32_91, v107, c1_i32_93⟩
def k0_off30 (k0_t4 : Fin k0_t4_loop.trips) : Fin 3 → Nat :=
  let c1_i32_103 : BitVec 32 := 1#32
  let v119 : Index := Scalar.indexCast c1_i32_103
  let c0_i32_104 : BitVec 32 := 0#32
  let v120 : Index := Scalar.indexCast c0_i32_104
  let c0_i32_101 : BitVec 32 := 0#32
  let c0_i32_91 : BitVec 32 := 0#32
  let c1_i32_93 : BitVec 32 := 1#32
  let arg14 : BitVec 32 := Scf.iv c0_i32_91 c1_i32_93 k0_t4
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v121 : Index := Scalar.indexCast v118
  ![1, 0, v121.toNat]
def k0_off31 (k0_t4 : Fin k0_t4_loop.trips) : Fin 3 → Nat :=
  let c1_i32_105 : BitVec 32 := 1#32
  let v123 : Index := Scalar.indexCast c1_i32_105
  let c1_i32_106 : BitVec 32 := 1#32
  let v124 : Index := Scalar.indexCast c1_i32_106
  let c0_i32_101 : BitVec 32 := 0#32
  let c0_i32_91 : BitVec 32 := 0#32
  let c1_i32_93 : BitVec 32 := 1#32
  let arg14 : BitVec 32 := Scf.iv c0_i32_91 c1_i32_93 k0_t4
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v125 : Index := Scalar.indexCast v118
  ![1, 1, v125.toNat]
def k0_off32 (k0_t4 : Fin k0_t4_loop.trips) : Fin 3 → Nat :=
  let c1_i32_107 : BitVec 32 := 1#32
  let v127 : Index := Scalar.indexCast c1_i32_107
  let c2_i32_108 : BitVec 32 := 2#32
  let v128 : Index := Scalar.indexCast c2_i32_108
  let c0_i32_101 : BitVec 32 := 0#32
  let c0_i32_91 : BitVec 32 := 0#32
  let c1_i32_93 : BitVec 32 := 1#32
  let arg14 : BitVec 32 := Scf.iv c0_i32_91 c1_i32_93 k0_t4
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v129 : Index := Scalar.indexCast v118
  ![1, 2, v129.toNat]
def k0_off33 (k0_t4 : Fin k0_t4_loop.trips) : Fin 3 → Nat :=
  let c1_i32_109 : BitVec 32 := 1#32
  let v131 : Index := Scalar.indexCast c1_i32_109
  let c3_i32 : BitVec 32 := 3#32
  let v132 : Index := Scalar.indexCast c3_i32
  let c0_i32_101 : BitVec 32 := 0#32
  let c0_i32_91 : BitVec 32 := 0#32
  let c1_i32_93 : BitVec 32 := 1#32
  let arg14 : BitVec 32 := Scf.iv c0_i32_91 c1_i32_93 k0_t4
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v133 : Index := Scalar.indexCast v118
  ![1, 3, v133.toNat]
def k0_off34 (k0_t4 : Fin k0_t4_loop.trips) : Fin 3 → Nat :=
  let c1_i32_110 : BitVec 32 := 1#32
  let v135 : Index := Scalar.indexCast c1_i32_110
  let c4_i32_111 : BitVec 32 := 4#32
  let v136 : Index := Scalar.indexCast c4_i32_111
  let c0_i32_101 : BitVec 32 := 0#32
  let c0_i32_91 : BitVec 32 := 0#32
  let c1_i32_93 : BitVec 32 := 1#32
  let arg14 : BitVec 32 := Scf.iv c0_i32_91 c1_i32_93 k0_t4
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v137 : Index := Scalar.indexCast v118
  ![1, 4, v137.toNat]
def k0_off35 (k0_t4 : Fin k0_t4_loop.trips) : Fin 3 → Nat :=
  let c1_i32_112 : BitVec 32 := 1#32
  let v139 : Index := Scalar.indexCast c1_i32_112
  let c5_i32_113 : BitVec 32 := 5#32
  let v140 : Index := Scalar.indexCast c5_i32_113
  let c0_i32_101 : BitVec 32 := 0#32
  let c0_i32_91 : BitVec 32 := 0#32
  let c1_i32_93 : BitVec 32 := 1#32
  let arg14 : BitVec 32 := Scf.iv c0_i32_91 c1_i32_93 k0_t4
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v141 : Index := Scalar.indexCast v118
  ![1, 5, v141.toNat]
def k0_off36 (k0_t4 : Fin k0_t4_loop.trips) : Fin 3 → Nat :=
  let c1_i32_114 : BitVec 32 := 1#32
  let v143 : Index := Scalar.indexCast c1_i32_114
  let c6_i32 : BitVec 32 := 6#32
  let v144 : Index := Scalar.indexCast c6_i32
  let c0_i32_101 : BitVec 32 := 0#32
  let c0_i32_91 : BitVec 32 := 0#32
  let c1_i32_93 : BitVec 32 := 1#32
  let arg14 : BitVec 32 := Scf.iv c0_i32_91 c1_i32_93 k0_t4
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v145 : Index := Scalar.indexCast v118
  ![1, 6, v145.toNat]
def k0_off37 (k0_t4 : Fin k0_t4_loop.trips) : Fin 3 → Nat :=
  let c1_i32_115 : BitVec 32 := 1#32
  let v147 : Index := Scalar.indexCast c1_i32_115
  let c7_i32 : BitVec 32 := 7#32
  let v148 : Index := Scalar.indexCast c7_i32
  let c0_i32_101 : BitVec 32 := 0#32
  let c0_i32_91 : BitVec 32 := 0#32
  let c1_i32_93 : BitVec 32 := 1#32
  let arg14 : BitVec 32 := Scf.iv c0_i32_91 c1_i32_93 k0_t4
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v149 : Index := Scalar.indexCast v118
  ![1, 7, v149.toNat]
def k0_off38 (k0_t4 : Fin k0_t4_loop.trips) : Fin 3 → Nat :=
  let c1_i32_116 : BitVec 32 := 1#32
  let v151 : Index := Scalar.indexCast c1_i32_116
  let c8_i32_117 : BitVec 32 := 8#32
  let v152 : Index := Scalar.indexCast c8_i32_117
  let c0_i32_101 : BitVec 32 := 0#32
  let c0_i32_91 : BitVec 32 := 0#32
  let c1_i32_93 : BitVec 32 := 1#32
  let arg14 : BitVec 32 := Scf.iv c0_i32_91 c1_i32_93 k0_t4
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v153 : Index := Scalar.indexCast v118
  ![1, 8, v153.toNat]
def k0_off39 (k0_t4 : Fin k0_t4_loop.trips) : Fin 3 → Nat :=
  let c1_i32_118 : BitVec 32 := 1#32
  let v155 : Index := Scalar.indexCast c1_i32_118
  let c9_i32 : BitVec 32 := 9#32
  let v156 : Index := Scalar.indexCast c9_i32
  let c0_i32_101 : BitVec 32 := 0#32
  let c0_i32_91 : BitVec 32 := 0#32
  let c1_i32_93 : BitVec 32 := 1#32
  let arg14 : BitVec 32 := Scf.iv c0_i32_91 c1_i32_93 k0_t4
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v157 : Index := Scalar.indexCast v118
  ![1, 9, v157.toNat]
def k0_off40 (k0_t4 : Fin k0_t4_loop.trips) : Fin 3 → Nat :=
  let c1_i32_119 : BitVec 32 := 1#32
  let v159 : Index := Scalar.indexCast c1_i32_119
  let c10_i32_120 : BitVec 32 := 10#32
  let v160 : Index := Scalar.indexCast c10_i32_120
  let c0_i32_101 : BitVec 32 := 0#32
  let c0_i32_91 : BitVec 32 := 0#32
  let c1_i32_93 : BitVec 32 := 1#32
  let arg14 : BitVec 32 := Scf.iv c0_i32_91 c1_i32_93 k0_t4
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v161 : Index := Scalar.indexCast v118
  ![1, 10, v161.toNat]
def k0_off41 (k0_t4 : Fin k0_t4_loop.trips) : Fin 3 → Nat :=
  let c1_i32_121 : BitVec 32 := 1#32
  let v163 : Index := Scalar.indexCast c1_i32_121
  let c11_i32 : BitVec 32 := 11#32
  let v164 : Index := Scalar.indexCast c11_i32
  let c0_i32_101 : BitVec 32 := 0#32
  let c0_i32_91 : BitVec 32 := 0#32
  let c1_i32_93 : BitVec 32 := 1#32
  let arg14 : BitVec 32 := Scf.iv c0_i32_91 c1_i32_93 k0_t4
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v165 : Index := Scalar.indexCast v118
  ![1, 11, v165.toNat]
def k0_off42 (k0_t4 : Fin k0_t4_loop.trips) : Fin 3 → Nat :=
  let c1_i32_122 : BitVec 32 := 1#32
  let v167 : Index := Scalar.indexCast c1_i32_122
  let c12_i32 : BitVec 32 := 12#32
  let v168 : Index := Scalar.indexCast c12_i32
  let c0_i32_101 : BitVec 32 := 0#32
  let c0_i32_91 : BitVec 32 := 0#32
  let c1_i32_93 : BitVec 32 := 1#32
  let arg14 : BitVec 32 := Scf.iv c0_i32_91 c1_i32_93 k0_t4
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v169 : Index := Scalar.indexCast v118
  ![1, 12, v169.toNat]
def k0_off43 (k0_t4 : Fin k0_t4_loop.trips) : Fin 3 → Nat :=
  let c1_i32_123 : BitVec 32 := 1#32
  let v171 : Index := Scalar.indexCast c1_i32_123
  let c13_i32 : BitVec 32 := 13#32
  let v172 : Index := Scalar.indexCast c13_i32
  let c0_i32_101 : BitVec 32 := 0#32
  let c0_i32_91 : BitVec 32 := 0#32
  let c1_i32_93 : BitVec 32 := 1#32
  let arg14 : BitVec 32 := Scf.iv c0_i32_91 c1_i32_93 k0_t4
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v173 : Index := Scalar.indexCast v118
  ![1, 13, v173.toNat]
def k0_off44 (k0_t4 : Fin k0_t4_loop.trips) : Fin 3 → Nat :=
  let c1_i32_124 : BitVec 32 := 1#32
  let v175 : Index := Scalar.indexCast c1_i32_124
  let c14_i32 : BitVec 32 := 14#32
  let v176 : Index := Scalar.indexCast c14_i32
  let c0_i32_101 : BitVec 32 := 0#32
  let c0_i32_91 : BitVec 32 := 0#32
  let c1_i32_93 : BitVec 32 := 1#32
  let arg14 : BitVec 32 := Scf.iv c0_i32_91 c1_i32_93 k0_t4
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v177 : Index := Scalar.indexCast v118
  ![1, 14, v177.toNat]
def k0_off45 (k0_t4 : Fin k0_t4_loop.trips) : Fin 3 → Nat :=
  let c1_i32_125 : BitVec 32 := 1#32
  let v179 : Index := Scalar.indexCast c1_i32_125
  let c15_i32 : BitVec 32 := 15#32
  let v180 : Index := Scalar.indexCast c15_i32
  let c0_i32_101 : BitVec 32 := 0#32
  let c0_i32_91 : BitVec 32 := 0#32
  let c1_i32_93 : BitVec 32 := 1#32
  let arg14 : BitVec 32 := Scf.iv c0_i32_91 c1_i32_93 k0_t4
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v181 : Index := Scalar.indexCast v118
  ![1, 15, v181.toNat]

def k0_chk9 (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v183 : IVec S16 32) : Prop :=
  (∀ a x, ((![v183, v122] : Fin 2 → IVec S16 32) a x).toNat < S8x10000.size a) ∧
  (∀ a x, ((![v183, v126] : Fin 2 → IVec S16 32) a x).toNat < S8x10000.size a) ∧
  (∀ a x, ((![v183, v130] : Fin 2 → IVec S16 32) a x).toNat < S8x10000.size a) ∧
  (∀ a x, ((![v183, v134] : Fin 2 → IVec S16 32) a x).toNat < S8x10000.size a) ∧
  (∀ a x, ((![v183, v138] : Fin 2 → IVec S16 32) a x).toNat < S8x10000.size a) ∧
  (∀ a x, ((![v183, v142] : Fin 2 → IVec S16 32) a x).toNat < S8x10000.size a) ∧
  (∀ a x, ((![v183, v146] : Fin 2 → IVec S16 32) a x).toNat < S8x10000.size a) ∧
  (∀ a x, ((![v183, v150] : Fin 2 → IVec S16 32) a x).toNat < S8x10000.size a) ∧
  (∀ a x, ((![v183, v154] : Fin 2 → IVec S16 32) a x).toNat < S8x10000.size a) ∧
  (∀ a x, ((![v183, v158] : Fin 2 → IVec S16 32) a x).toNat < S8x10000.size a) ∧
  (∀ a x, ((![v183, v162] : Fin 2 → IVec S16 32) a x).toNat < S8x10000.size a) ∧
  (∀ a x, ((![v183, v166] : Fin 2 → IVec S16 32) a x).toNat < S8x10000.size a) ∧
  (∀ a x, ((![v183, v170] : Fin 2 → IVec S16 32) a x).toNat < S8x10000.size a) ∧
  (∀ a x, ((![v183, v174] : Fin 2 → IVec S16 32) a x).toNat < S8x10000.size a) ∧
  (∀ a x, ((![v183, v178] : Fin 2 → IVec S16 32) a x).toNat < S8x10000.size a) ∧
  (∀ a x, ((![v183, v182] : Fin 2 → IVec S16 32) a x).toNat < S8x10000.size a)
theorem k0_idx129_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v183 : IVec S16 32) (k0_hw9 : k0_chk9 v122 v126 v130 v134 v138 v142 v146 v150 v154 v158 v162 v166 v170 v174 v178 v182 v183), ∀ a x, ((![v183, v122] : Fin 2 → IVec S16 32) a x).toNat < S8x10000.size a := fun v122 v126 v130 v134 v138 v142 v146 v150 v154 v158 v162 v166 v170 v174 v178 v182 v183 k0_hw9 => k0_hw9.1
theorem k0_idx130_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v183 : IVec S16 32) (k0_hw9 : k0_chk9 v122 v126 v130 v134 v138 v142 v146 v150 v154 v158 v162 v166 v170 v174 v178 v182 v183), ∀ a x, ((![v183, v126] : Fin 2 → IVec S16 32) a x).toNat < S8x10000.size a := fun v122 v126 v130 v134 v138 v142 v146 v150 v154 v158 v162 v166 v170 v174 v178 v182 v183 k0_hw9 => k0_hw9.2.1
theorem k0_idx131_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v183 : IVec S16 32) (k0_hw9 : k0_chk9 v122 v126 v130 v134 v138 v142 v146 v150 v154 v158 v162 v166 v170 v174 v178 v182 v183), ∀ a x, ((![v183, v130] : Fin 2 → IVec S16 32) a x).toNat < S8x10000.size a := fun v122 v126 v130 v134 v138 v142 v146 v150 v154 v158 v162 v166 v170 v174 v178 v182 v183 k0_hw9 => k0_hw9.2.2.1
theorem k0_idx132_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v183 : IVec S16 32) (k0_hw9 : k0_chk9 v122 v126 v130 v134 v138 v142 v146 v150 v154 v158 v162 v166 v170 v174 v178 v182 v183), ∀ a x, ((![v183, v134] : Fin 2 → IVec S16 32) a x).toNat < S8x10000.size a := fun v122 v126 v130 v134 v138 v142 v146 v150 v154 v158 v162 v166 v170 v174 v178 v182 v183 k0_hw9 => k0_hw9.2.2.2.1
theorem k0_idx133_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v183 : IVec S16 32) (k0_hw9 : k0_chk9 v122 v126 v130 v134 v138 v142 v146 v150 v154 v158 v162 v166 v170 v174 v178 v182 v183), ∀ a x, ((![v183, v138] : Fin 2 → IVec S16 32) a x).toNat < S8x10000.size a := fun v122 v126 v130 v134 v138 v142 v146 v150 v154 v158 v162 v166 v170 v174 v178 v182 v183 k0_hw9 => k0_hw9.2.2.2.2.1
theorem k0_idx134_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v183 : IVec S16 32) (k0_hw9 : k0_chk9 v122 v126 v130 v134 v138 v142 v146 v150 v154 v158 v162 v166 v170 v174 v178 v182 v183), ∀ a x, ((![v183, v142] : Fin 2 → IVec S16 32) a x).toNat < S8x10000.size a := fun v122 v126 v130 v134 v138 v142 v146 v150 v154 v158 v162 v166 v170 v174 v178 v182 v183 k0_hw9 => k0_hw9.2.2.2.2.2.1
theorem k0_idx135_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v183 : IVec S16 32) (k0_hw9 : k0_chk9 v122 v126 v130 v134 v138 v142 v146 v150 v154 v158 v162 v166 v170 v174 v178 v182 v183), ∀ a x, ((![v183, v146] : Fin 2 → IVec S16 32) a x).toNat < S8x10000.size a := fun v122 v126 v130 v134 v138 v142 v146 v150 v154 v158 v162 v166 v170 v174 v178 v182 v183 k0_hw9 => k0_hw9.2.2.2.2.2.2.1
theorem k0_idx136_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v183 : IVec S16 32) (k0_hw9 : k0_chk9 v122 v126 v130 v134 v138 v142 v146 v150 v154 v158 v162 v166 v170 v174 v178 v182 v183), ∀ a x, ((![v183, v150] : Fin 2 → IVec S16 32) a x).toNat < S8x10000.size a := fun v122 v126 v130 v134 v138 v142 v146 v150 v154 v158 v162 v166 v170 v174 v178 v182 v183 k0_hw9 => k0_hw9.2.2.2.2.2.2.2.1
theorem k0_idx137_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v183 : IVec S16 32) (k0_hw9 : k0_chk9 v122 v126 v130 v134 v138 v142 v146 v150 v154 v158 v162 v166 v170 v174 v178 v182 v183), ∀ a x, ((![v183, v154] : Fin 2 → IVec S16 32) a x).toNat < S8x10000.size a := fun v122 v126 v130 v134 v138 v142 v146 v150 v154 v158 v162 v166 v170 v174 v178 v182 v183 k0_hw9 => k0_hw9.2.2.2.2.2.2.2.2.1
theorem k0_idx138_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v183 : IVec S16 32) (k0_hw9 : k0_chk9 v122 v126 v130 v134 v138 v142 v146 v150 v154 v158 v162 v166 v170 v174 v178 v182 v183), ∀ a x, ((![v183, v158] : Fin 2 → IVec S16 32) a x).toNat < S8x10000.size a := fun v122 v126 v130 v134 v138 v142 v146 v150 v154 v158 v162 v166 v170 v174 v178 v182 v183 k0_hw9 => k0_hw9.2.2.2.2.2.2.2.2.2.1
theorem k0_idx139_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v183 : IVec S16 32) (k0_hw9 : k0_chk9 v122 v126 v130 v134 v138 v142 v146 v150 v154 v158 v162 v166 v170 v174 v178 v182 v183), ∀ a x, ((![v183, v162] : Fin 2 → IVec S16 32) a x).toNat < S8x10000.size a := fun v122 v126 v130 v134 v138 v142 v146 v150 v154 v158 v162 v166 v170 v174 v178 v182 v183 k0_hw9 => k0_hw9.2.2.2.2.2.2.2.2.2.2.1
theorem k0_idx140_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v183 : IVec S16 32) (k0_hw9 : k0_chk9 v122 v126 v130 v134 v138 v142 v146 v150 v154 v158 v162 v166 v170 v174 v178 v182 v183), ∀ a x, ((![v183, v166] : Fin 2 → IVec S16 32) a x).toNat < S8x10000.size a := fun v122 v126 v130 v134 v138 v142 v146 v150 v154 v158 v162 v166 v170 v174 v178 v182 v183 k0_hw9 => k0_hw9.2.2.2.2.2.2.2.2.2.2.2.1
theorem k0_idx141_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v183 : IVec S16 32) (k0_hw9 : k0_chk9 v122 v126 v130 v134 v138 v142 v146 v150 v154 v158 v162 v166 v170 v174 v178 v182 v183), ∀ a x, ((![v183, v170] : Fin 2 → IVec S16 32) a x).toNat < S8x10000.size a := fun v122 v126 v130 v134 v138 v142 v146 v150 v154 v158 v162 v166 v170 v174 v178 v182 v183 k0_hw9 => k0_hw9.2.2.2.2.2.2.2.2.2.2.2.2.1
theorem k0_idx142_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v183 : IVec S16 32) (k0_hw9 : k0_chk9 v122 v126 v130 v134 v138 v142 v146 v150 v154 v158 v162 v166 v170 v174 v178 v182 v183), ∀ a x, ((![v183, v174] : Fin 2 → IVec S16 32) a x).toNat < S8x10000.size a := fun v122 v126 v130 v134 v138 v142 v146 v150 v154 v158 v162 v166 v170 v174 v178 v182 v183 k0_hw9 => k0_hw9.2.2.2.2.2.2.2.2.2.2.2.2.2.1
theorem k0_idx143_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v183 : IVec S16 32) (k0_hw9 : k0_chk9 v122 v126 v130 v134 v138 v142 v146 v150 v154 v158 v162 v166 v170 v174 v178 v182 v183), ∀ a x, ((![v183, v178] : Fin 2 → IVec S16 32) a x).toNat < S8x10000.size a := fun v122 v126 v130 v134 v138 v142 v146 v150 v154 v158 v162 v166 v170 v174 v178 v182 v183 k0_hw9 => k0_hw9.2.2.2.2.2.2.2.2.2.2.2.2.2.2.1
theorem k0_idx144_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v183 : IVec S16 32) (k0_hw9 : k0_chk9 v122 v126 v130 v134 v138 v142 v146 v150 v154 v158 v162 v166 v170 v174 v178 v182 v183), ∀ a x, ((![v183, v182] : Fin 2 → IVec S16 32) a x).toNat < S8x10000.size a := fun v122 v126 v130 v134 v138 v142 v146 v150 v154 v158 v162 v166 v170 v174 v178 v182 v183 k0_hw9 => k0_hw9.2.2.2.2.2.2.2.2.2.2.2.2.2.2.2
def k0_off46 (k0_t4 : Fin k0_t4_loop.trips) : Fin 3 → Nat :=
  let c1_i32_127 : BitVec 32 := 1#32
  let v215 : Index := Scalar.indexCast c1_i32_127
  let c0_i32_128 : BitVec 32 := 0#32
  let v216 : Index := Scalar.indexCast c0_i32_128
  let c0_i32_101 : BitVec 32 := 0#32
  let c0_i32_91 : BitVec 32 := 0#32
  let c1_i32_93 : BitVec 32 := 1#32
  let arg14 : BitVec 32 := Scf.iv c0_i32_91 c1_i32_93 k0_t4
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v217 : Index := Scalar.indexCast v118
  ![1, 0, v217.toNat]

def k0_chk10 (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v219 : IVec S16 32) : Prop :=
  (∀ a x, ((![v219, v122] : Fin 2 → IVec S16 32) a x).toNat < S8x10000.size a) ∧
  (∀ a x, ((![v219, v126] : Fin 2 → IVec S16 32) a x).toNat < S8x10000.size a) ∧
  (∀ a x, ((![v219, v130] : Fin 2 → IVec S16 32) a x).toNat < S8x10000.size a) ∧
  (∀ a x, ((![v219, v134] : Fin 2 → IVec S16 32) a x).toNat < S8x10000.size a) ∧
  (∀ a x, ((![v219, v138] : Fin 2 → IVec S16 32) a x).toNat < S8x10000.size a) ∧
  (∀ a x, ((![v219, v142] : Fin 2 → IVec S16 32) a x).toNat < S8x10000.size a) ∧
  (∀ a x, ((![v219, v146] : Fin 2 → IVec S16 32) a x).toNat < S8x10000.size a) ∧
  (∀ a x, ((![v219, v150] : Fin 2 → IVec S16 32) a x).toNat < S8x10000.size a) ∧
  (∀ a x, ((![v219, v154] : Fin 2 → IVec S16 32) a x).toNat < S8x10000.size a) ∧
  (∀ a x, ((![v219, v158] : Fin 2 → IVec S16 32) a x).toNat < S8x10000.size a) ∧
  (∀ a x, ((![v219, v162] : Fin 2 → IVec S16 32) a x).toNat < S8x10000.size a) ∧
  (∀ a x, ((![v219, v166] : Fin 2 → IVec S16 32) a x).toNat < S8x10000.size a) ∧
  (∀ a x, ((![v219, v170] : Fin 2 → IVec S16 32) a x).toNat < S8x10000.size a) ∧
  (∀ a x, ((![v219, v174] : Fin 2 → IVec S16 32) a x).toNat < S8x10000.size a) ∧
  (∀ a x, ((![v219, v178] : Fin 2 → IVec S16 32) a x).toNat < S8x10000.size a) ∧
  (∀ a x, ((![v219, v182] : Fin 2 → IVec S16 32) a x).toNat < S8x10000.size a)
theorem k0_idx145_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v219 : IVec S16 32) (k0_hw10 : k0_chk10 v122 v126 v130 v134 v138 v142 v146 v150 v154 v158 v162 v166 v170 v174 v178 v182 v219), ∀ a x, ((![v219, v122] : Fin 2 → IVec S16 32) a x).toNat < S8x10000.size a := fun v122 v126 v130 v134 v138 v142 v146 v150 v154 v158 v162 v166 v170 v174 v178 v182 v219 k0_hw10 => k0_hw10.1
theorem k0_idx146_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v219 : IVec S16 32) (k0_hw10 : k0_chk10 v122 v126 v130 v134 v138 v142 v146 v150 v154 v158 v162 v166 v170 v174 v178 v182 v219), ∀ a x, ((![v219, v126] : Fin 2 → IVec S16 32) a x).toNat < S8x10000.size a := fun v122 v126 v130 v134 v138 v142 v146 v150 v154 v158 v162 v166 v170 v174 v178 v182 v219 k0_hw10 => k0_hw10.2.1
theorem k0_idx147_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v219 : IVec S16 32) (k0_hw10 : k0_chk10 v122 v126 v130 v134 v138 v142 v146 v150 v154 v158 v162 v166 v170 v174 v178 v182 v219), ∀ a x, ((![v219, v130] : Fin 2 → IVec S16 32) a x).toNat < S8x10000.size a := fun v122 v126 v130 v134 v138 v142 v146 v150 v154 v158 v162 v166 v170 v174 v178 v182 v219 k0_hw10 => k0_hw10.2.2.1
theorem k0_idx148_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v219 : IVec S16 32) (k0_hw10 : k0_chk10 v122 v126 v130 v134 v138 v142 v146 v150 v154 v158 v162 v166 v170 v174 v178 v182 v219), ∀ a x, ((![v219, v134] : Fin 2 → IVec S16 32) a x).toNat < S8x10000.size a := fun v122 v126 v130 v134 v138 v142 v146 v150 v154 v158 v162 v166 v170 v174 v178 v182 v219 k0_hw10 => k0_hw10.2.2.2.1
theorem k0_idx149_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v219 : IVec S16 32) (k0_hw10 : k0_chk10 v122 v126 v130 v134 v138 v142 v146 v150 v154 v158 v162 v166 v170 v174 v178 v182 v219), ∀ a x, ((![v219, v138] : Fin 2 → IVec S16 32) a x).toNat < S8x10000.size a := fun v122 v126 v130 v134 v138 v142 v146 v150 v154 v158 v162 v166 v170 v174 v178 v182 v219 k0_hw10 => k0_hw10.2.2.2.2.1
theorem k0_idx150_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v219 : IVec S16 32) (k0_hw10 : k0_chk10 v122 v126 v130 v134 v138 v142 v146 v150 v154 v158 v162 v166 v170 v174 v178 v182 v219), ∀ a x, ((![v219, v142] : Fin 2 → IVec S16 32) a x).toNat < S8x10000.size a := fun v122 v126 v130 v134 v138 v142 v146 v150 v154 v158 v162 v166 v170 v174 v178 v182 v219 k0_hw10 => k0_hw10.2.2.2.2.2.1
theorem k0_idx151_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v219 : IVec S16 32) (k0_hw10 : k0_chk10 v122 v126 v130 v134 v138 v142 v146 v150 v154 v158 v162 v166 v170 v174 v178 v182 v219), ∀ a x, ((![v219, v146] : Fin 2 → IVec S16 32) a x).toNat < S8x10000.size a := fun v122 v126 v130 v134 v138 v142 v146 v150 v154 v158 v162 v166 v170 v174 v178 v182 v219 k0_hw10 => k0_hw10.2.2.2.2.2.2.1
theorem k0_idx152_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v219 : IVec S16 32) (k0_hw10 : k0_chk10 v122 v126 v130 v134 v138 v142 v146 v150 v154 v158 v162 v166 v170 v174 v178 v182 v219), ∀ a x, ((![v219, v150] : Fin 2 → IVec S16 32) a x).toNat < S8x10000.size a := fun v122 v126 v130 v134 v138 v142 v146 v150 v154 v158 v162 v166 v170 v174 v178 v182 v219 k0_hw10 => k0_hw10.2.2.2.2.2.2.2.1
theorem k0_idx153_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v219 : IVec S16 32) (k0_hw10 : k0_chk10 v122 v126 v130 v134 v138 v142 v146 v150 v154 v158 v162 v166 v170 v174 v178 v182 v219), ∀ a x, ((![v219, v154] : Fin 2 → IVec S16 32) a x).toNat < S8x10000.size a := fun v122 v126 v130 v134 v138 v142 v146 v150 v154 v158 v162 v166 v170 v174 v178 v182 v219 k0_hw10 => k0_hw10.2.2.2.2.2.2.2.2.1
theorem k0_idx154_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v219 : IVec S16 32) (k0_hw10 : k0_chk10 v122 v126 v130 v134 v138 v142 v146 v150 v154 v158 v162 v166 v170 v174 v178 v182 v219), ∀ a x, ((![v219, v158] : Fin 2 → IVec S16 32) a x).toNat < S8x10000.size a := fun v122 v126 v130 v134 v138 v142 v146 v150 v154 v158 v162 v166 v170 v174 v178 v182 v219 k0_hw10 => k0_hw10.2.2.2.2.2.2.2.2.2.1
theorem k0_idx155_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v219 : IVec S16 32) (k0_hw10 : k0_chk10 v122 v126 v130 v134 v138 v142 v146 v150 v154 v158 v162 v166 v170 v174 v178 v182 v219), ∀ a x, ((![v219, v162] : Fin 2 → IVec S16 32) a x).toNat < S8x10000.size a := fun v122 v126 v130 v134 v138 v142 v146 v150 v154 v158 v162 v166 v170 v174 v178 v182 v219 k0_hw10 => k0_hw10.2.2.2.2.2.2.2.2.2.2.1
theorem k0_idx156_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v219 : IVec S16 32) (k0_hw10 : k0_chk10 v122 v126 v130 v134 v138 v142 v146 v150 v154 v158 v162 v166 v170 v174 v178 v182 v219), ∀ a x, ((![v219, v166] : Fin 2 → IVec S16 32) a x).toNat < S8x10000.size a := fun v122 v126 v130 v134 v138 v142 v146 v150 v154 v158 v162 v166 v170 v174 v178 v182 v219 k0_hw10 => k0_hw10.2.2.2.2.2.2.2.2.2.2.2.1
theorem k0_idx157_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v219 : IVec S16 32) (k0_hw10 : k0_chk10 v122 v126 v130 v134 v138 v142 v146 v150 v154 v158 v162 v166 v170 v174 v178 v182 v219), ∀ a x, ((![v219, v170] : Fin 2 → IVec S16 32) a x).toNat < S8x10000.size a := fun v122 v126 v130 v134 v138 v142 v146 v150 v154 v158 v162 v166 v170 v174 v178 v182 v219 k0_hw10 => k0_hw10.2.2.2.2.2.2.2.2.2.2.2.2.1
theorem k0_idx158_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v219 : IVec S16 32) (k0_hw10 : k0_chk10 v122 v126 v130 v134 v138 v142 v146 v150 v154 v158 v162 v166 v170 v174 v178 v182 v219), ∀ a x, ((![v219, v174] : Fin 2 → IVec S16 32) a x).toNat < S8x10000.size a := fun v122 v126 v130 v134 v138 v142 v146 v150 v154 v158 v162 v166 v170 v174 v178 v182 v219 k0_hw10 => k0_hw10.2.2.2.2.2.2.2.2.2.2.2.2.2.1
theorem k0_idx159_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v219 : IVec S16 32) (k0_hw10 : k0_chk10 v122 v126 v130 v134 v138 v142 v146 v150 v154 v158 v162 v166 v170 v174 v178 v182 v219), ∀ a x, ((![v219, v178] : Fin 2 → IVec S16 32) a x).toNat < S8x10000.size a := fun v122 v126 v130 v134 v138 v142 v146 v150 v154 v158 v162 v166 v170 v174 v178 v182 v219 k0_hw10 => k0_hw10.2.2.2.2.2.2.2.2.2.2.2.2.2.2.1
theorem k0_idx160_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v219 : IVec S16 32) (k0_hw10 : k0_chk10 v122 v126 v130 v134 v138 v142 v146 v150 v154 v158 v162 v166 v170 v174 v178 v182 v219), ∀ a x, ((![v219, v182] : Fin 2 → IVec S16 32) a x).toNat < S8x10000.size a := fun v122 v126 v130 v134 v138 v142 v146 v150 v154 v158 v162 v166 v170 v174 v178 v182 v219 k0_hw10 => k0_hw10.2.2.2.2.2.2.2.2.2.2.2.2.2.2.2
def k0_off47 (k0_t4 : Fin k0_t4_loop.trips) : Fin 3 → Nat :=
  let c1_i32_130 : BitVec 32 := 1#32
  let v251 : Index := Scalar.indexCast c1_i32_130
  let c1_i32_131 : BitVec 32 := 1#32
  let v252 : Index := Scalar.indexCast c1_i32_131
  let c0_i32_101 : BitVec 32 := 0#32
  let c0_i32_91 : BitVec 32 := 0#32
  let c1_i32_93 : BitVec 32 := 1#32
  let arg14 : BitVec 32 := Scf.iv c0_i32_91 c1_i32_93 k0_t4
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v253 : Index := Scalar.indexCast v118
  ![1, 1, v253.toNat]

def k0_chk11 (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v255 : IVec S16 32) : Prop :=
  (∀ a x, ((![v255, v122] : Fin 2 → IVec S16 32) a x).toNat < S8x10000.size a) ∧
  (∀ a x, ((![v255, v126] : Fin 2 → IVec S16 32) a x).toNat < S8x10000.size a) ∧
  (∀ a x, ((![v255, v130] : Fin 2 → IVec S16 32) a x).toNat < S8x10000.size a) ∧
  (∀ a x, ((![v255, v134] : Fin 2 → IVec S16 32) a x).toNat < S8x10000.size a) ∧
  (∀ a x, ((![v255, v138] : Fin 2 → IVec S16 32) a x).toNat < S8x10000.size a) ∧
  (∀ a x, ((![v255, v142] : Fin 2 → IVec S16 32) a x).toNat < S8x10000.size a) ∧
  (∀ a x, ((![v255, v146] : Fin 2 → IVec S16 32) a x).toNat < S8x10000.size a) ∧
  (∀ a x, ((![v255, v150] : Fin 2 → IVec S16 32) a x).toNat < S8x10000.size a) ∧
  (∀ a x, ((![v255, v154] : Fin 2 → IVec S16 32) a x).toNat < S8x10000.size a) ∧
  (∀ a x, ((![v255, v158] : Fin 2 → IVec S16 32) a x).toNat < S8x10000.size a) ∧
  (∀ a x, ((![v255, v162] : Fin 2 → IVec S16 32) a x).toNat < S8x10000.size a) ∧
  (∀ a x, ((![v255, v166] : Fin 2 → IVec S16 32) a x).toNat < S8x10000.size a) ∧
  (∀ a x, ((![v255, v170] : Fin 2 → IVec S16 32) a x).toNat < S8x10000.size a) ∧
  (∀ a x, ((![v255, v174] : Fin 2 → IVec S16 32) a x).toNat < S8x10000.size a) ∧
  (∀ a x, ((![v255, v178] : Fin 2 → IVec S16 32) a x).toNat < S8x10000.size a) ∧
  (∀ a x, ((![v255, v182] : Fin 2 → IVec S16 32) a x).toNat < S8x10000.size a)
theorem k0_idx161_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v255 : IVec S16 32) (k0_hw11 : k0_chk11 v122 v126 v130 v134 v138 v142 v146 v150 v154 v158 v162 v166 v170 v174 v178 v182 v255), ∀ a x, ((![v255, v122] : Fin 2 → IVec S16 32) a x).toNat < S8x10000.size a := fun v122 v126 v130 v134 v138 v142 v146 v150 v154 v158 v162 v166 v170 v174 v178 v182 v255 k0_hw11 => k0_hw11.1
theorem k0_idx162_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v255 : IVec S16 32) (k0_hw11 : k0_chk11 v122 v126 v130 v134 v138 v142 v146 v150 v154 v158 v162 v166 v170 v174 v178 v182 v255), ∀ a x, ((![v255, v126] : Fin 2 → IVec S16 32) a x).toNat < S8x10000.size a := fun v122 v126 v130 v134 v138 v142 v146 v150 v154 v158 v162 v166 v170 v174 v178 v182 v255 k0_hw11 => k0_hw11.2.1
theorem k0_idx163_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v255 : IVec S16 32) (k0_hw11 : k0_chk11 v122 v126 v130 v134 v138 v142 v146 v150 v154 v158 v162 v166 v170 v174 v178 v182 v255), ∀ a x, ((![v255, v130] : Fin 2 → IVec S16 32) a x).toNat < S8x10000.size a := fun v122 v126 v130 v134 v138 v142 v146 v150 v154 v158 v162 v166 v170 v174 v178 v182 v255 k0_hw11 => k0_hw11.2.2.1
theorem k0_idx164_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v255 : IVec S16 32) (k0_hw11 : k0_chk11 v122 v126 v130 v134 v138 v142 v146 v150 v154 v158 v162 v166 v170 v174 v178 v182 v255), ∀ a x, ((![v255, v134] : Fin 2 → IVec S16 32) a x).toNat < S8x10000.size a := fun v122 v126 v130 v134 v138 v142 v146 v150 v154 v158 v162 v166 v170 v174 v178 v182 v255 k0_hw11 => k0_hw11.2.2.2.1
theorem k0_idx165_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v255 : IVec S16 32) (k0_hw11 : k0_chk11 v122 v126 v130 v134 v138 v142 v146 v150 v154 v158 v162 v166 v170 v174 v178 v182 v255), ∀ a x, ((![v255, v138] : Fin 2 → IVec S16 32) a x).toNat < S8x10000.size a := fun v122 v126 v130 v134 v138 v142 v146 v150 v154 v158 v162 v166 v170 v174 v178 v182 v255 k0_hw11 => k0_hw11.2.2.2.2.1
theorem k0_idx166_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v255 : IVec S16 32) (k0_hw11 : k0_chk11 v122 v126 v130 v134 v138 v142 v146 v150 v154 v158 v162 v166 v170 v174 v178 v182 v255), ∀ a x, ((![v255, v142] : Fin 2 → IVec S16 32) a x).toNat < S8x10000.size a := fun v122 v126 v130 v134 v138 v142 v146 v150 v154 v158 v162 v166 v170 v174 v178 v182 v255 k0_hw11 => k0_hw11.2.2.2.2.2.1
theorem k0_idx167_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v255 : IVec S16 32) (k0_hw11 : k0_chk11 v122 v126 v130 v134 v138 v142 v146 v150 v154 v158 v162 v166 v170 v174 v178 v182 v255), ∀ a x, ((![v255, v146] : Fin 2 → IVec S16 32) a x).toNat < S8x10000.size a := fun v122 v126 v130 v134 v138 v142 v146 v150 v154 v158 v162 v166 v170 v174 v178 v182 v255 k0_hw11 => k0_hw11.2.2.2.2.2.2.1
theorem k0_idx168_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v255 : IVec S16 32) (k0_hw11 : k0_chk11 v122 v126 v130 v134 v138 v142 v146 v150 v154 v158 v162 v166 v170 v174 v178 v182 v255), ∀ a x, ((![v255, v150] : Fin 2 → IVec S16 32) a x).toNat < S8x10000.size a := fun v122 v126 v130 v134 v138 v142 v146 v150 v154 v158 v162 v166 v170 v174 v178 v182 v255 k0_hw11 => k0_hw11.2.2.2.2.2.2.2.1
theorem k0_idx169_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v255 : IVec S16 32) (k0_hw11 : k0_chk11 v122 v126 v130 v134 v138 v142 v146 v150 v154 v158 v162 v166 v170 v174 v178 v182 v255), ∀ a x, ((![v255, v154] : Fin 2 → IVec S16 32) a x).toNat < S8x10000.size a := fun v122 v126 v130 v134 v138 v142 v146 v150 v154 v158 v162 v166 v170 v174 v178 v182 v255 k0_hw11 => k0_hw11.2.2.2.2.2.2.2.2.1
theorem k0_idx170_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v255 : IVec S16 32) (k0_hw11 : k0_chk11 v122 v126 v130 v134 v138 v142 v146 v150 v154 v158 v162 v166 v170 v174 v178 v182 v255), ∀ a x, ((![v255, v158] : Fin 2 → IVec S16 32) a x).toNat < S8x10000.size a := fun v122 v126 v130 v134 v138 v142 v146 v150 v154 v158 v162 v166 v170 v174 v178 v182 v255 k0_hw11 => k0_hw11.2.2.2.2.2.2.2.2.2.1
theorem k0_idx171_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v255 : IVec S16 32) (k0_hw11 : k0_chk11 v122 v126 v130 v134 v138 v142 v146 v150 v154 v158 v162 v166 v170 v174 v178 v182 v255), ∀ a x, ((![v255, v162] : Fin 2 → IVec S16 32) a x).toNat < S8x10000.size a := fun v122 v126 v130 v134 v138 v142 v146 v150 v154 v158 v162 v166 v170 v174 v178 v182 v255 k0_hw11 => k0_hw11.2.2.2.2.2.2.2.2.2.2.1
theorem k0_idx172_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v255 : IVec S16 32) (k0_hw11 : k0_chk11 v122 v126 v130 v134 v138 v142 v146 v150 v154 v158 v162 v166 v170 v174 v178 v182 v255), ∀ a x, ((![v255, v166] : Fin 2 → IVec S16 32) a x).toNat < S8x10000.size a := fun v122 v126 v130 v134 v138 v142 v146 v150 v154 v158 v162 v166 v170 v174 v178 v182 v255 k0_hw11 => k0_hw11.2.2.2.2.2.2.2.2.2.2.2.1
theorem k0_idx173_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v255 : IVec S16 32) (k0_hw11 : k0_chk11 v122 v126 v130 v134 v138 v142 v146 v150 v154 v158 v162 v166 v170 v174 v178 v182 v255), ∀ a x, ((![v255, v170] : Fin 2 → IVec S16 32) a x).toNat < S8x10000.size a := fun v122 v126 v130 v134 v138 v142 v146 v150 v154 v158 v162 v166 v170 v174 v178 v182 v255 k0_hw11 => k0_hw11.2.2.2.2.2.2.2.2.2.2.2.2.1
theorem k0_idx174_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v255 : IVec S16 32) (k0_hw11 : k0_chk11 v122 v126 v130 v134 v138 v142 v146 v150 v154 v158 v162 v166 v170 v174 v178 v182 v255), ∀ a x, ((![v255, v174] : Fin 2 → IVec S16 32) a x).toNat < S8x10000.size a := fun v122 v126 v130 v134 v138 v142 v146 v150 v154 v158 v162 v166 v170 v174 v178 v182 v255 k0_hw11 => k0_hw11.2.2.2.2.2.2.2.2.2.2.2.2.2.1
theorem k0_idx175_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v255 : IVec S16 32) (k0_hw11 : k0_chk11 v122 v126 v130 v134 v138 v142 v146 v150 v154 v158 v162 v166 v170 v174 v178 v182 v255), ∀ a x, ((![v255, v178] : Fin 2 → IVec S16 32) a x).toNat < S8x10000.size a := fun v122 v126 v130 v134 v138 v142 v146 v150 v154 v158 v162 v166 v170 v174 v178 v182 v255 k0_hw11 => k0_hw11.2.2.2.2.2.2.2.2.2.2.2.2.2.2.1
theorem k0_idx176_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v255 : IVec S16 32) (k0_hw11 : k0_chk11 v122 v126 v130 v134 v138 v142 v146 v150 v154 v158 v162 v166 v170 v174 v178 v182 v255), ∀ a x, ((![v255, v182] : Fin 2 → IVec S16 32) a x).toNat < S8x10000.size a := fun v122 v126 v130 v134 v138 v142 v146 v150 v154 v158 v162 v166 v170 v174 v178 v182 v255 k0_hw11 => k0_hw11.2.2.2.2.2.2.2.2.2.2.2.2.2.2.2
def k0_off48 (k0_t4 : Fin k0_t4_loop.trips) : Fin 3 → Nat :=
  let c1_i32_133 : BitVec 32 := 1#32
  let v287 : Index := Scalar.indexCast c1_i32_133
  let c2_i32_134 : BitVec 32 := 2#32
  let v288 : Index := Scalar.indexCast c2_i32_134
  let c0_i32_101 : BitVec 32 := 0#32
  let c0_i32_91 : BitVec 32 := 0#32
  let c1_i32_93 : BitVec 32 := 1#32
  let arg14 : BitVec 32 := Scf.iv c0_i32_91 c1_i32_93 k0_t4
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v289 : Index := Scalar.indexCast v118
  ![1, 2, v289.toNat]

def k0_chk12 (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v291 : IVec S16 32) : Prop :=
  (∀ a x, ((![v291, v122] : Fin 2 → IVec S16 32) a x).toNat < S8x10000.size a) ∧
  (∀ a x, ((![v291, v126] : Fin 2 → IVec S16 32) a x).toNat < S8x10000.size a) ∧
  (∀ a x, ((![v291, v130] : Fin 2 → IVec S16 32) a x).toNat < S8x10000.size a) ∧
  (∀ a x, ((![v291, v134] : Fin 2 → IVec S16 32) a x).toNat < S8x10000.size a) ∧
  (∀ a x, ((![v291, v138] : Fin 2 → IVec S16 32) a x).toNat < S8x10000.size a) ∧
  (∀ a x, ((![v291, v142] : Fin 2 → IVec S16 32) a x).toNat < S8x10000.size a) ∧
  (∀ a x, ((![v291, v146] : Fin 2 → IVec S16 32) a x).toNat < S8x10000.size a) ∧
  (∀ a x, ((![v291, v150] : Fin 2 → IVec S16 32) a x).toNat < S8x10000.size a) ∧
  (∀ a x, ((![v291, v154] : Fin 2 → IVec S16 32) a x).toNat < S8x10000.size a) ∧
  (∀ a x, ((![v291, v158] : Fin 2 → IVec S16 32) a x).toNat < S8x10000.size a) ∧
  (∀ a x, ((![v291, v162] : Fin 2 → IVec S16 32) a x).toNat < S8x10000.size a) ∧
  (∀ a x, ((![v291, v166] : Fin 2 → IVec S16 32) a x).toNat < S8x10000.size a) ∧
  (∀ a x, ((![v291, v170] : Fin 2 → IVec S16 32) a x).toNat < S8x10000.size a) ∧
  (∀ a x, ((![v291, v174] : Fin 2 → IVec S16 32) a x).toNat < S8x10000.size a) ∧
  (∀ a x, ((![v291, v178] : Fin 2 → IVec S16 32) a x).toNat < S8x10000.size a) ∧
  (∀ a x, ((![v291, v182] : Fin 2 → IVec S16 32) a x).toNat < S8x10000.size a)
theorem k0_idx177_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v291 : IVec S16 32) (k0_hw12 : k0_chk12 v122 v126 v130 v134 v138 v142 v146 v150 v154 v158 v162 v166 v170 v174 v178 v182 v291), ∀ a x, ((![v291, v122] : Fin 2 → IVec S16 32) a x).toNat < S8x10000.size a := fun v122 v126 v130 v134 v138 v142 v146 v150 v154 v158 v162 v166 v170 v174 v178 v182 v291 k0_hw12 => k0_hw12.1
theorem k0_idx178_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v291 : IVec S16 32) (k0_hw12 : k0_chk12 v122 v126 v130 v134 v138 v142 v146 v150 v154 v158 v162 v166 v170 v174 v178 v182 v291), ∀ a x, ((![v291, v126] : Fin 2 → IVec S16 32) a x).toNat < S8x10000.size a := fun v122 v126 v130 v134 v138 v142 v146 v150 v154 v158 v162 v166 v170 v174 v178 v182 v291 k0_hw12 => k0_hw12.2.1
theorem k0_idx179_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v291 : IVec S16 32) (k0_hw12 : k0_chk12 v122 v126 v130 v134 v138 v142 v146 v150 v154 v158 v162 v166 v170 v174 v178 v182 v291), ∀ a x, ((![v291, v130] : Fin 2 → IVec S16 32) a x).toNat < S8x10000.size a := fun v122 v126 v130 v134 v138 v142 v146 v150 v154 v158 v162 v166 v170 v174 v178 v182 v291 k0_hw12 => k0_hw12.2.2.1
theorem k0_idx180_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v291 : IVec S16 32) (k0_hw12 : k0_chk12 v122 v126 v130 v134 v138 v142 v146 v150 v154 v158 v162 v166 v170 v174 v178 v182 v291), ∀ a x, ((![v291, v134] : Fin 2 → IVec S16 32) a x).toNat < S8x10000.size a := fun v122 v126 v130 v134 v138 v142 v146 v150 v154 v158 v162 v166 v170 v174 v178 v182 v291 k0_hw12 => k0_hw12.2.2.2.1
theorem k0_idx181_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v291 : IVec S16 32) (k0_hw12 : k0_chk12 v122 v126 v130 v134 v138 v142 v146 v150 v154 v158 v162 v166 v170 v174 v178 v182 v291), ∀ a x, ((![v291, v138] : Fin 2 → IVec S16 32) a x).toNat < S8x10000.size a := fun v122 v126 v130 v134 v138 v142 v146 v150 v154 v158 v162 v166 v170 v174 v178 v182 v291 k0_hw12 => k0_hw12.2.2.2.2.1
theorem k0_idx182_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v291 : IVec S16 32) (k0_hw12 : k0_chk12 v122 v126 v130 v134 v138 v142 v146 v150 v154 v158 v162 v166 v170 v174 v178 v182 v291), ∀ a x, ((![v291, v142] : Fin 2 → IVec S16 32) a x).toNat < S8x10000.size a := fun v122 v126 v130 v134 v138 v142 v146 v150 v154 v158 v162 v166 v170 v174 v178 v182 v291 k0_hw12 => k0_hw12.2.2.2.2.2.1
theorem k0_idx183_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v291 : IVec S16 32) (k0_hw12 : k0_chk12 v122 v126 v130 v134 v138 v142 v146 v150 v154 v158 v162 v166 v170 v174 v178 v182 v291), ∀ a x, ((![v291, v146] : Fin 2 → IVec S16 32) a x).toNat < S8x10000.size a := fun v122 v126 v130 v134 v138 v142 v146 v150 v154 v158 v162 v166 v170 v174 v178 v182 v291 k0_hw12 => k0_hw12.2.2.2.2.2.2.1
theorem k0_idx184_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v291 : IVec S16 32) (k0_hw12 : k0_chk12 v122 v126 v130 v134 v138 v142 v146 v150 v154 v158 v162 v166 v170 v174 v178 v182 v291), ∀ a x, ((![v291, v150] : Fin 2 → IVec S16 32) a x).toNat < S8x10000.size a := fun v122 v126 v130 v134 v138 v142 v146 v150 v154 v158 v162 v166 v170 v174 v178 v182 v291 k0_hw12 => k0_hw12.2.2.2.2.2.2.2.1
theorem k0_idx185_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v291 : IVec S16 32) (k0_hw12 : k0_chk12 v122 v126 v130 v134 v138 v142 v146 v150 v154 v158 v162 v166 v170 v174 v178 v182 v291), ∀ a x, ((![v291, v154] : Fin 2 → IVec S16 32) a x).toNat < S8x10000.size a := fun v122 v126 v130 v134 v138 v142 v146 v150 v154 v158 v162 v166 v170 v174 v178 v182 v291 k0_hw12 => k0_hw12.2.2.2.2.2.2.2.2.1
theorem k0_idx186_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v291 : IVec S16 32) (k0_hw12 : k0_chk12 v122 v126 v130 v134 v138 v142 v146 v150 v154 v158 v162 v166 v170 v174 v178 v182 v291), ∀ a x, ((![v291, v158] : Fin 2 → IVec S16 32) a x).toNat < S8x10000.size a := fun v122 v126 v130 v134 v138 v142 v146 v150 v154 v158 v162 v166 v170 v174 v178 v182 v291 k0_hw12 => k0_hw12.2.2.2.2.2.2.2.2.2.1
theorem k0_idx187_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v291 : IVec S16 32) (k0_hw12 : k0_chk12 v122 v126 v130 v134 v138 v142 v146 v150 v154 v158 v162 v166 v170 v174 v178 v182 v291), ∀ a x, ((![v291, v162] : Fin 2 → IVec S16 32) a x).toNat < S8x10000.size a := fun v122 v126 v130 v134 v138 v142 v146 v150 v154 v158 v162 v166 v170 v174 v178 v182 v291 k0_hw12 => k0_hw12.2.2.2.2.2.2.2.2.2.2.1
theorem k0_idx188_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v291 : IVec S16 32) (k0_hw12 : k0_chk12 v122 v126 v130 v134 v138 v142 v146 v150 v154 v158 v162 v166 v170 v174 v178 v182 v291), ∀ a x, ((![v291, v166] : Fin 2 → IVec S16 32) a x).toNat < S8x10000.size a := fun v122 v126 v130 v134 v138 v142 v146 v150 v154 v158 v162 v166 v170 v174 v178 v182 v291 k0_hw12 => k0_hw12.2.2.2.2.2.2.2.2.2.2.2.1
theorem k0_idx189_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v291 : IVec S16 32) (k0_hw12 : k0_chk12 v122 v126 v130 v134 v138 v142 v146 v150 v154 v158 v162 v166 v170 v174 v178 v182 v291), ∀ a x, ((![v291, v170] : Fin 2 → IVec S16 32) a x).toNat < S8x10000.size a := fun v122 v126 v130 v134 v138 v142 v146 v150 v154 v158 v162 v166 v170 v174 v178 v182 v291 k0_hw12 => k0_hw12.2.2.2.2.2.2.2.2.2.2.2.2.1
theorem k0_idx190_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v291 : IVec S16 32) (k0_hw12 : k0_chk12 v122 v126 v130 v134 v138 v142 v146 v150 v154 v158 v162 v166 v170 v174 v178 v182 v291), ∀ a x, ((![v291, v174] : Fin 2 → IVec S16 32) a x).toNat < S8x10000.size a := fun v122 v126 v130 v134 v138 v142 v146 v150 v154 v158 v162 v166 v170 v174 v178 v182 v291 k0_hw12 => k0_hw12.2.2.2.2.2.2.2.2.2.2.2.2.2.1
theorem k0_idx191_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v291 : IVec S16 32) (k0_hw12 : k0_chk12 v122 v126 v130 v134 v138 v142 v146 v150 v154 v158 v162 v166 v170 v174 v178 v182 v291), ∀ a x, ((![v291, v178] : Fin 2 → IVec S16 32) a x).toNat < S8x10000.size a := fun v122 v126 v130 v134 v138 v142 v146 v150 v154 v158 v162 v166 v170 v174 v178 v182 v291 k0_hw12 => k0_hw12.2.2.2.2.2.2.2.2.2.2.2.2.2.2.1
theorem k0_idx192_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v291 : IVec S16 32) (k0_hw12 : k0_chk12 v122 v126 v130 v134 v138 v142 v146 v150 v154 v158 v162 v166 v170 v174 v178 v182 v291), ∀ a x, ((![v291, v182] : Fin 2 → IVec S16 32) a x).toNat < S8x10000.size a := fun v122 v126 v130 v134 v138 v142 v146 v150 v154 v158 v162 v166 v170 v174 v178 v182 v291 k0_hw12 => k0_hw12.2.2.2.2.2.2.2.2.2.2.2.2.2.2.2
def k0_off49 (k0_t4 : Fin k0_t4_loop.trips) : Fin 3 → Nat :=
  let c1_i32_136 : BitVec 32 := 1#32
  let v323 : Index := Scalar.indexCast c1_i32_136
  let c3_i32_137 : BitVec 32 := 3#32
  let v324 : Index := Scalar.indexCast c3_i32_137
  let c0_i32_101 : BitVec 32 := 0#32
  let c0_i32_91 : BitVec 32 := 0#32
  let c1_i32_93 : BitVec 32 := 1#32
  let arg14 : BitVec 32 := Scf.iv c0_i32_91 c1_i32_93 k0_t4
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v325 : Index := Scalar.indexCast v118
  ![1, 3, v325.toNat]

def k0_chk13 (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v327 : IVec S16 32) : Prop :=
  (∀ a x, ((![v327, v122] : Fin 2 → IVec S16 32) a x).toNat < S8x10000.size a) ∧
  (∀ a x, ((![v327, v126] : Fin 2 → IVec S16 32) a x).toNat < S8x10000.size a) ∧
  (∀ a x, ((![v327, v130] : Fin 2 → IVec S16 32) a x).toNat < S8x10000.size a) ∧
  (∀ a x, ((![v327, v134] : Fin 2 → IVec S16 32) a x).toNat < S8x10000.size a) ∧
  (∀ a x, ((![v327, v138] : Fin 2 → IVec S16 32) a x).toNat < S8x10000.size a) ∧
  (∀ a x, ((![v327, v142] : Fin 2 → IVec S16 32) a x).toNat < S8x10000.size a) ∧
  (∀ a x, ((![v327, v146] : Fin 2 → IVec S16 32) a x).toNat < S8x10000.size a) ∧
  (∀ a x, ((![v327, v150] : Fin 2 → IVec S16 32) a x).toNat < S8x10000.size a) ∧
  (∀ a x, ((![v327, v154] : Fin 2 → IVec S16 32) a x).toNat < S8x10000.size a) ∧
  (∀ a x, ((![v327, v158] : Fin 2 → IVec S16 32) a x).toNat < S8x10000.size a) ∧
  (∀ a x, ((![v327, v162] : Fin 2 → IVec S16 32) a x).toNat < S8x10000.size a) ∧
  (∀ a x, ((![v327, v166] : Fin 2 → IVec S16 32) a x).toNat < S8x10000.size a) ∧
  (∀ a x, ((![v327, v170] : Fin 2 → IVec S16 32) a x).toNat < S8x10000.size a) ∧
  (∀ a x, ((![v327, v174] : Fin 2 → IVec S16 32) a x).toNat < S8x10000.size a) ∧
  (∀ a x, ((![v327, v178] : Fin 2 → IVec S16 32) a x).toNat < S8x10000.size a) ∧
  (∀ a x, ((![v327, v182] : Fin 2 → IVec S16 32) a x).toNat < S8x10000.size a)
theorem k0_idx193_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v327 : IVec S16 32) (k0_hw13 : k0_chk13 v122 v126 v130 v134 v138 v142 v146 v150 v154 v158 v162 v166 v170 v174 v178 v182 v327), ∀ a x, ((![v327, v122] : Fin 2 → IVec S16 32) a x).toNat < S8x10000.size a := fun v122 v126 v130 v134 v138 v142 v146 v150 v154 v158 v162 v166 v170 v174 v178 v182 v327 k0_hw13 => k0_hw13.1
theorem k0_idx194_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v327 : IVec S16 32) (k0_hw13 : k0_chk13 v122 v126 v130 v134 v138 v142 v146 v150 v154 v158 v162 v166 v170 v174 v178 v182 v327), ∀ a x, ((![v327, v126] : Fin 2 → IVec S16 32) a x).toNat < S8x10000.size a := fun v122 v126 v130 v134 v138 v142 v146 v150 v154 v158 v162 v166 v170 v174 v178 v182 v327 k0_hw13 => k0_hw13.2.1
theorem k0_idx195_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v327 : IVec S16 32) (k0_hw13 : k0_chk13 v122 v126 v130 v134 v138 v142 v146 v150 v154 v158 v162 v166 v170 v174 v178 v182 v327), ∀ a x, ((![v327, v130] : Fin 2 → IVec S16 32) a x).toNat < S8x10000.size a := fun v122 v126 v130 v134 v138 v142 v146 v150 v154 v158 v162 v166 v170 v174 v178 v182 v327 k0_hw13 => k0_hw13.2.2.1
theorem k0_idx196_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v327 : IVec S16 32) (k0_hw13 : k0_chk13 v122 v126 v130 v134 v138 v142 v146 v150 v154 v158 v162 v166 v170 v174 v178 v182 v327), ∀ a x, ((![v327, v134] : Fin 2 → IVec S16 32) a x).toNat < S8x10000.size a := fun v122 v126 v130 v134 v138 v142 v146 v150 v154 v158 v162 v166 v170 v174 v178 v182 v327 k0_hw13 => k0_hw13.2.2.2.1
theorem k0_idx197_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v327 : IVec S16 32) (k0_hw13 : k0_chk13 v122 v126 v130 v134 v138 v142 v146 v150 v154 v158 v162 v166 v170 v174 v178 v182 v327), ∀ a x, ((![v327, v138] : Fin 2 → IVec S16 32) a x).toNat < S8x10000.size a := fun v122 v126 v130 v134 v138 v142 v146 v150 v154 v158 v162 v166 v170 v174 v178 v182 v327 k0_hw13 => k0_hw13.2.2.2.2.1
theorem k0_idx198_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v327 : IVec S16 32) (k0_hw13 : k0_chk13 v122 v126 v130 v134 v138 v142 v146 v150 v154 v158 v162 v166 v170 v174 v178 v182 v327), ∀ a x, ((![v327, v142] : Fin 2 → IVec S16 32) a x).toNat < S8x10000.size a := fun v122 v126 v130 v134 v138 v142 v146 v150 v154 v158 v162 v166 v170 v174 v178 v182 v327 k0_hw13 => k0_hw13.2.2.2.2.2.1
theorem k0_idx199_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v327 : IVec S16 32) (k0_hw13 : k0_chk13 v122 v126 v130 v134 v138 v142 v146 v150 v154 v158 v162 v166 v170 v174 v178 v182 v327), ∀ a x, ((![v327, v146] : Fin 2 → IVec S16 32) a x).toNat < S8x10000.size a := fun v122 v126 v130 v134 v138 v142 v146 v150 v154 v158 v162 v166 v170 v174 v178 v182 v327 k0_hw13 => k0_hw13.2.2.2.2.2.2.1
theorem k0_idx200_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v327 : IVec S16 32) (k0_hw13 : k0_chk13 v122 v126 v130 v134 v138 v142 v146 v150 v154 v158 v162 v166 v170 v174 v178 v182 v327), ∀ a x, ((![v327, v150] : Fin 2 → IVec S16 32) a x).toNat < S8x10000.size a := fun v122 v126 v130 v134 v138 v142 v146 v150 v154 v158 v162 v166 v170 v174 v178 v182 v327 k0_hw13 => k0_hw13.2.2.2.2.2.2.2.1
theorem k0_idx201_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v327 : IVec S16 32) (k0_hw13 : k0_chk13 v122 v126 v130 v134 v138 v142 v146 v150 v154 v158 v162 v166 v170 v174 v178 v182 v327), ∀ a x, ((![v327, v154] : Fin 2 → IVec S16 32) a x).toNat < S8x10000.size a := fun v122 v126 v130 v134 v138 v142 v146 v150 v154 v158 v162 v166 v170 v174 v178 v182 v327 k0_hw13 => k0_hw13.2.2.2.2.2.2.2.2.1
theorem k0_idx202_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v327 : IVec S16 32) (k0_hw13 : k0_chk13 v122 v126 v130 v134 v138 v142 v146 v150 v154 v158 v162 v166 v170 v174 v178 v182 v327), ∀ a x, ((![v327, v158] : Fin 2 → IVec S16 32) a x).toNat < S8x10000.size a := fun v122 v126 v130 v134 v138 v142 v146 v150 v154 v158 v162 v166 v170 v174 v178 v182 v327 k0_hw13 => k0_hw13.2.2.2.2.2.2.2.2.2.1
theorem k0_idx203_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v327 : IVec S16 32) (k0_hw13 : k0_chk13 v122 v126 v130 v134 v138 v142 v146 v150 v154 v158 v162 v166 v170 v174 v178 v182 v327), ∀ a x, ((![v327, v162] : Fin 2 → IVec S16 32) a x).toNat < S8x10000.size a := fun v122 v126 v130 v134 v138 v142 v146 v150 v154 v158 v162 v166 v170 v174 v178 v182 v327 k0_hw13 => k0_hw13.2.2.2.2.2.2.2.2.2.2.1
theorem k0_idx204_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v327 : IVec S16 32) (k0_hw13 : k0_chk13 v122 v126 v130 v134 v138 v142 v146 v150 v154 v158 v162 v166 v170 v174 v178 v182 v327), ∀ a x, ((![v327, v166] : Fin 2 → IVec S16 32) a x).toNat < S8x10000.size a := fun v122 v126 v130 v134 v138 v142 v146 v150 v154 v158 v162 v166 v170 v174 v178 v182 v327 k0_hw13 => k0_hw13.2.2.2.2.2.2.2.2.2.2.2.1
theorem k0_idx205_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v327 : IVec S16 32) (k0_hw13 : k0_chk13 v122 v126 v130 v134 v138 v142 v146 v150 v154 v158 v162 v166 v170 v174 v178 v182 v327), ∀ a x, ((![v327, v170] : Fin 2 → IVec S16 32) a x).toNat < S8x10000.size a := fun v122 v126 v130 v134 v138 v142 v146 v150 v154 v158 v162 v166 v170 v174 v178 v182 v327 k0_hw13 => k0_hw13.2.2.2.2.2.2.2.2.2.2.2.2.1
theorem k0_idx206_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v327 : IVec S16 32) (k0_hw13 : k0_chk13 v122 v126 v130 v134 v138 v142 v146 v150 v154 v158 v162 v166 v170 v174 v178 v182 v327), ∀ a x, ((![v327, v174] : Fin 2 → IVec S16 32) a x).toNat < S8x10000.size a := fun v122 v126 v130 v134 v138 v142 v146 v150 v154 v158 v162 v166 v170 v174 v178 v182 v327 k0_hw13 => k0_hw13.2.2.2.2.2.2.2.2.2.2.2.2.2.1
theorem k0_idx207_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v327 : IVec S16 32) (k0_hw13 : k0_chk13 v122 v126 v130 v134 v138 v142 v146 v150 v154 v158 v162 v166 v170 v174 v178 v182 v327), ∀ a x, ((![v327, v178] : Fin 2 → IVec S16 32) a x).toNat < S8x10000.size a := fun v122 v126 v130 v134 v138 v142 v146 v150 v154 v158 v162 v166 v170 v174 v178 v182 v327 k0_hw13 => k0_hw13.2.2.2.2.2.2.2.2.2.2.2.2.2.2.1
theorem k0_idx208_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v327 : IVec S16 32) (k0_hw13 : k0_chk13 v122 v126 v130 v134 v138 v142 v146 v150 v154 v158 v162 v166 v170 v174 v178 v182 v327), ∀ a x, ((![v327, v182] : Fin 2 → IVec S16 32) a x).toNat < S8x10000.size a := fun v122 v126 v130 v134 v138 v142 v146 v150 v154 v158 v162 v166 v170 v174 v178 v182 v327 k0_hw13 => k0_hw13.2.2.2.2.2.2.2.2.2.2.2.2.2.2.2
def k0_off50 (k0_t4 : Fin k0_t4_loop.trips) : Fin 3 → Nat :=
  let c1_i32_139 : BitVec 32 := 1#32
  let v359 : Index := Scalar.indexCast c1_i32_139
  let c4_i32_140 : BitVec 32 := 4#32
  let v360 : Index := Scalar.indexCast c4_i32_140
  let c0_i32_101 : BitVec 32 := 0#32
  let c0_i32_91 : BitVec 32 := 0#32
  let c1_i32_93 : BitVec 32 := 1#32
  let arg14 : BitVec 32 := Scf.iv c0_i32_91 c1_i32_93 k0_t4
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v361 : Index := Scalar.indexCast v118
  ![1, 4, v361.toNat]

def k0_chk14 (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v363 : IVec S16 32) : Prop :=
  (∀ a x, ((![v363, v122] : Fin 2 → IVec S16 32) a x).toNat < S8x10000.size a) ∧
  (∀ a x, ((![v363, v126] : Fin 2 → IVec S16 32) a x).toNat < S8x10000.size a) ∧
  (∀ a x, ((![v363, v130] : Fin 2 → IVec S16 32) a x).toNat < S8x10000.size a) ∧
  (∀ a x, ((![v363, v134] : Fin 2 → IVec S16 32) a x).toNat < S8x10000.size a) ∧
  (∀ a x, ((![v363, v138] : Fin 2 → IVec S16 32) a x).toNat < S8x10000.size a) ∧
  (∀ a x, ((![v363, v142] : Fin 2 → IVec S16 32) a x).toNat < S8x10000.size a) ∧
  (∀ a x, ((![v363, v146] : Fin 2 → IVec S16 32) a x).toNat < S8x10000.size a) ∧
  (∀ a x, ((![v363, v150] : Fin 2 → IVec S16 32) a x).toNat < S8x10000.size a) ∧
  (∀ a x, ((![v363, v154] : Fin 2 → IVec S16 32) a x).toNat < S8x10000.size a) ∧
  (∀ a x, ((![v363, v158] : Fin 2 → IVec S16 32) a x).toNat < S8x10000.size a) ∧
  (∀ a x, ((![v363, v162] : Fin 2 → IVec S16 32) a x).toNat < S8x10000.size a) ∧
  (∀ a x, ((![v363, v166] : Fin 2 → IVec S16 32) a x).toNat < S8x10000.size a) ∧
  (∀ a x, ((![v363, v170] : Fin 2 → IVec S16 32) a x).toNat < S8x10000.size a) ∧
  (∀ a x, ((![v363, v174] : Fin 2 → IVec S16 32) a x).toNat < S8x10000.size a) ∧
  (∀ a x, ((![v363, v178] : Fin 2 → IVec S16 32) a x).toNat < S8x10000.size a) ∧
  (∀ a x, ((![v363, v182] : Fin 2 → IVec S16 32) a x).toNat < S8x10000.size a)
theorem k0_idx209_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v363 : IVec S16 32) (k0_hw14 : k0_chk14 v122 v126 v130 v134 v138 v142 v146 v150 v154 v158 v162 v166 v170 v174 v178 v182 v363), ∀ a x, ((![v363, v122] : Fin 2 → IVec S16 32) a x).toNat < S8x10000.size a := fun v122 v126 v130 v134 v138 v142 v146 v150 v154 v158 v162 v166 v170 v174 v178 v182 v363 k0_hw14 => k0_hw14.1
theorem k0_idx210_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v363 : IVec S16 32) (k0_hw14 : k0_chk14 v122 v126 v130 v134 v138 v142 v146 v150 v154 v158 v162 v166 v170 v174 v178 v182 v363), ∀ a x, ((![v363, v126] : Fin 2 → IVec S16 32) a x).toNat < S8x10000.size a := fun v122 v126 v130 v134 v138 v142 v146 v150 v154 v158 v162 v166 v170 v174 v178 v182 v363 k0_hw14 => k0_hw14.2.1
theorem k0_idx211_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v363 : IVec S16 32) (k0_hw14 : k0_chk14 v122 v126 v130 v134 v138 v142 v146 v150 v154 v158 v162 v166 v170 v174 v178 v182 v363), ∀ a x, ((![v363, v130] : Fin 2 → IVec S16 32) a x).toNat < S8x10000.size a := fun v122 v126 v130 v134 v138 v142 v146 v150 v154 v158 v162 v166 v170 v174 v178 v182 v363 k0_hw14 => k0_hw14.2.2.1
theorem k0_idx212_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v363 : IVec S16 32) (k0_hw14 : k0_chk14 v122 v126 v130 v134 v138 v142 v146 v150 v154 v158 v162 v166 v170 v174 v178 v182 v363), ∀ a x, ((![v363, v134] : Fin 2 → IVec S16 32) a x).toNat < S8x10000.size a := fun v122 v126 v130 v134 v138 v142 v146 v150 v154 v158 v162 v166 v170 v174 v178 v182 v363 k0_hw14 => k0_hw14.2.2.2.1
theorem k0_idx213_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v363 : IVec S16 32) (k0_hw14 : k0_chk14 v122 v126 v130 v134 v138 v142 v146 v150 v154 v158 v162 v166 v170 v174 v178 v182 v363), ∀ a x, ((![v363, v138] : Fin 2 → IVec S16 32) a x).toNat < S8x10000.size a := fun v122 v126 v130 v134 v138 v142 v146 v150 v154 v158 v162 v166 v170 v174 v178 v182 v363 k0_hw14 => k0_hw14.2.2.2.2.1
theorem k0_idx214_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v363 : IVec S16 32) (k0_hw14 : k0_chk14 v122 v126 v130 v134 v138 v142 v146 v150 v154 v158 v162 v166 v170 v174 v178 v182 v363), ∀ a x, ((![v363, v142] : Fin 2 → IVec S16 32) a x).toNat < S8x10000.size a := fun v122 v126 v130 v134 v138 v142 v146 v150 v154 v158 v162 v166 v170 v174 v178 v182 v363 k0_hw14 => k0_hw14.2.2.2.2.2.1
theorem k0_idx215_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v363 : IVec S16 32) (k0_hw14 : k0_chk14 v122 v126 v130 v134 v138 v142 v146 v150 v154 v158 v162 v166 v170 v174 v178 v182 v363), ∀ a x, ((![v363, v146] : Fin 2 → IVec S16 32) a x).toNat < S8x10000.size a := fun v122 v126 v130 v134 v138 v142 v146 v150 v154 v158 v162 v166 v170 v174 v178 v182 v363 k0_hw14 => k0_hw14.2.2.2.2.2.2.1
theorem k0_idx216_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v363 : IVec S16 32) (k0_hw14 : k0_chk14 v122 v126 v130 v134 v138 v142 v146 v150 v154 v158 v162 v166 v170 v174 v178 v182 v363), ∀ a x, ((![v363, v150] : Fin 2 → IVec S16 32) a x).toNat < S8x10000.size a := fun v122 v126 v130 v134 v138 v142 v146 v150 v154 v158 v162 v166 v170 v174 v178 v182 v363 k0_hw14 => k0_hw14.2.2.2.2.2.2.2.1
theorem k0_idx217_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v363 : IVec S16 32) (k0_hw14 : k0_chk14 v122 v126 v130 v134 v138 v142 v146 v150 v154 v158 v162 v166 v170 v174 v178 v182 v363), ∀ a x, ((![v363, v154] : Fin 2 → IVec S16 32) a x).toNat < S8x10000.size a := fun v122 v126 v130 v134 v138 v142 v146 v150 v154 v158 v162 v166 v170 v174 v178 v182 v363 k0_hw14 => k0_hw14.2.2.2.2.2.2.2.2.1
theorem k0_idx218_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v363 : IVec S16 32) (k0_hw14 : k0_chk14 v122 v126 v130 v134 v138 v142 v146 v150 v154 v158 v162 v166 v170 v174 v178 v182 v363), ∀ a x, ((![v363, v158] : Fin 2 → IVec S16 32) a x).toNat < S8x10000.size a := fun v122 v126 v130 v134 v138 v142 v146 v150 v154 v158 v162 v166 v170 v174 v178 v182 v363 k0_hw14 => k0_hw14.2.2.2.2.2.2.2.2.2.1
theorem k0_idx219_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v363 : IVec S16 32) (k0_hw14 : k0_chk14 v122 v126 v130 v134 v138 v142 v146 v150 v154 v158 v162 v166 v170 v174 v178 v182 v363), ∀ a x, ((![v363, v162] : Fin 2 → IVec S16 32) a x).toNat < S8x10000.size a := fun v122 v126 v130 v134 v138 v142 v146 v150 v154 v158 v162 v166 v170 v174 v178 v182 v363 k0_hw14 => k0_hw14.2.2.2.2.2.2.2.2.2.2.1
theorem k0_idx220_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v363 : IVec S16 32) (k0_hw14 : k0_chk14 v122 v126 v130 v134 v138 v142 v146 v150 v154 v158 v162 v166 v170 v174 v178 v182 v363), ∀ a x, ((![v363, v166] : Fin 2 → IVec S16 32) a x).toNat < S8x10000.size a := fun v122 v126 v130 v134 v138 v142 v146 v150 v154 v158 v162 v166 v170 v174 v178 v182 v363 k0_hw14 => k0_hw14.2.2.2.2.2.2.2.2.2.2.2.1
theorem k0_idx221_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v363 : IVec S16 32) (k0_hw14 : k0_chk14 v122 v126 v130 v134 v138 v142 v146 v150 v154 v158 v162 v166 v170 v174 v178 v182 v363), ∀ a x, ((![v363, v170] : Fin 2 → IVec S16 32) a x).toNat < S8x10000.size a := fun v122 v126 v130 v134 v138 v142 v146 v150 v154 v158 v162 v166 v170 v174 v178 v182 v363 k0_hw14 => k0_hw14.2.2.2.2.2.2.2.2.2.2.2.2.1
theorem k0_idx222_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v363 : IVec S16 32) (k0_hw14 : k0_chk14 v122 v126 v130 v134 v138 v142 v146 v150 v154 v158 v162 v166 v170 v174 v178 v182 v363), ∀ a x, ((![v363, v174] : Fin 2 → IVec S16 32) a x).toNat < S8x10000.size a := fun v122 v126 v130 v134 v138 v142 v146 v150 v154 v158 v162 v166 v170 v174 v178 v182 v363 k0_hw14 => k0_hw14.2.2.2.2.2.2.2.2.2.2.2.2.2.1
theorem k0_idx223_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v363 : IVec S16 32) (k0_hw14 : k0_chk14 v122 v126 v130 v134 v138 v142 v146 v150 v154 v158 v162 v166 v170 v174 v178 v182 v363), ∀ a x, ((![v363, v178] : Fin 2 → IVec S16 32) a x).toNat < S8x10000.size a := fun v122 v126 v130 v134 v138 v142 v146 v150 v154 v158 v162 v166 v170 v174 v178 v182 v363 k0_hw14 => k0_hw14.2.2.2.2.2.2.2.2.2.2.2.2.2.2.1
theorem k0_idx224_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v363 : IVec S16 32) (k0_hw14 : k0_chk14 v122 v126 v130 v134 v138 v142 v146 v150 v154 v158 v162 v166 v170 v174 v178 v182 v363), ∀ a x, ((![v363, v182] : Fin 2 → IVec S16 32) a x).toNat < S8x10000.size a := fun v122 v126 v130 v134 v138 v142 v146 v150 v154 v158 v162 v166 v170 v174 v178 v182 v363 k0_hw14 => k0_hw14.2.2.2.2.2.2.2.2.2.2.2.2.2.2.2
def k0_off51 (k0_t4 : Fin k0_t4_loop.trips) : Fin 3 → Nat :=
  let c1_i32_142 : BitVec 32 := 1#32
  let v395 : Index := Scalar.indexCast c1_i32_142
  let c5_i32_143 : BitVec 32 := 5#32
  let v396 : Index := Scalar.indexCast c5_i32_143
  let c0_i32_101 : BitVec 32 := 0#32
  let c0_i32_91 : BitVec 32 := 0#32
  let c1_i32_93 : BitVec 32 := 1#32
  let arg14 : BitVec 32 := Scf.iv c0_i32_91 c1_i32_93 k0_t4
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v397 : Index := Scalar.indexCast v118
  ![1, 5, v397.toNat]

def k0_chk15 (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v399 : IVec S16 32) : Prop :=
  (∀ a x, ((![v399, v122] : Fin 2 → IVec S16 32) a x).toNat < S8x10000.size a) ∧
  (∀ a x, ((![v399, v126] : Fin 2 → IVec S16 32) a x).toNat < S8x10000.size a) ∧
  (∀ a x, ((![v399, v130] : Fin 2 → IVec S16 32) a x).toNat < S8x10000.size a) ∧
  (∀ a x, ((![v399, v134] : Fin 2 → IVec S16 32) a x).toNat < S8x10000.size a) ∧
  (∀ a x, ((![v399, v138] : Fin 2 → IVec S16 32) a x).toNat < S8x10000.size a) ∧
  (∀ a x, ((![v399, v142] : Fin 2 → IVec S16 32) a x).toNat < S8x10000.size a) ∧
  (∀ a x, ((![v399, v146] : Fin 2 → IVec S16 32) a x).toNat < S8x10000.size a) ∧
  (∀ a x, ((![v399, v150] : Fin 2 → IVec S16 32) a x).toNat < S8x10000.size a) ∧
  (∀ a x, ((![v399, v154] : Fin 2 → IVec S16 32) a x).toNat < S8x10000.size a) ∧
  (∀ a x, ((![v399, v158] : Fin 2 → IVec S16 32) a x).toNat < S8x10000.size a) ∧
  (∀ a x, ((![v399, v162] : Fin 2 → IVec S16 32) a x).toNat < S8x10000.size a) ∧
  (∀ a x, ((![v399, v166] : Fin 2 → IVec S16 32) a x).toNat < S8x10000.size a) ∧
  (∀ a x, ((![v399, v170] : Fin 2 → IVec S16 32) a x).toNat < S8x10000.size a) ∧
  (∀ a x, ((![v399, v174] : Fin 2 → IVec S16 32) a x).toNat < S8x10000.size a) ∧
  (∀ a x, ((![v399, v178] : Fin 2 → IVec S16 32) a x).toNat < S8x10000.size a) ∧
  (∀ a x, ((![v399, v182] : Fin 2 → IVec S16 32) a x).toNat < S8x10000.size a)
theorem k0_idx225_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v399 : IVec S16 32) (k0_hw15 : k0_chk15 v122 v126 v130 v134 v138 v142 v146 v150 v154 v158 v162 v166 v170 v174 v178 v182 v399), ∀ a x, ((![v399, v122] : Fin 2 → IVec S16 32) a x).toNat < S8x10000.size a := fun v122 v126 v130 v134 v138 v142 v146 v150 v154 v158 v162 v166 v170 v174 v178 v182 v399 k0_hw15 => k0_hw15.1
theorem k0_idx226_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v399 : IVec S16 32) (k0_hw15 : k0_chk15 v122 v126 v130 v134 v138 v142 v146 v150 v154 v158 v162 v166 v170 v174 v178 v182 v399), ∀ a x, ((![v399, v126] : Fin 2 → IVec S16 32) a x).toNat < S8x10000.size a := fun v122 v126 v130 v134 v138 v142 v146 v150 v154 v158 v162 v166 v170 v174 v178 v182 v399 k0_hw15 => k0_hw15.2.1
theorem k0_idx227_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v399 : IVec S16 32) (k0_hw15 : k0_chk15 v122 v126 v130 v134 v138 v142 v146 v150 v154 v158 v162 v166 v170 v174 v178 v182 v399), ∀ a x, ((![v399, v130] : Fin 2 → IVec S16 32) a x).toNat < S8x10000.size a := fun v122 v126 v130 v134 v138 v142 v146 v150 v154 v158 v162 v166 v170 v174 v178 v182 v399 k0_hw15 => k0_hw15.2.2.1
theorem k0_idx228_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v399 : IVec S16 32) (k0_hw15 : k0_chk15 v122 v126 v130 v134 v138 v142 v146 v150 v154 v158 v162 v166 v170 v174 v178 v182 v399), ∀ a x, ((![v399, v134] : Fin 2 → IVec S16 32) a x).toNat < S8x10000.size a := fun v122 v126 v130 v134 v138 v142 v146 v150 v154 v158 v162 v166 v170 v174 v178 v182 v399 k0_hw15 => k0_hw15.2.2.2.1
theorem k0_idx229_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v399 : IVec S16 32) (k0_hw15 : k0_chk15 v122 v126 v130 v134 v138 v142 v146 v150 v154 v158 v162 v166 v170 v174 v178 v182 v399), ∀ a x, ((![v399, v138] : Fin 2 → IVec S16 32) a x).toNat < S8x10000.size a := fun v122 v126 v130 v134 v138 v142 v146 v150 v154 v158 v162 v166 v170 v174 v178 v182 v399 k0_hw15 => k0_hw15.2.2.2.2.1
theorem k0_idx230_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v399 : IVec S16 32) (k0_hw15 : k0_chk15 v122 v126 v130 v134 v138 v142 v146 v150 v154 v158 v162 v166 v170 v174 v178 v182 v399), ∀ a x, ((![v399, v142] : Fin 2 → IVec S16 32) a x).toNat < S8x10000.size a := fun v122 v126 v130 v134 v138 v142 v146 v150 v154 v158 v162 v166 v170 v174 v178 v182 v399 k0_hw15 => k0_hw15.2.2.2.2.2.1
theorem k0_idx231_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v399 : IVec S16 32) (k0_hw15 : k0_chk15 v122 v126 v130 v134 v138 v142 v146 v150 v154 v158 v162 v166 v170 v174 v178 v182 v399), ∀ a x, ((![v399, v146] : Fin 2 → IVec S16 32) a x).toNat < S8x10000.size a := fun v122 v126 v130 v134 v138 v142 v146 v150 v154 v158 v162 v166 v170 v174 v178 v182 v399 k0_hw15 => k0_hw15.2.2.2.2.2.2.1
theorem k0_idx232_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v399 : IVec S16 32) (k0_hw15 : k0_chk15 v122 v126 v130 v134 v138 v142 v146 v150 v154 v158 v162 v166 v170 v174 v178 v182 v399), ∀ a x, ((![v399, v150] : Fin 2 → IVec S16 32) a x).toNat < S8x10000.size a := fun v122 v126 v130 v134 v138 v142 v146 v150 v154 v158 v162 v166 v170 v174 v178 v182 v399 k0_hw15 => k0_hw15.2.2.2.2.2.2.2.1
theorem k0_idx233_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v399 : IVec S16 32) (k0_hw15 : k0_chk15 v122 v126 v130 v134 v138 v142 v146 v150 v154 v158 v162 v166 v170 v174 v178 v182 v399), ∀ a x, ((![v399, v154] : Fin 2 → IVec S16 32) a x).toNat < S8x10000.size a := fun v122 v126 v130 v134 v138 v142 v146 v150 v154 v158 v162 v166 v170 v174 v178 v182 v399 k0_hw15 => k0_hw15.2.2.2.2.2.2.2.2.1
theorem k0_idx234_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v399 : IVec S16 32) (k0_hw15 : k0_chk15 v122 v126 v130 v134 v138 v142 v146 v150 v154 v158 v162 v166 v170 v174 v178 v182 v399), ∀ a x, ((![v399, v158] : Fin 2 → IVec S16 32) a x).toNat < S8x10000.size a := fun v122 v126 v130 v134 v138 v142 v146 v150 v154 v158 v162 v166 v170 v174 v178 v182 v399 k0_hw15 => k0_hw15.2.2.2.2.2.2.2.2.2.1
theorem k0_idx235_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v399 : IVec S16 32) (k0_hw15 : k0_chk15 v122 v126 v130 v134 v138 v142 v146 v150 v154 v158 v162 v166 v170 v174 v178 v182 v399), ∀ a x, ((![v399, v162] : Fin 2 → IVec S16 32) a x).toNat < S8x10000.size a := fun v122 v126 v130 v134 v138 v142 v146 v150 v154 v158 v162 v166 v170 v174 v178 v182 v399 k0_hw15 => k0_hw15.2.2.2.2.2.2.2.2.2.2.1
theorem k0_idx236_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v399 : IVec S16 32) (k0_hw15 : k0_chk15 v122 v126 v130 v134 v138 v142 v146 v150 v154 v158 v162 v166 v170 v174 v178 v182 v399), ∀ a x, ((![v399, v166] : Fin 2 → IVec S16 32) a x).toNat < S8x10000.size a := fun v122 v126 v130 v134 v138 v142 v146 v150 v154 v158 v162 v166 v170 v174 v178 v182 v399 k0_hw15 => k0_hw15.2.2.2.2.2.2.2.2.2.2.2.1
theorem k0_idx237_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v399 : IVec S16 32) (k0_hw15 : k0_chk15 v122 v126 v130 v134 v138 v142 v146 v150 v154 v158 v162 v166 v170 v174 v178 v182 v399), ∀ a x, ((![v399, v170] : Fin 2 → IVec S16 32) a x).toNat < S8x10000.size a := fun v122 v126 v130 v134 v138 v142 v146 v150 v154 v158 v162 v166 v170 v174 v178 v182 v399 k0_hw15 => k0_hw15.2.2.2.2.2.2.2.2.2.2.2.2.1
theorem k0_idx238_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v399 : IVec S16 32) (k0_hw15 : k0_chk15 v122 v126 v130 v134 v138 v142 v146 v150 v154 v158 v162 v166 v170 v174 v178 v182 v399), ∀ a x, ((![v399, v174] : Fin 2 → IVec S16 32) a x).toNat < S8x10000.size a := fun v122 v126 v130 v134 v138 v142 v146 v150 v154 v158 v162 v166 v170 v174 v178 v182 v399 k0_hw15 => k0_hw15.2.2.2.2.2.2.2.2.2.2.2.2.2.1
theorem k0_idx239_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v399 : IVec S16 32) (k0_hw15 : k0_chk15 v122 v126 v130 v134 v138 v142 v146 v150 v154 v158 v162 v166 v170 v174 v178 v182 v399), ∀ a x, ((![v399, v178] : Fin 2 → IVec S16 32) a x).toNat < S8x10000.size a := fun v122 v126 v130 v134 v138 v142 v146 v150 v154 v158 v162 v166 v170 v174 v178 v182 v399 k0_hw15 => k0_hw15.2.2.2.2.2.2.2.2.2.2.2.2.2.2.1
theorem k0_idx240_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v399 : IVec S16 32) (k0_hw15 : k0_chk15 v122 v126 v130 v134 v138 v142 v146 v150 v154 v158 v162 v166 v170 v174 v178 v182 v399), ∀ a x, ((![v399, v182] : Fin 2 → IVec S16 32) a x).toNat < S8x10000.size a := fun v122 v126 v130 v134 v138 v142 v146 v150 v154 v158 v162 v166 v170 v174 v178 v182 v399 k0_hw15 => k0_hw15.2.2.2.2.2.2.2.2.2.2.2.2.2.2.2
def k0_off52 (k0_t4 : Fin k0_t4_loop.trips) : Fin 3 → Nat :=
  let c1_i32_145 : BitVec 32 := 1#32
  let v431 : Index := Scalar.indexCast c1_i32_145
  let c6_i32_146 : BitVec 32 := 6#32
  let v432 : Index := Scalar.indexCast c6_i32_146
  let c0_i32_101 : BitVec 32 := 0#32
  let c0_i32_91 : BitVec 32 := 0#32
  let c1_i32_93 : BitVec 32 := 1#32
  let arg14 : BitVec 32 := Scf.iv c0_i32_91 c1_i32_93 k0_t4
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v433 : Index := Scalar.indexCast v118
  ![1, 6, v433.toNat]

def k0_chk16 (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v435 : IVec S16 32) : Prop :=
  (∀ a x, ((![v435, v122] : Fin 2 → IVec S16 32) a x).toNat < S8x10000.size a) ∧
  (∀ a x, ((![v435, v126] : Fin 2 → IVec S16 32) a x).toNat < S8x10000.size a) ∧
  (∀ a x, ((![v435, v130] : Fin 2 → IVec S16 32) a x).toNat < S8x10000.size a) ∧
  (∀ a x, ((![v435, v134] : Fin 2 → IVec S16 32) a x).toNat < S8x10000.size a) ∧
  (∀ a x, ((![v435, v138] : Fin 2 → IVec S16 32) a x).toNat < S8x10000.size a) ∧
  (∀ a x, ((![v435, v142] : Fin 2 → IVec S16 32) a x).toNat < S8x10000.size a) ∧
  (∀ a x, ((![v435, v146] : Fin 2 → IVec S16 32) a x).toNat < S8x10000.size a) ∧
  (∀ a x, ((![v435, v150] : Fin 2 → IVec S16 32) a x).toNat < S8x10000.size a) ∧
  (∀ a x, ((![v435, v154] : Fin 2 → IVec S16 32) a x).toNat < S8x10000.size a) ∧
  (∀ a x, ((![v435, v158] : Fin 2 → IVec S16 32) a x).toNat < S8x10000.size a) ∧
  (∀ a x, ((![v435, v162] : Fin 2 → IVec S16 32) a x).toNat < S8x10000.size a) ∧
  (∀ a x, ((![v435, v166] : Fin 2 → IVec S16 32) a x).toNat < S8x10000.size a) ∧
  (∀ a x, ((![v435, v170] : Fin 2 → IVec S16 32) a x).toNat < S8x10000.size a) ∧
  (∀ a x, ((![v435, v174] : Fin 2 → IVec S16 32) a x).toNat < S8x10000.size a) ∧
  (∀ a x, ((![v435, v178] : Fin 2 → IVec S16 32) a x).toNat < S8x10000.size a) ∧
  (∀ a x, ((![v435, v182] : Fin 2 → IVec S16 32) a x).toNat < S8x10000.size a)
theorem k0_idx241_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v435 : IVec S16 32) (k0_hw16 : k0_chk16 v122 v126 v130 v134 v138 v142 v146 v150 v154 v158 v162 v166 v170 v174 v178 v182 v435), ∀ a x, ((![v435, v122] : Fin 2 → IVec S16 32) a x).toNat < S8x10000.size a := fun v122 v126 v130 v134 v138 v142 v146 v150 v154 v158 v162 v166 v170 v174 v178 v182 v435 k0_hw16 => k0_hw16.1
theorem k0_idx242_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v435 : IVec S16 32) (k0_hw16 : k0_chk16 v122 v126 v130 v134 v138 v142 v146 v150 v154 v158 v162 v166 v170 v174 v178 v182 v435), ∀ a x, ((![v435, v126] : Fin 2 → IVec S16 32) a x).toNat < S8x10000.size a := fun v122 v126 v130 v134 v138 v142 v146 v150 v154 v158 v162 v166 v170 v174 v178 v182 v435 k0_hw16 => k0_hw16.2.1
theorem k0_idx243_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v435 : IVec S16 32) (k0_hw16 : k0_chk16 v122 v126 v130 v134 v138 v142 v146 v150 v154 v158 v162 v166 v170 v174 v178 v182 v435), ∀ a x, ((![v435, v130] : Fin 2 → IVec S16 32) a x).toNat < S8x10000.size a := fun v122 v126 v130 v134 v138 v142 v146 v150 v154 v158 v162 v166 v170 v174 v178 v182 v435 k0_hw16 => k0_hw16.2.2.1
theorem k0_idx244_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v435 : IVec S16 32) (k0_hw16 : k0_chk16 v122 v126 v130 v134 v138 v142 v146 v150 v154 v158 v162 v166 v170 v174 v178 v182 v435), ∀ a x, ((![v435, v134] : Fin 2 → IVec S16 32) a x).toNat < S8x10000.size a := fun v122 v126 v130 v134 v138 v142 v146 v150 v154 v158 v162 v166 v170 v174 v178 v182 v435 k0_hw16 => k0_hw16.2.2.2.1
theorem k0_idx245_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v435 : IVec S16 32) (k0_hw16 : k0_chk16 v122 v126 v130 v134 v138 v142 v146 v150 v154 v158 v162 v166 v170 v174 v178 v182 v435), ∀ a x, ((![v435, v138] : Fin 2 → IVec S16 32) a x).toNat < S8x10000.size a := fun v122 v126 v130 v134 v138 v142 v146 v150 v154 v158 v162 v166 v170 v174 v178 v182 v435 k0_hw16 => k0_hw16.2.2.2.2.1
theorem k0_idx246_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v435 : IVec S16 32) (k0_hw16 : k0_chk16 v122 v126 v130 v134 v138 v142 v146 v150 v154 v158 v162 v166 v170 v174 v178 v182 v435), ∀ a x, ((![v435, v142] : Fin 2 → IVec S16 32) a x).toNat < S8x10000.size a := fun v122 v126 v130 v134 v138 v142 v146 v150 v154 v158 v162 v166 v170 v174 v178 v182 v435 k0_hw16 => k0_hw16.2.2.2.2.2.1
theorem k0_idx247_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v435 : IVec S16 32) (k0_hw16 : k0_chk16 v122 v126 v130 v134 v138 v142 v146 v150 v154 v158 v162 v166 v170 v174 v178 v182 v435), ∀ a x, ((![v435, v146] : Fin 2 → IVec S16 32) a x).toNat < S8x10000.size a := fun v122 v126 v130 v134 v138 v142 v146 v150 v154 v158 v162 v166 v170 v174 v178 v182 v435 k0_hw16 => k0_hw16.2.2.2.2.2.2.1
theorem k0_idx248_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v435 : IVec S16 32) (k0_hw16 : k0_chk16 v122 v126 v130 v134 v138 v142 v146 v150 v154 v158 v162 v166 v170 v174 v178 v182 v435), ∀ a x, ((![v435, v150] : Fin 2 → IVec S16 32) a x).toNat < S8x10000.size a := fun v122 v126 v130 v134 v138 v142 v146 v150 v154 v158 v162 v166 v170 v174 v178 v182 v435 k0_hw16 => k0_hw16.2.2.2.2.2.2.2.1
theorem k0_idx249_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v435 : IVec S16 32) (k0_hw16 : k0_chk16 v122 v126 v130 v134 v138 v142 v146 v150 v154 v158 v162 v166 v170 v174 v178 v182 v435), ∀ a x, ((![v435, v154] : Fin 2 → IVec S16 32) a x).toNat < S8x10000.size a := fun v122 v126 v130 v134 v138 v142 v146 v150 v154 v158 v162 v166 v170 v174 v178 v182 v435 k0_hw16 => k0_hw16.2.2.2.2.2.2.2.2.1
theorem k0_idx250_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v435 : IVec S16 32) (k0_hw16 : k0_chk16 v122 v126 v130 v134 v138 v142 v146 v150 v154 v158 v162 v166 v170 v174 v178 v182 v435), ∀ a x, ((![v435, v158] : Fin 2 → IVec S16 32) a x).toNat < S8x10000.size a := fun v122 v126 v130 v134 v138 v142 v146 v150 v154 v158 v162 v166 v170 v174 v178 v182 v435 k0_hw16 => k0_hw16.2.2.2.2.2.2.2.2.2.1
theorem k0_idx251_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v435 : IVec S16 32) (k0_hw16 : k0_chk16 v122 v126 v130 v134 v138 v142 v146 v150 v154 v158 v162 v166 v170 v174 v178 v182 v435), ∀ a x, ((![v435, v162] : Fin 2 → IVec S16 32) a x).toNat < S8x10000.size a := fun v122 v126 v130 v134 v138 v142 v146 v150 v154 v158 v162 v166 v170 v174 v178 v182 v435 k0_hw16 => k0_hw16.2.2.2.2.2.2.2.2.2.2.1
theorem k0_idx252_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v435 : IVec S16 32) (k0_hw16 : k0_chk16 v122 v126 v130 v134 v138 v142 v146 v150 v154 v158 v162 v166 v170 v174 v178 v182 v435), ∀ a x, ((![v435, v166] : Fin 2 → IVec S16 32) a x).toNat < S8x10000.size a := fun v122 v126 v130 v134 v138 v142 v146 v150 v154 v158 v162 v166 v170 v174 v178 v182 v435 k0_hw16 => k0_hw16.2.2.2.2.2.2.2.2.2.2.2.1
theorem k0_idx253_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v435 : IVec S16 32) (k0_hw16 : k0_chk16 v122 v126 v130 v134 v138 v142 v146 v150 v154 v158 v162 v166 v170 v174 v178 v182 v435), ∀ a x, ((![v435, v170] : Fin 2 → IVec S16 32) a x).toNat < S8x10000.size a := fun v122 v126 v130 v134 v138 v142 v146 v150 v154 v158 v162 v166 v170 v174 v178 v182 v435 k0_hw16 => k0_hw16.2.2.2.2.2.2.2.2.2.2.2.2.1
theorem k0_idx254_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v435 : IVec S16 32) (k0_hw16 : k0_chk16 v122 v126 v130 v134 v138 v142 v146 v150 v154 v158 v162 v166 v170 v174 v178 v182 v435), ∀ a x, ((![v435, v174] : Fin 2 → IVec S16 32) a x).toNat < S8x10000.size a := fun v122 v126 v130 v134 v138 v142 v146 v150 v154 v158 v162 v166 v170 v174 v178 v182 v435 k0_hw16 => k0_hw16.2.2.2.2.2.2.2.2.2.2.2.2.2.1
theorem k0_idx255_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v435 : IVec S16 32) (k0_hw16 : k0_chk16 v122 v126 v130 v134 v138 v142 v146 v150 v154 v158 v162 v166 v170 v174 v178 v182 v435), ∀ a x, ((![v435, v178] : Fin 2 → IVec S16 32) a x).toNat < S8x10000.size a := fun v122 v126 v130 v134 v138 v142 v146 v150 v154 v158 v162 v166 v170 v174 v178 v182 v435 k0_hw16 => k0_hw16.2.2.2.2.2.2.2.2.2.2.2.2.2.2.1
theorem k0_idx256_inb : ∀ (v122 : IVec S16 32) (v126 : IVec S16 32) (v130 : IVec S16 32) (v134 : IVec S16 32) (v138 : IVec S16 32) (v142 : IVec S16 32) (v146 : IVec S16 32) (v150 : IVec S16 32) (v154 : IVec S16 32) (v158 : IVec S16 32) (v162 : IVec S16 32) (v166 : IVec S16 32) (v170 : IVec S16 32) (v174 : IVec S16 32) (v178 : IVec S16 32) (v182 : IVec S16 32) (v435 : IVec S16 32) (k0_hw16 : k0_chk16 v122 v126 v130 v134 v138 v142 v146 v150 v154 v158 v162 v166 v170 v174 v178 v182 v435), ∀ a x, ((![v435, v182] : Fin 2 → IVec S16 32) a x).toNat < S8x10000.size a := fun v122 v126 v130 v134 v138 v142 v146 v150 v154 v158 v162 v166 v170 v174 v178 v182 v435 k0_hw16 => k0_hw16.2.2.2.2.2.2.2.2.2.2.2.2.2.2.2
def k0_off53 (k0_t4 : Fin k0_t4_loop.trips) : Fin 3 → Nat :=
  let c1_i32_148 : BitVec 32 := 1#32
  let v467 : Index := Scalar.indexCast c1_i32_148
  let c7_i32_149 : BitVec 32 := 7#32
  let v468 : Index := Scalar.indexCast c7_i32_149
  let c0_i32_101 : BitVec 32 := 0#32
  let c0_i32_91 : BitVec 32 := 0#32
  let c1_i32_93 : BitVec 32 := 1#32
  let arg14 : BitVec 32 := Scf.iv c0_i32_91 c1_i32_93 k0_t4
  let c1_i32_100 : BitVec 32 := 1#32
  let v116 : BitVec 32 := Scalar.muli arg14 c1_i32_100
  let v117 : BitVec 32 := Scalar.addi c0_i32_101 v116
  let c16_i32_102 : BitVec 32 := 16#32
  let v118 : BitVec 32 := Scalar.muli v117 c16_i32_102
  let v469 : Index := Scalar.indexCast v118
  ![1, 7, v469.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x128x10000 : Shape := ⟨3, ![8, 128, 10000]⟩
abbrev S5000x16 : Shape := ⟨2, ![5000, 16]⟩
abbrev S_ : Shape := ⟨0, ![]⟩
abbrev S5000x16x1 : Shape := ⟨3, ![5000, 16, 1]⟩
abbrev S1 : Shape := ⟨1, ![1]⟩
abbrev S1x1x1 : Shape := ⟨3, ![1, 1, 1]⟩
abbrev S8x128x5000x16 : Shape := ⟨4, ![8, 128, 5000, 16]⟩
abbrev S8x128x5000 : Shape := ⟨3, ![8, 128, 5000]⟩

abbrev nBuf : Space → Nat
  | .hbm => 27
  | .vmem => 0
  | .smem => 0
  | _ => 0

abbrev bufTy : (tb : Table) → Fin (tcTables nBuf tb) → BufTy
  | .hbm, ⟨0, _⟩ => ⟨S8x128x10000, .f32⟩
  | .hbm, ⟨1, _⟩ => ⟨S5000x16, .i32⟩
  | .hbm, ⟨2, _⟩ => ⟨S_, .i32⟩
  | .hbm, ⟨3, _⟩ => ⟨S5000x16, .i32⟩
  | .hbm, ⟨4, _⟩ => ⟨S5000x16, .i1⟩
  | .hbm, ⟨5, _⟩ => ⟨S_, .i32⟩
  | .hbm, ⟨6, _⟩ => ⟨S5000x16, .i32⟩
  | .hbm, ⟨7, _⟩ => ⟨S5000x16, .i32⟩
  | .hbm, ⟨8, _⟩ => ⟨S5000x16, .i32⟩
  | .hbm, ⟨9, _⟩ => ⟨S5000x16x1, .i32⟩
  | .hbm, ⟨10, _⟩ => ⟨S1, .i32⟩
  | .hbm, ⟨11, _⟩ => ⟨S_, .i32⟩
  | .hbm, ⟨12, _⟩ => ⟨S5000x16x1, .i32⟩
  | .hbm, ⟨13, _⟩ => ⟨S5000x16x1, .i1⟩
  | .hbm, ⟨14, _⟩ => ⟨S1x1x1, .i32⟩
  | .hbm, ⟨15, _⟩ => ⟨S5000x16x1, .i32⟩
  | .hbm, ⟨16, _⟩ => ⟨S5000x16x1, .i1⟩
  | .hbm, ⟨17, _⟩ => ⟨S5000x16x1, .i1⟩
  | .hbm, ⟨18, _⟩ => ⟨S_, .i1⟩
  | .hbm, ⟨19, _⟩ => ⟨S5000x16, .i1⟩
  | .hbm, ⟨20, _⟩ => ⟨S8x128x5000x16, .f32⟩
  | .hbm, ⟨21, _⟩ => ⟨S8x128x5000x16, .i1⟩
  | .hbm, ⟨22, _⟩ => ⟨S_, .f32⟩
  | .hbm, ⟨23, _⟩ => ⟨S8x128x5000x16, .f32⟩
  | .hbm, ⟨24, _⟩ => ⟨S8x128x5000x16, .f32⟩
  | .hbm, ⟨25, _⟩ => ⟨S_, .f32⟩
  | .hbm, ⟨26, _⟩ => ⟨S8x128x5000, .f32⟩
  | _, _ => ⟨S8x128x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_cst : Ref sig .tc := ⟨.hbm, 25, rfl⟩
abbrev main_v1 : Ref sig .tc := ⟨.hbm, 26, rfl⟩

abbrev nD : Nat := 1
abbrev τ : Topo := Topo.v7x

variable {F : FTy → Type} [FloatOps F]
-- ==== Proof.Base.lean ====
/- The setting every module of the proof shares: the SparseCore launch of the kernel, the algebra its ghost
   state lives in, the buffers a tile works on, and the values the kernel computes. -/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.WriteMode
public import Idealize.ShloMosaic.Lib.Transfers
public import Idealize.ShloMosaic.Lib.Tactic
public import proofs.«01_k».proof.Proof.Gen.KernelIdeal
public import proofs.«01_k».proof.Proof.Gen.KernelIdeal.Skeleton

@[expose] public section

noncomputable section

namespace Cert.Proof.MaxPool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)

open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The launch -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The ghost state: the launch's rounds, write mode, and the counters of copies in flight -/

abbrev UH : Type := URounds (GSem nD τ sig) ℕ
variable (F) in
abbrev UWm : Type := WmRA nD τ sig (Elt F)
variable (F) in
abbrev UU : Type := UH × (UWm F × ExclCount.Counters)

local notation "𝕄" => MT nD τ sig (HIx 1) (Elt F) ℕ (UU F) ℕ

variable (F) in
def EH : Emb UH (MT nD τ sig (HIx 1) (Elt F) ℕ (UU F) ℕ) :=
  (Emb.inl : Emb UH (UU F)).trans (uEmb (nD := nD) (sig := sig) (Ix := HIx 1) (Val := Elt F) (Name := ℕ) (U := UU F) (Lvl := ℕ)).toEmb

instance EH_landsIn : (EH F : Emb UH 𝕄).LandsIn (upEmb : UEmb _ 𝕄) := by unfold EH; infer_instance

variable (F) in
/-- Where write mode's algebra sits. -/
def wmE : UEmb (UWm F) (UU F) := (UEmb.inl : UEmb (UWm F) (UWm F × ExclCount.Counters)).trans UEmb.inr

variable (F) in
/-- Where the counters of the copies in flight sit. -/
abbrev EC : UEmb ExclCount.Counters 𝕄 := countersEmb

/-! ## The buffers of a tile -/

abbrev xM : Memref sig .scVector .hbm S8x128x10000 .f32 := Memref.whole main_arg0_scv
abbrev tM : Memref sig .scVector .hbm S16x5000 .i32 := Memref.whole main_v0_scv
abbrev oM : Memref sig .scVector .hbm S8x128x5000 .f32 := Memref.whole main_v1_scv
abbrev slabM : Memref sig .scVector .vmem S8x10000 .f32 := Memref.whole cc0_scratch0
abbrev nbM : Memref sig .scVector .vmem S2x16x512 .i32 := Memref.whole cc0_scratch1
abbrev ostM : Memref sig .scVector .vmem S2x8x512 .f32 := Memref.whole cc0_scratch2

/-- Programs of the tile at grid point `i`. -/
abbrev TP (i : grid0.Coords) : Type → Type 1 :=
  Prog (TpuEff nD τ sig (Elt F) Λ₀ (.scVector ((i 0).castLE hcore0) ((i 1).castLE hsub0)))

/-- The thread of that tile. -/
abbrev thr (d : Dev nD) (i : grid0.Coords) : Thread nD τ := (d, .scVector ((i 0).castLE hcore0) ((i 1).castLE hsub0))

/-- The largest of sixteen values, by the tree of pairwise maxima the kernel computes. -/
def tmax (a : Fin 16 → F .f32) : F .f32 :=
  let m := FloatOps.maximumf (F := F) (φ := .f32)
  m (m (m (m (a 0) (a 1)) (m (a 2) (a 3))) (m (m (a 4) (a 5)) (m (a 6) (a 7))))
    (m (m (m (a 8) (a 9)) (m (a 10) (a 11))) (m (m (a 12) (a 13)) (m (a 14) (a 15))))

end Cert.Proof.MaxPool

end
end
-- ==== Proof.Trip.lean ====
/- One trip of the kernel's inner loops, sixteen output columns of a slab: the index vectors of the group are loaded,
   and for each of the eight rows the sixteen gathered values are reduced and stored. The two inner loops (one per
   half of the double buffer) are the same program at different offsets; here that program is written once. -/
module

public import proofs.«01_k».proof.Proof.Base

@[expose] public section

noncomputable section

namespace Cert.Proof.MaxPool

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The gathers from the slab of one row at `n` index vectors, in order. -/
def gatherAll (i : grid0.Coords) (row : IVec S16 32) : (n : Nat) → (v : Fin n → IVec S16 32) →
    (∀ j a x, ((![row, v j] : Fin 2 → IVec S16 32) a x).toNat < S8x10000.size a) →
    ((Fin n → Vec F S16 .f32) → TP (F := F) i Unit) → TP (F := F) i Unit
  | 0, _, _, k => k fun j => j.elim0
  | n + 1, v, h, k =>
    SparseCore.vectorLoadIdx slabM ![row, v 0] (h 0) (View.loads_vmem h_S8x10000) >>= fun a =>
      gatherAll i row n (fun j => v j.succ) (fun j => h j.succ) fun b => k (Fin.cons a b)

/-- The loads of `n` index vectors from the index buffer, in order. -/
def idxAll (i : grid0.Coords) : (n : Nat) → (o : Fin n → Fin 3 → Nat) →
    (∀ j a, o j a + S1x1x16.size a ≤ S2x16x512.size a) →
    ((Fin n → IVec S16 32) → TP (F := F) i Unit) → TP (F := F) i Unit
  | 0, _, _, k => k fun j => j.elim0
  | n + 1, o, h, k =>
    Prog.lift (.load nbM (Rect.unit (s := S2x16x512) (o 0) S1x1x16.size (h 0)).toLoadRect
      (View.loadsAt_vmem h_S1x1x16)) >>= fun (ld : Vec F S1x1x16 .i32) =>
      idxAll i n (fun j => o j.succ) (fun j => h j.succ) fun b =>
        k (Fin.cons (shapeCast S16 ld shapeCasts_S1x1x16_S16) b)

/-- What a row's check says, by index vector. -/
theorem chk_all {v : Fin 16 → IVec S16 32} {r : IVec S16 32}
    (h : k0_chk1 (v 0) (v 1) (v 2) (v 3) (v 4) (v 5) (v 6) (v 7) (v 8) (v 9) (v 10) (v 11) (v 12) (v 13) (v 14) (v 15) r) :
    ∀ j a x, ((![r, v j] : Fin 2 → IVec S16 32) a x).toNat < S8x10000.size a := by
  obtain ⟨h0, h1, h2, h3, h4, h5, h6, h7, h8, h9, h10, h11, h12, h13, h14, h15⟩ := h
  intro j; fin_cases j <;> assumption

/-- The end of a row: the (unused) load of the target and the store of the largest of the gathered values. -/
def rowStore (i : grid0.Coords) (w : Fin 3 → Nat) (hw : ∀ a, w a + S1x1x16.size a ≤ S2x8x512.size a)
    (a : Fin 16 → Vec F S16 .f32) (k : TP (F := F) i Unit) : TP (F := F) i Unit :=
  Prog.lift (.load ostM (Rect.unit (s := S2x8x512) w S1x1x16.size hw).toLoadRect (View.loadsAt_vmem h_S1x1x16)) >>=
    fun (_ : Vec F S1x1x16 .f32) =>
  Prog.lift (.store ostM (Rect.unit (s := S2x8x512) w S1x1x16.size hw)
    (shapeCast S1x1x16 (k0_pay17 (a 0) (a 1) (a 2) (a 3) (a 4) (a 5) (a 6) (a 7) (a 8) (a 9) (a 10) (a 11) (a 12) (a 13) (a 14) (a 15)) shapeCasts_S16_S1x1x16)
    Finset.univ (View.stores_vmem_bits_univ h_S1x1x16 rfl) (.inl rfl)) >>= fun _ => k

/-- One row of a group: the check, the sixteen gathers and the store. -/
def rowProg (i : grid0.Coords) (f : BitVec 32) (w : Fin 3 → Nat) (hw : ∀ a, w a + S1x1x16.size a ≤ S2x8x512.size a)
    (v : Fin 16 → IVec S16 32) (k : TP (F := F) i Unit) : TP (F := F) i Unit :=
  Prog.lift (TpuEff.assume (k0_chk1 (v 0) (v 1) (v 2) (v 3) (v 4) (v 5) (v 6) (v 7) (v 8) (v 9) (v 10) (v 11) (v 12) (v 13) (v 14) (v 15) (broadcast S16 f))
      (k0_chk1.dec (v 0) (v 1) (v 2) (v 3) (v 4) (v 5) (v 6) (v 7) (v 8) (v 9) (v 10) (v 11) (v 12) (v 13) (v 14) (v 15) (broadcast S16 f))) >>= fun h =>
    gatherAll i (broadcast S16 f) 16 v (chk_all h.down) fun a => rowStore i w hw a k

/-- The rows of a group from row `r` on. -/
def rowsAll (i : grid0.Coords) (v : Fin 16 → IVec S16 32) : (n r : Nat) → (w : Fin n → Fin 3 → Nat) →
    (∀ j a, w j a + S1x1x16.size a ≤ S2x8x512.size a) → TP (F := F) i Unit
  | 0, _, _, _ => pure ⟨⟩
  | n + 1, r, w, h => rowProg i (BitVec.ofNat 32 r) (w 0) (h 0) v
      (rowsAll i v n (r + 1) (fun j => w j.succ) (fun j => h j.succ))

/-- A trip: the index vectors at the offsets `o`, then the rows stored at the offsets `w`. -/
def trip (i : grid0.Coords) (o : Fin 16 → Fin 3 → Nat) (ho : ∀ j a, o j a + S1x1x16.size a ≤ S2x16x512.size a)
    (w : Fin 8 → Fin 3 → Nat) (hw : ∀ j a, w j a + S1x1x16.size a ≤ S2x8x512.size a) : TP (F := F) i Unit :=
  idxAll i 16 o ho fun v => rowsAll i v 8 0 w hw

/-! ## The two inner loops' trips are this program -/

abbrev o3 (t : Fin k0_t3_loop.trips) : Fin 16 → Fin 3 → Nat :=
  ![k0_off4 t, k0_off5 t, k0_off6 t, k0_off7 t, k0_off8 t, k0_off9 t, k0_off10 t, k0_off11 t,
    k0_off12 t, k0_off13 t, k0_off14 t, k0_off15 t, k0_off16 t, k0_off17 t, k0_off18 t, k0_off19 t]
abbrev w3 (t : Fin k0_t3_loop.trips) : Fin 8 → Fin 3 → Nat :=
  ![k0_off20 t, k0_off21 t, k0_off22 t, k0_off23 t, k0_off24 t, k0_off25 t, k0_off26 t, k0_off27 t]
abbrev o4 (t : Fin k0_t4_loop.trips) : Fin 16 → Fin 3 → Nat :=
  ![k0_off30 t, k0_off31 t, k0_off32 t, k0_off33 t, k0_off34 t, k0_off35 t, k0_off36 t, k0_off37 t,
    k0_off38 t, k0_off39 t, k0_off40 t, k0_off41 t, k0_off42 t, k0_off43 t, k0_off44 t, k0_off45 t]
abbrev w4 (t : Fin k0_t4_loop.trips) : Fin 8 → Fin 3 → Nat :=
  ![k0_off46 t, k0_off47 t, k0_off48 t, k0_off49 t, k0_off50 t, k0_off51 t, k0_off52 t, k0_off53 t]

theorem o3_eq (t : Fin k0_t3_loop.trips) (j : Fin 16) : o3 t j = ![0, j.val, 16 * t.val] := by
  fin_cases j
  exacts [k0_off4_eq t, k0_off5_eq t, k0_off6_eq t, k0_off7_eq t, k0_off8_eq t, k0_off9_eq t, k0_off10_eq t, k0_off11_eq t,
    k0_off12_eq t, k0_off13_eq t, k0_off14_eq t, k0_off15_eq t, k0_off16_eq t, k0_off17_eq t, k0_off18_eq t, k0_off19_eq t]
theorem w3_eq (t : Fin k0_t3_loop.trips) (j : Fin 8) : w3 t j = ![0, j.val, 16 * t.val] := by
  fin_cases j
  exacts [k0_off20_eq t, k0_off21_eq t, k0_off22_eq t, k0_off23_eq t, k0_off24_eq t, k0_off25_eq t, k0_off26_eq t, k0_off27_eq t]
theorem o4_eq (t : Fin k0_t4_loop.trips) (j : Fin 16) : o4 t j = ![1, j.val, 16 * t.val] := by
  fin_cases j
  exacts [k0_off30_eq t, k0_off31_eq t, k0_off32_eq t, k0_off33_eq t, k0_off34_eq t, k0_off35_eq t, k0_off36_eq t, k0_off37_eq t,
    k0_off38_eq t, k0_off39_eq t, k0_off40_eq t, k0_off41_eq t, k0_off42_eq t, k0_off43_eq t, k0_off44_eq t, k0_off45_eq t]
theorem w4_eq (t : Fin k0_t4_loop.trips) (j : Fin 8) : w4 t j = ![1, j.val, 16 * t.val] := by
  fin_cases j
  exacts [k0_off46_eq t, k0_off47_eq t, k0_off48_eq t, k0_off49_eq t, k0_off50_eq t, k0_off51_eq t, k0_off52_eq t, k0_off53_eq t]

/-- The closed offsets are in the buffers. -/
theorem col16 (t : Nat) (ht : t < 32) (p : Nat) (hp : p < 2) {n : Nat} (j : Fin n) (a : Fin 3) :
    (![p, j.val, 16 * t] : Fin 3 → Nat) a + S1x1x16.size a ≤ (![2, n, 512] : Fin 3 → Nat) a := by
  have := j.isLt
  fin_cases a <;> simp [S1x1x16, Shape.size] <;> omega

theorem o3_inb (t : Fin k0_t3_loop.trips) (j : Fin 16) (a : Fin 3) : o3 t j a + S1x1x16.size a ≤ S2x16x512.size a := by
  rw [o3_eq]; exact col16 t.val (t.isLt.trans_le k0_t3_abs.2.1) 0 (by decide) j a
theorem w3_inb (t : Fin k0_t3_loop.trips) (j : Fin 8) (a : Fin 3) : w3 t j a + S1x1x16.size a ≤ S2x8x512.size a := by
  rw [w3_eq]; exact col16 t.val (t.isLt.trans_le k0_t3_abs.2.1) 0 (by decide) j a
theorem o4_inb (t : Fin k0_t4_loop.trips) (j : Fin 16) (a : Fin 3) : o4 t j a + S1x1x16.size a ≤ S2x16x512.size a := by
  rw [o4_eq]; exact col16 t.val (t.isLt.trans_le k0_t4_abs.2.1) 1 (by decide) j a
theorem w4_inb (t : Fin k0_t4_loop.trips) (j : Fin 8) (a : Fin 3) : w4 t j a + S1x1x16.size a ≤ S2x8x512.size a := by
  rw [w4_eq]; exact col16 t.val (t.isLt.trans_le k0_t4_abs.2.1) 1 (by decide) j a

theorem t3_body_eq (i : grid0.Coords) (t1 : Fin k0_t1_loop.trips) (b12 b1 b2 : BitVec 32) (t2 : Fin k0_t2_loop.trips)
    (t : Fin k0_t3_loop.trips) :
    k0_t3_body (F := F) i xM (Memref.isWhole_whole _) tM (Memref.isWhole_whole _) oM (Memref.isWhole_whole _)
      slabM (Memref.isWhole_whole _) nbM (Memref.isWhole_whole _) ostM (Memref.isWhole_whole _)
      cc0_scratch3 cc0_scratch4 cc0_scratch5 cc0_scratch6 cc0_scoped0 t1 b12 b1 b2 t2 t ⟨⟩
      = trip i (o3 t) (o3_inb t) (w3 t) (w3_inb t) := rfl

theorem t4_body_eq (i : grid0.Coords) (t1 : Fin k0_t1_loop.trips) (b12 b13 : BitVec 32) (t2 : Fin k0_t2_loop.trips)
    (t : Fin k0_t4_loop.trips) :
    k0_t4_body (F := F) i xM (Memref.isWhole_whole _) tM (Memref.isWhole_whole _) oM (Memref.isWhole_whole _)
      slabM (Memref.isWhole_whole _) nbM (Memref.isWhole_whole _) ostM (Memref.isWhole_whole _)
      cc0_scratch3 cc0_scratch4 cc0_scratch5 cc0_scratch6 cc0_scoped0 t1 b12 t2 b13 t ⟨⟩
      = trip i (o4 t) (o4_inb t) (w4 t) (w4_inb t) := rfl

end Cert.Proof.MaxPool

end
end
-- ==== Proof.Row.lean ====
/- What one trip of an inner loop does: sixteen more columns of the staged output hold the largest of the slab's
   values the index buffer names for them. -/
module

public import proofs.«01_k».proof.Proof.Trip

@[expose] public section

noncomputable section

namespace Cert.Proof.MaxPool

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

/-! ## Values -/

/-- Element `(r, n)` of the slab, the column taken modulo the slab's width. -/
def sIx (r : Fin 8) (n : Nat) : S8x10000.Idx
  | 0 => r
  | 1 => (⟨n % 10000, Nat.mod_lt _ (by decide)⟩ : Fin 10000)

/-- Element `(p, j, c)` of the index buffer. -/
def nIx (p : Fin 2) (j : Fin 16) (c : Fin 512) : S2x16x512.Idx
  | 0 => p
  | 1 => j
  | 2 => c

/-- What the staged output is to hold at an element: the largest over the sixteen index rows. -/
def grp (fS : S8x10000.Idx → F .f32) (fN : S2x16x512.Idx → BitVec 32) (y : S2x8x512.Idx) : F .f32 :=
  tmax fun j => fS (sIx (y 1) (fN (nIx (y 0) j (y 2))).toNat)

/-- The elements of half `p` done after `t` groups and `r` rows of the next hold their values. -/
def Done (fS : S8x10000.Idx → F .f32) (fN : S2x16x512.Idx → BitVec 32) (p t r : Nat) (g : S2x8x512.Idx → F .f32) : Prop :=
  ∀ y : S2x8x512.Idx, (y 0).val = p → ((y 2).val < 16 * t ∨ ((y 2).val < 16 * t + 16 ∧ (y 1).val < r)) → g y = grp fS fN y

theorem Done.zero (fS : S8x10000.Idx → F .f32) (fN : S2x16x512.Idx → BitVec 32) (p : Nat) (g : S2x8x512.Idx → F .f32) :
    Done fS fN p 0 0 g := fun y _ h => absurd h (by omega)

theorem Done.next {fS : S8x10000.Idx → F .f32} {fN : S2x16x512.Idx → BitVec 32} {p t : Nat} {g : S2x8x512.Idx → F .f32}
    (h : Done fS fN p t 8 g) : Done fS fN p (t + 1) 0 g := fun y hp hc => h y hp (by
  have h1 : (y 1).val < 8 := (y 1).isLt
  omega)

/-- The shape casts between a group's vector and the block it is stored in keep the lane. -/
theorem lane_of_block (h : S1x1x16.numel = S16.numel) (x : S1x1x16.Idx) :
    ((Shape.reshapeEquiv (s := S16) (s' := S1x1x16) h x) 0).val = (x 2).val := by
  have e := Shape.rowMajor_reshapeEquiv (s := S16) (s' := S1x1x16) h x
  rw [Shape.rowMajor_val_one, Shape.rowMajor_val_three] at e
  have h0 : (x 0).val < 1 := (x 0).isLt
  have h1 : (x 1).val < 1 := (x 1).isLt
  rw [e]
  simp only [Nat.lt_one_iff.1 h0, Nat.lt_one_iff.1 h1, Nat.zero_mul, Nat.zero_add]

theorem block_of_lane (h : S16.numel = S1x1x16.numel) (y : S16.Idx) :
    ((Shape.reshapeEquiv (s := S1x1x16) (s' := S16) h y) 2).val = (y 0).val := by
  rw [← lane_of_block h.symm, Shape.reshapeEquiv_reshapeEquiv, Shape.reshapeEquiv_self]

/-- An index vector loaded from row `j` of half `p` at group `t`. -/
theorem ld_apply (fN : S2x16x512.Idx → BitVec 32) (o : Fin 3 → Nat) (ho : ∀ a, o a + S1x1x16.size a ≤ S2x16x512.size a)
    (p : Fin 2) (j : Fin 16) (t : Nat) (ht : t < 32) (e : o = ![p.val, j.val, 16 * t]) (y : S16.Idx) :
    (shapeCast S16 ((nbM.view.readAt (Elt F) (Rect.unit (s := S2x16x512) o S1x1x16.size ho).toLoadRect fN : Vec F S1x1x16 .i32))
        shapeCasts_S1x1x16_S16 : IVec S16 32) y
      = fN (nIx p j ⟨16 * t + (y 0).val, by have h : (y 0).val < 16 := (y 0).isLt; omega⟩) := by
  subst e
  show fN _ = fN _
  congr 1
  have hb := block_of_lane shapeCasts_S1x1x16_S16 y
  generalize Shape.reshapeEquiv (s := S1x1x16) (s' := S16) shapeCasts_S1x1x16_S16 y = x at hb
  have h0 : (x 0).val < 1 := (x 0).isLt
  have h1 : (x 1).val < 1 := (x 1).isLt
  funext a
  apply Fin.ext
  fin_cases a
  · show p.val + 1 * (x 0).val = p.val; omega
  · show j.val + 1 * (x 1).val = j.val; omega
  · show 16 * t + 1 * (x 2).val = 16 * t + (y 0).val; omega

/-- A gather from row `r` of the slab. -/
theorem gather_apply (fS : S8x10000.Idx → F .f32) (r : Fin 8) (v : IVec S16 32)
    (h : ∀ a x, ((![broadcast S16 (BitVec.ofNat 32 r.val), v] : Fin 2 → IVec S16 32) a x).toNat < S8x10000.size a) (y : S16.Idx) :
    (loadIdx (F := F) (e := .f32) ((slabM.access (.whole S8x10000)).read (Elt F) fS) ![broadcast S16 (BitVec.ofNat 32 r.val), v] h : Vec F S16 .f32) y
      = fS (sIx r (v y).toNat) := by
  have hv : (v y).toNat < 10000 := h 1 y
  have hr : r.val < 8 := r.isLt
  show fS _ = fS _
  congr 1
  funext a
  apply Fin.ext
  fin_cases a
  · show 0 + 1 * (BitVec.ofNat 32 r.val).toNat = r.val
    rw [BitVec.toNat_ofNat]; omega
  · show 0 + 1 * (v y).toNat = (v y).toNat % 10000
    omega

/-- The store of row `r` of group `t`: the elements it names hold the stored vector, the others are unchanged. -/
theorem store_done {fS : S8x10000.Idx → F .f32} {fN : S2x16x512.Idx → BitVec 32} {p : Fin 2} {t r : Nat}
    {g : S2x8x512.Idx → F .f32} (hg : Done fS fN p.val t r g) (w : Fin 3 → Nat) (hw : ∀ a, w a + S1x1x16.size a ≤ S2x8x512.size a)
    (e : w = ![p.val, r, 16 * t]) (u : S1x1x16.Idx → F .f32)
    (hu : ∀ x : S1x1x16.Idx, ∀ y : S2x8x512.Idx, (y 0).val = p.val → (y 1).val = r → (y 2).val = 16 * t + (x 2).val → u x = grp fS fN y) :
    Done fS fN p.val t (r + 1) ((ostM.access (Rect.unit (s := S2x8x512) w S1x1x16.size hw)).write (Elt F) g u Finset.univ) := by
  subst e
  intro y hp hc
  by_cases hm : (y 1).val = r ∧ 16 * t ≤ (y 2).val ∧ (y 2).val < 16 * t + 16
  · obtain ⟨h1, h2, h3⟩ := hm
    let x : S1x1x16.Idx := fun | 0 => (⟨0, by decide⟩ : Fin 1) | 1 => (⟨0, by decide⟩ : Fin 1) | 2 => (⟨(y 2).val - 16 * t, by omega⟩ : Fin 16)
    have hx : (ostM.access (Rect.unit (s := S2x8x512) ![p.val, r, 16 * t] S1x1x16.size hw)).emb x = y := by
      funext a
      apply Fin.ext
      fin_cases a
      · show p.val + 1 * 0 = (y 0).val; omega
      · show r + 1 * 0 = (y 1).val; omega
      · show 16 * t + 1 * ((y 2).val - 16 * t) = (y 2).val; omega
    have hwr := View.write_emb_of_mem (Val := Elt F) (v := ostM.access (Rect.unit (s := S2x8x512) ![p.val, r, 16 * t] S1x1x16.size hw))
      g u (M := Finset.univ) (x := x) (Finset.mem_univ _)
    rw [hx] at hwr
    refine (show _ = u x from hwr).trans (hu x y hp h1 ?_)
    show (y 2).val = 16 * t + ((y 2).val - 16 * t); omega
  · have hn : y ∉ (ostM.access (Rect.unit (s := S2x8x512) ![p.val, r, 16 * t] S1x1x16.size hw)).setOn Finset.univ := by
      intro hy
      obtain ⟨x, -, hx⟩ := Finset.mem_map.1 hy
      apply hm
      have h1 : (x 1).val < 1 := (x 1).isLt
      have h2 : (x 2).val < 16 := (x 2).isLt
      have e1 : r + 1 * (x 1).val = (y 1).val := congrArg (fun z : S2x8x512.Idx => (z 1).val) hx
      have e2 : 16 * t + 1 * (x 2).val = (y 2).val := congrArg (fun z : S2x8x512.Idx => (z 2).val) hx
      omega
    exact (View.write_of_not_mem (Val := Elt F) (v := ostM.access (Rect.unit (s := S2x8x512) ![p.val, r, 16 * t] S1x1x16.size hw))
      g u Finset.univ hn).trans (hg y hp (by omega))

/-- What a row stores is what the row is to hold. -/
theorem row_value (fS : S8x10000.Idx → F .f32) (fN : S2x16x512.Idx → BitVec 32) (p : Fin 2) (r : Fin 8) (t : Nat) (ht : t < 32)
    (v : Fin 16 → IVec S16 32)
    (hv : ∀ j y, v j y = fN (nIx p j ⟨16 * t + (y 0).val, by have h : (y 0).val < 16 := (y 0).isLt; omega⟩))
    (hin : ∀ j a x, ((![broadcast S16 (BitVec.ofNat 32 r.val), v j] : Fin 2 → IVec S16 32) a x).toNat < S8x10000.size a)
    (x : S1x1x16.Idx) (y : S2x8x512.Idx) (h0 : (y 0).val = p.val) (h1 : (y 1).val = r.val) (h2 : (y 2).val = 16 * t + (x 2).val) :
    (fun a : Fin 16 → Vec F S16 .f32 => shapeCast S1x1x16 (k0_pay17 (a 0) (a 1) (a 2) (a 3) (a 4) (a 5) (a 6) (a 7) (a 8) (a 9) (a 10) (a 11) (a 12) (a 13) (a 14) (a 15)) shapeCasts_S16_S1x1x16)
      (fun j => loadIdx (F := F) (e := .f32) ((slabM.access (.whole S8x10000)).read (Elt F) fS) ![broadcast S16 (BitVec.ofNat 32 r.val), v j] (hin j)) x
      = grp fS fN y := by
  have hl := lane_of_block shapeCasts_S16_S1x1x16 x
  show tmax (fun j => (loadIdx (F := F) (e := .f32) ((slabM.access (.whole S8x10000)).read (Elt F) fS) ![broadcast S16 (BitVec.ofNat 32 r.val), v j] (hin j) : Vec F S16 .f32)
    (Shape.reshapeEquiv (s := S16) (s' := S1x1x16) shapeCasts_S16_S1x1x16 x)) = _
  generalize Shape.reshapeEquiv (s := S16) (s' := S1x1x16) shapeCasts_S16_S1x1x16 x = l at hl
  unfold grp
  congr 1
  funext j
  rw [gather_apply, hv]
  have e0 : p = y 0 := Fin.ext h0.symm
  have e1 : r = y 1 := Fin.ext h1.symm
  have e2 : (⟨16 * t + (l 0).val, by have h : (l 0).val < 16 := (l 0).isLt; omega⟩ : Fin 512) = y 2 := by
    refine Fin.ext ?_
    show 16 * t + (l 0).val = (y 2).val
    omega
  rw [e0, e1, e2]

/-! ## The program -/

section Wp

variable (d : Dev nD) (L : grid0.Coords)

/-- The slab, held at a share. -/
abbrev slabPt (q : PosShare TreeShare) (fS : S8x10000.Idx → F .f32) : sProp 𝕄 :=
  (thr d L).loc cc0_scratch0 ↦[Finset.univ]{q} fS
/-- Half `p` of the index buffer. -/
abbrev nbSet (p : Fin 2) : Finset S2x16x512.Idx := Finset.univ.filter fun y => (y 0).val = p.val
abbrev nbPt (p : Fin 2) (fN : S2x16x512.Idx → BitVec 32) : sProp 𝕄 :=
  (thr d L).loc cc0_scratch1 ↦[nbSet p]{fullShare} fN
/-- Half `p` of the staged output. -/
abbrev ostSet (p : Fin 2) : Finset S2x8x512.Idx := Finset.univ.filter fun y => (y 0).val = p.val
abbrev ostPt (p : Fin 2) (g : S2x8x512.Idx → F .f32) : sProp 𝕄 :=
  (thr d L).loc cc0_scratch2 ↦[ostSet p]{fullShare} g

/-- The weakest precondition of a program of the tile. -/
abbrev twp {α : Type} (x : TP (F := F) L α) (Q : α → sProp 𝕄) : sProp 𝕄 :=
  wp frame (wpE (defs₀ (F := F)) 𝒱₀ (thr d L) none) Set.univ x Q

theorem wp_gatherAll {Q : Unit → sProp 𝕄} (q : PosShare TreeShare) (fS : S8x10000.Idx → F .f32) (row : IVec S16 32) (n : Nat) :
    ∀ (v : Fin n → IVec S16 32) (h : ∀ j a x, ((![row, v j] : Fin 2 → IVec S16 32) a x).toNat < S8x10000.size a)
      (k : (Fin n → Vec F S16 .f32) → TP (F := F) L Unit),
    slabPt d L q fS ⊢ iprop((slabPt d L q fS -∗ twp d L (k fun j => loadIdx (F := F) (e := .f32) ((slabM.access (.whole S8x10000)).read (Elt F) fS) ![row, v j] (h j)) Q)
      -∗ twp d L (gatherAll L row n v h k) Q) := by
  induction n with
  | zero =>
    intro v h k
    iintro H Hk
    rw [show (fun j : Fin 0 => loadIdx (F := F) (e := .f32) ((slabM.access (.whole S8x10000)).read (Elt F) fS) ![row, v j] (h j)) = fun j => j.elim0 from funext fun j => j.elim0]
    iapply Hk $$ H
  | succ n ih =>
    intro v h k
    iintro H Hk
    unfold gatherAll
    iapply (SparseCore.wp_vectorLoadIdx 𝒱₀ (thr d L) none Set.univ (base := slabM) (S := Finset.univ) (Finset.subset_univ _)) $$ H
    iintro H
    iapply (ih (fun j => v j.succ) (fun j => h j.succ) _) $$ H
    iintro H
    rw [show (fun j : Fin (n + 1) => loadIdx (F := F) (e := .f32) ((slabM.access (.whole S8x10000)).read (Elt F) fS) ![row, v j] (h j))
        = Fin.cons (loadIdx (F := F) (e := .f32) ((slabM.access (.whole S8x10000)).read (Elt F) fS) ![row, v 0] (h 0))
            fun j : Fin n => loadIdx (F := F) (e := .f32) ((slabM.access (.whole S8x10000)).read (Elt F) fS) ![row, v j.succ] (h j.succ)
        from funext fun j => Fin.cases rfl (fun _ => rfl) j]
    iapply Hk $$ H

theorem wp_idxAll {Q : Unit → sProp 𝕄} (fN : S2x16x512.Idx → BitVec 32) (p : Fin 2) (n : Nat) :
    ∀ (o : Fin n → Fin 3 → Nat) (h : ∀ j a, o j a + S1x1x16.size a ≤ S2x16x512.size a) (_ : ∀ j, o j 0 = p.val)
      (k : (Fin n → IVec S16 32) → TP (F := F) L Unit),
    nbPt (F := F) d L p fN ⊢ iprop((nbPt (F := F) d L p fN -∗ twp d L (k fun j => shapeCast S16
          ((nbM.view.readAt (Elt F) (Rect.unit (s := S2x16x512) (o j) S1x1x16.size (h j)).toLoadRect fN : Vec F S1x1x16 .i32)) shapeCasts_S1x1x16_S16) Q)
      -∗ twp d L (idxAll L n o h k) Q) := by
  induction n with
  | zero =>
    intro o h _ k
    iintro H Hk
    rw [show (fun j : Fin 0 => (shapeCast S16 ((nbM.view.readAt (Elt F) (Rect.unit (s := S2x16x512) (o j) S1x1x16.size (h j)).toLoadRect fN : Vec F S1x1x16 .i32)) shapeCasts_S1x1x16_S16 : IVec S16 32))
      = fun j => j.elim0 from funext fun j => j.elim0]
    iapply Hk $$ H
  | succ n ih =>
    intro o h hp k
    iintro H Hk
    unfold idxAll
    have hsub : nbM.view.setOn (Rect.unit (s := S2x16x512) (o 0) S1x1x16.size (h 0)).toLoadRect.set ⊆ nbSet p := by
      intro y hy
      obtain ⟨x, hx, rfl⟩ := Finset.mem_map.1 hy
      refine Finset.mem_filter.2 ⟨Finset.mem_univ _, ?_⟩
      have h0 := Rect.mem_set_unit.1 hx 0
      have e0 := hp 0
      have h1 : o 0 0 ≤ (x 0).val ∧ (x 0).val < o 0 0 + 1 := h0
      show (x 0).val = p.val
      omega
    iapply (wp_load 𝒱₀ (thr d L) none Set.univ (m := nbM) (S := nbSet p) hsub) $$ H
    iintro H
    iapply (ih (fun j => o j.succ) (fun j => h j.succ) (fun j => hp j.succ) _) $$ H
    iintro H
    rw [show (fun j : Fin (n + 1) => (shapeCast S16 ((nbM.view.readAt (Elt F) (Rect.unit (s := S2x16x512) (o j) S1x1x16.size (h j)).toLoadRect fN : Vec F S1x1x16 .i32)) shapeCasts_S1x1x16_S16 : IVec S16 32))
        = Fin.cons (shapeCast S16 ((nbM.view.readAt (Elt F) (Rect.unit (s := S2x16x512) (o 0) S1x1x16.size (h 0)).toLoadRect fN : Vec F S1x1x16 .i32)) shapeCasts_S1x1x16_S16)
            fun j : Fin n => shapeCast S16 ((nbM.view.readAt (Elt F) (Rect.unit (s := S2x16x512) (o j.succ) S1x1x16.size (h j.succ)).toLoadRect fN : Vec F S1x1x16 .i32)) shapeCasts_S1x1x16_S16
        from funext fun j => Fin.cases rfl (fun _ => rfl) j]
    iapply Hk $$ H

/-- The end of a row. -/
theorem wp_rowStore {Q : Unit → sProp 𝕄} (p : Fin 2) (t : Nat) (r : Fin 8) (a : Fin 16 → Vec F S16 .f32)
    (w : Fin 3 → Nat) (hw : ∀ a, w a + S1x1x16.size a ≤ S2x8x512.size a) (e : w = ![p.val, r.val, 16 * t])
    (k : TP (F := F) L Unit) (g : S2x8x512.Idx → F .f32) (G : (S2x8x512.Idx → F .f32) → Prop)
    (hG : G ((ostM.access (Rect.unit (s := S2x8x512) w S1x1x16.size hw)).write (Elt F) g
      (shapeCast S1x1x16 (k0_pay17 (a 0) (a 1) (a 2) (a 3) (a 4) (a 5) (a 6) (a 7) (a 8) (a 9) (a 10) (a 11) (a 12) (a 13) (a 14) (a 15)) shapeCasts_S16_S1x1x16)
      Finset.univ)) :
    ostPt d L p g ⊢ iprop((∀ g', ⌜G g'⌝ -∗ ostPt d L p g' -∗ twp d L k Q) -∗ twp d L (rowStore L w hw a k) Q) := by
  subst e
  have hsub : (ostM.access (Rect.unit (s := S2x8x512) ![p.val, r.val, 16 * t] S1x1x16.size hw)).setOn Finset.univ ⊆ ostSet p := by
    intro y hy
    obtain ⟨x, -, rfl⟩ := Finset.mem_map.1 hy
    refine Finset.mem_filter.2 ⟨Finset.mem_univ _, ?_⟩
    have h0 : (x 0).val < 1 := (x 0).isLt
    show p.val + 1 * (x 0).val = p.val; omega
  have hsub' : ostM.view.setOn (Rect.unit (s := S2x8x512) ![p.val, r.val, 16 * t] S1x1x16.size hw).toLoadRect.set ⊆ ostSet p := by
    intro y hy
    obtain ⟨x, hx, rfl⟩ := Finset.mem_map.1 hy
    refine Finset.mem_filter.2 ⟨Finset.mem_univ _, ?_⟩
    have h1 : p.val ≤ (x 0).val ∧ (x 0).val < p.val + 1 := Rect.mem_set_unit.1 hx 0
    show (x 0).val = p.val
    omega
  iintro HO Hk
  unfold rowStore
  iapply (wp_load 𝒱₀ (thr d L) none Set.univ (m := ostM) (S := ostSet p) hsub') $$ HO
  iintro HO
  iapply (wp_store 𝒱₀ (thr d L) none Set.univ (m := ostM) (r := Rect.unit (s := S2x8x512) ![p.val, r.val, 16 * t] S1x1x16.size hw) (Mk := Finset.univ) (S := ostSet p) hsub) $$ HO
  iintro HO
  iapply Hk $$ %_ [] HO
  ipureintro
  exact hG

/-- One row: the index vectors `v` being those of group `t` of half `p`, the row's elements come to hold their values. -/
theorem wp_rowProg {Q : Unit → sProp 𝕄} (q : PosShare TreeShare) (fS : S8x10000.Idx → F .f32) (fN : S2x16x512.Idx → BitVec 32)
    (p : Fin 2) (hN : ∀ y : S2x16x512.Idx, (y 0).val = p.val → (fN y).toNat < 10000) (t : Nat) (ht : t < 32) (r : Fin 8)
    (v : Fin 16 → IVec S16 32)
    (hv : ∀ j y, v j y = fN (nIx p j ⟨16 * t + (y 0).val, by have h : (y 0).val < 16 := (y 0).isLt; omega⟩))
    (w : Fin 3 → Nat) (hw : ∀ a, w a + S1x1x16.size a ≤ S2x8x512.size a) (e : w = ![p.val, r.val, 16 * t])
    (k : TP (F := F) L Unit) (g : S2x8x512.Idx → F .f32) (hg : Done fS fN p.val t r.val g) :
    iprop(slabPt d L q fS ∗ ostPt d L p g)
      ⊢ iprop((∀ g', ⌜Done fS fN p.val t (r.val + 1) g'⌝ -∗ slabPt d L q fS -∗ ostPt d L p g' -∗ twp d L k Q)
        -∗ twp d L (rowProg L (BitVec.ofNat 32 r.val) w hw v k) Q) := by
  have hin : ∀ j a x, ((![broadcast S16 (BitVec.ofNat 32 r.val), v j] : Fin 2 → IVec S16 32) a x).toNat < S8x10000.size a := by
    intro j a x
    have hr : r.val < 8 := r.isLt
    fin_cases a
    · show (BitVec.ofNat 32 r.val).toNat < 8
      rw [BitVec.toNat_ofNat]; omega
    · show (v j x).toNat < 10000
      rw [hv]; exact hN _ rfl
  iintro ⟨HS, HO⟩ Hk
  unfold rowProg
  iapply (wp_assume 𝒱₀ (thr d L) none Set.univ (show k0_chk1 (v 0) (v 1) (v 2) (v 3) (v 4) (v 5) (v 6) (v 7) (v 8) (v 9) (v 10) (v 11) (v 12) (v 13) (v 14) (v 15) (broadcast S16 (BitVec.ofNat 32 r.val))
    from ⟨hin 0, hin 1, hin 2, hin 3, hin 4, hin 5, hin 6, hin 7, hin 8, hin 9, hin 10, hin 11, hin 12, hin 13, hin 14, hin 15⟩))
  iapply (wp_gatherAll d L q fS (broadcast S16 (BitVec.ofNat 32 r.val)) 16 v hin (fun a => rowStore L w hw a k)) $$ HS
  iintro HS
  iapply (wp_rowStore d L p t r _ w hw e k g (Done fS fN p.val t (r.val + 1)) (store_done hg w hw e _
    fun x y h0 h1 h2 => row_value fS fN p r t ht v hv hin x y h0 h1 h2)) $$ HO
  iintro %g' %h' HO
  iapply Hk $$ %g' %h' HS HO

end Wp

end Cert.Proof.MaxPool
-- ==== Proof.Loop.lean ====
/- The inner loops over the thirty-two groups of a block: after them every element of the staged half holds the
   largest of its sixteen gathered values. -/
module

public import proofs.«01_k».proof.Proof.Row

@[expose] public section

noncomputable section

namespace Cert.Proof.MaxPool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

section Wp

variable (d : Dev nD) (L : grid0.Coords)

theorem twp_pure {α : Type} (a : α) {Q : α → sProp 𝕄} : Q a ⊢ twp d L (pure a) Q := by
  unfold twp
  rw [wp_pure]
  iintro H
  imodintro
  iexact H

/-- The rows of a group from row `r` on. -/
theorem wp_rowsAll {Q : Unit → sProp 𝕄} (q : PosShare TreeShare) (fS : S8x10000.Idx → F .f32) (fN : S2x16x512.Idx → BitVec 32)
    (p : Fin 2) (hN : ∀ y : S2x16x512.Idx, (y 0).val = p.val → (fN y).toNat < 10000) (t : Nat) (ht : t < 32)
    (v : Fin 16 → IVec S16 32)
    (hv : ∀ j y, v j y = fN (nIx p j ⟨16 * t + (y 0).val, by have h : (y 0).val < 16 := (y 0).isLt; omega⟩)) (n : Nat) :
    ∀ (r : Nat) (hr : r + n = 8) (w : Fin n → Fin 3 → Nat) (hw : ∀ j a, w j a + S1x1x16.size a ≤ S2x8x512.size a)
      (_ : ∀ j, w j = ![p.val, r + j.val, 16 * t]) (g : S2x8x512.Idx → F .f32) (_ : Done fS fN p.val t r g),
    iprop(slabPt d L q fS ∗ ostPt d L p g)
      ⊢ iprop((∀ g', ⌜Done fS fN p.val t 8 g'⌝ -∗ slabPt d L q fS -∗ ostPt d L p g' -∗ Q ⟨⟩)
        -∗ twp d L (rowsAll L v n r w hw) Q) := by
  induction n with
  | zero =>
    intro r hr w hw _ g hg
    obtain rfl : r = 8 := by omega
    iintro ⟨HS, HO⟩ Hk
    unfold rowsAll
    iapply (twp_pure d L ⟨⟩)
    iapply Hk $$ %g %hg HS HO
  | succ n ih =>
    intro r hr w hw e g hg
    iintro ⟨HS, HO⟩ Hk
    unfold rowsAll
    iapply (wp_rowProg d L q fS fN p hN t ht ⟨r, by omega⟩ v hv (w 0) (hw 0) (e 0) (rowsAll L v n (r + 1) (fun j => w j.succ) (fun j => hw j.succ)) g hg) $$ [HS HO]
    · isplitl [HS] <;> iassumption
    iintro %g' %h' HS HO
    iapply (ih (r + 1) (by omega) (fun j => w j.succ) (fun j => hw j.succ)
      (fun j => by rw [e j.succ, show r + (j.succ).val = r + 1 + j.val from by rw [Fin.val_succ]; omega]) g' h') $$ [HS HO]
    · isplitl [HS] <;> iassumption
    iexact Hk

/-- One trip: the elements of one more group of half `p` come to hold their values. -/
theorem wp_trip {Q : Unit → sProp 𝕄} (q : PosShare TreeShare) (fS : S8x10000.Idx → F .f32) (fN : S2x16x512.Idx → BitVec 32)
    (p : Fin 2) (hN : ∀ y : S2x16x512.Idx, (y 0).val = p.val → (fN y).toNat < 10000) (t : Nat) (ht : t < 32)
    (o : Fin 16 → Fin 3 → Nat) (ho : ∀ j a, o j a + S1x1x16.size a ≤ S2x16x512.size a) (eo : ∀ j, o j = ![p.val, j.val, 16 * t])
    (w : Fin 8 → Fin 3 → Nat) (hw : ∀ j a, w j a + S1x1x16.size a ≤ S2x8x512.size a) (ew : ∀ j, w j = ![p.val, j.val, 16 * t])
    (g : S2x8x512.Idx → F .f32) (hg : Done fS fN p.val t 0 g) :
    iprop(slabPt d L q fS ∗ nbPt (F := F) d L p fN ∗ ostPt d L p g)
      ⊢ iprop((∀ g', ⌜Done fS fN p.val (t + 1) 0 g'⌝ -∗ slabPt d L q fS -∗ nbPt (F := F) d L p fN -∗ ostPt d L p g' -∗ Q ⟨⟩)
        -∗ twp d L (trip L o ho w hw) Q) := by
  iintro ⟨HS, HN, HO⟩ Hk
  unfold trip
  iapply (wp_idxAll d L fN p 16 o ho (fun j => by rw [eo j]; rfl) (fun v => rowsAll L v 8 0 w hw)) $$ HN
  iintro HN
  iapply (wp_rowsAll d L q fS fN p hN t ht _ (fun j y => ld_apply fN (o j) (ho j) p j t ht (eo j) y) 8 0 rfl w hw
    (fun j => by rw [ew j, Nat.zero_add]) g hg) $$ [HS HO]
  · isplitl [HS] <;> iassumption
  iintro %g' %h' HS HO
  iapply Hk $$ %g' %(h'.next) HS HN HO

/-- The loop over the groups, for any loop of thirty-two such trips. -/
theorem wp_groups {Q : Unit → sProp 𝕄} (q : PosShare TreeShare) (fS : S8x10000.Idx → F .f32) (fN : S2x16x512.Idx → BitVec 32)
    (p : Fin 2) (hN : ∀ y : S2x16x512.Idx, (y 0).val = p.val → (fN y).toNat < 10000)
    (l : Scf.Loop 32) (hok : l.OK) (hl : l.trips = 32) (body : Fin l.trips → Unit → TP (F := F) L Unit)
    (o : Fin l.trips → Fin 16 → Fin 3 → Nat) (ho : ∀ t j a, o t j a + S1x1x16.size a ≤ S2x16x512.size a)
    (eo : ∀ t j, o t j = ![p.val, j.val, 16 * t.val])
    (w : Fin l.trips → Fin 8 → Fin 3 → Nat) (hw : ∀ t j a, w t j a + S1x1x16.size a ≤ S2x8x512.size a)
    (ew : ∀ t j, w t j = ![p.val, j.val, 16 * t.val])
    (hb : ∀ t, body t ⟨⟩ = trip L (o t) (ho t) (w t) (hw t)) (g : S2x8x512.Idx → F .f32) :
    iprop(slabPt d L q fS ∗ nbPt (F := F) d L p fN ∗ ostPt d L p g)
      ⊢ iprop((∀ g', ⌜Done fS fN p.val 32 0 g'⌝ -∗ slabPt d L q fS -∗ nbPt (F := F) d L p fN -∗ ostPt d L p g' -∗ Q ⟨⟩)
        -∗ twp d L (Scf.Loop.for l hok ⟨⟩ body) Q) := by
  have hbody : ∀ (t : Fin (Scf.trips l.lb l.ub l.st)) (acc : Unit),
      iprop(slabPt d L q fS ∗ nbPt (F := F) d L p fN ∗ ∃ g', ⌜Done fS fN p.val t.val 0 g'⌝ ∗ ostPt d L p g')
        ⊢ twp d L (body t acc) (fun _ => iprop(slabPt d L q fS ∗ nbPt (F := F) d L p fN ∗ ∃ g', ⌜Done fS fN p.val (t.val + 1) 0 g'⌝ ∗ ostPt d L p g')) := by
    intro t _
    have ht : t.val < 32 := lt_of_lt_of_eq t.isLt hl
    rw [hb]
    iintro ⟨HS, HN, %g', %h', HO⟩
    iapply (wp_trip d L q fS fN p hN t.val ht (o t) (ho t) (eo t) (w t) (hw t) (ew t) g' h') $$ [HS HN HO]
    · isplitl [HS]; · iexact HS
      isplitl [HN] <;> iassumption
    iintro %g'' %h'' HS HN HO
    isplitl [HS]; · iexact HS
    isplitl [HN]; · iexact HN
    iexists g''
    isplitr
    · ipureintro; exact h''
    · iexact HO
  iintro ⟨HS, HN, HO⟩ Hk
  iapply (Scf.wp_for frame (wpE (defs₀ (F := F)) 𝒱₀ (thr d L) none) Set.univ l.lb l.ub l.st hok ⟨⟩ body
    (fun k _ => iprop(slabPt d L q fS ∗ nbPt (F := F) d L p fN ∗ ∃ g', ⌜Done fS fN p.val k 0 g'⌝ ∗ ostPt d L p g')) hbody)
  · isplitl [HS HN HO]
    · isplitl [HS]; · iexact HS
      isplitl [HN]; · iexact HN
      iexists g
      isplitr
      · ipureintro; exact Done.zero fS fN p.val g
      · iexact HO
    · iintro %_ ⟨HS, HN, %g', %h', HO⟩
      rw [show Scf.trips l.lb l.ub l.st = 32 from hl] at h'
      iapply Hk $$ %g' %h' HS HN HO

end Wp

end Cert.Proof.MaxPool

end
end
-- ==== Proof.Half.lean ====
/- The program of one block of output columns: the wait for its index block, the start of the next index block's
   copy, the wait for the output copy that last used its half of the staging buffer, the groups, and the start of its
   own output copy. A pass over two blocks is this program at half 0, then at half 1. -/
module

public import proofs.«01_k».proof.Proof.Loop

@[expose] public section

noncomputable section

namespace Cert.Proof.MaxPool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

/-! ## The halves and the blocks -/

theorem nbH_inb (p : Fin 2) (a : Fin 3) : (![p.val, 0, 0] : Fin 3 → Nat) a + S1x16x512.size a ≤ S2x16x512.size a := by
  have := p.isLt
  fin_cases a <;> simp [S1x16x512, S2x16x512, Shape.size] <;> omega
theorem ostH_inb (p : Fin 2) (a : Fin 3) : (![p.val, 0, 0] : Fin 3 → Nat) a + S1x8x512.size a ≤ S2x8x512.size a := by
  have := p.isLt
  fin_cases a <;> simp [S1x8x512, S2x8x512, Shape.size] <;> omega

/-- Half `p` of the index buffer. -/
abbrev nbH (p : Fin 2) : Memref sig .scVector .vmem S16x512 .i32 :=
  (nbM.slice (Rect.unit (s := S2x16x512) ![p.val, 0, 0] S1x16x512.size (nbH_inb p)) (fun _ => rfl)).squeeze S16x512 squeezes_S1x16x512_S16x512
/-- Half `p` of the staging buffer. -/
abbrev ostH (p : Fin 2) : Memref sig .scVector .vmem S8x512 .f32 :=
  (ostM.slice (Rect.unit (s := S2x8x512) ![p.val, 0, 0] S1x8x512.size (ostH_inb p)) (fun _ => rfl)).squeeze S8x512 squeezes_S1x8x512_S8x512
/-- The index block at `o`. -/
abbrev tB (o : Fin 2 → Nat) (ho : ∀ a, o a + S16x512.size a ≤ S16x5000.size a) : Memref sig .scVector .hbm S16x512 .i32 :=
  tM.slice (Rect.unit (s := S16x5000) o S16x512.size ho) (fun _ => rfl)
/-- The output block at `o`. -/
abbrev oB (o : Fin 3 → Nat) (ho : ∀ a, o a + S1x8x512.size a ≤ S8x128x5000.size a) : Memref sig .scVector .hbm S8x512 .f32 :=
  (oM.slice (Rect.unit (s := S8x128x5000) o S1x8x512.size ho) (fun _ => rfl)).squeeze S8x512 squeezes_S1x8x512_S8x512
/-- The slab at `o`. -/
abbrev xB (o : Fin 3 → Nat) (ho : ∀ a, o a + S1x8x10000.size a ≤ S8x128x10000.size a) : Memref sig .scVector .hbm S8x10000 .f32 :=
  (xM.slice (Rect.unit (s := S8x128x10000) o S1x8x10000.size ho) (fun _ => rfl)).squeeze S8x10000 squeezes_S1x8x10000_S8x10000

/-! ## The operations -/

/-- The start of the copy of an index block into half `p`. -/
abbrev idxStart (L : grid0.Coords) (p : Fin 2) (s : DmaSems sig S_) (o : Fin 2 → Nat) (ho : ∀ a, o a + S16x512.size a ≤ S16x5000.size a) : TP (F := F) L PUnit :=
  Prog.lift (.enqueueDma (tB o ho) (.here (nbH p)) (.dma s.sem) (View.wordExact_bits rfl) ((View.wordExact_bits rfl).reshape _ _) ⟨Or.inl rfl, trivial⟩)
/-- The wait for it. -/
abbrev idxWait (L : grid0.Coords) (p : Fin 2) (s : DmaSems sig S_) : TP (F := F) L PUnit :=
  Prog.lift (.waitDma2 s.sem (tB ![0, 0] inb_S16x5000_S16x512_0_0) (nbH p) (View.wordExact_bits rfl) ((View.wordExact_bits rfl).reshape _ _))
/-- The start of the copy of half `p` of the staging buffer to an output block. -/
abbrev outStart (L : grid0.Coords) (p : Fin 2) (s : DmaSems sig S_) (o : Fin 3 → Nat) (ho : ∀ a, o a + S1x8x512.size a ≤ S8x128x5000.size a) : TP (F := F) L PUnit :=
  Prog.lift (.enqueueDma (ostH p) (.here (oB o ho)) (.dma s.sem) ((View.wordExact_bits rfl).reshape _ _) ((View.wordExact_bits rfl).reshape _ _) ⟨Or.inl rfl, trivial⟩)
/-- The wait for it. -/
abbrev outWait (L : grid0.Coords) (p : Fin 2) (s : DmaSems sig S_) : TP (F := F) L PUnit :=
  Prog.lift (.waitDma2 s.sem (ostH p) (oB ![0, 0, 0] inb_S8x128x5000_S1x8x512_0_0_0) ((View.wordExact_bits rfl).reshape _ _) ((View.wordExact_bits rfl).reshape _ _))

/-- The copy of a slab, waited for. -/
abbrev slabCopy (L : grid0.Coords) (s : DmaSems sig S_) (o : Fin 3 → Nat) (ho : ∀ a, o a + S1x8x10000.size a ≤ S8x128x10000.size a) : TP (F := F) L PUnit :=
  Prog.lift (.enqueueDma (xB o ho) (.here slabM) (.dma s.sem) ((View.wordExact_bits rfl).reshape _ _) (Memref.isWhole_whole cc0_scratch0).wordExact ⟨Or.inl rfl, trivial⟩) >>= fun _ =>
  Prog.lift (.waitDma2 s.sem (xB o ho) slabM ((View.wordExact_bits rfl).reshape _ _) (Memref.isWhole_whole cc0_scratch0).wordExact)

/-- `a` if `c`, then `k`. -/
abbrev whenThen {L : grid0.Coords} {α : Type} (c : Prop) [Decidable c] (a : c → TP (F := F) L PUnit) (k : TP (F := F) L α) : TP (F := F) L α :=
  if h : c then a h >>= fun _ => k else k

/-- One block at half `p`, up to the start of its output copy: `p'` is the other half, `sI`, `sI'` the semaphores of the
    index copies of the two halves, `sO` that of the output copies; `c` says there is a next index block (at `oN`) and
    `u` that an output copy from this half is in flight; `inner` is the loop over the groups. -/
def halfHead {α : Type} (L : grid0.Coords) (p p' : Fin 2) (sI sI' sO : DmaSems sig S_) (c : Prop) [Decidable c] (oN : Fin 2 → Nat)
    (hoN : c → ∀ a, oN a + S16x512.size a ≤ S16x5000.size a) (u : Prop) [Decidable u] (inner : TP (F := F) L Unit) (a : α) : TP (F := F) L α :=
  idxWait L p sI >>= fun _ => whenThen c (fun h => idxStart L p' sI' oN (hoN h)) <|
    whenThen u (fun _ => outWait L p sO) <| inner >>= fun _ => pure a

/-- Whether an output copy is in flight from an earlier pass, as the kernel computes it. -/
abbrev busy (a b : BitVec 32) : BitVec 1 :=
  Scalar.cmpi .ne (Scalar.extui (Scalar.ori (Scalar.cmpi .sgt a 0#32) (Scalar.cmpi .sgt b 0#32)) : BitVec 32) 0#32

abbrev iv1 (t : Fin k0_t1_loop.trips) : BitVec 32 := Scf.iv 0#32 1#32 t
abbrev iv2 (t : Fin k0_t2_loop.trips) : BitVec 32 := Scf.iv 0#32 1#32 t

abbrev t2B (L : grid0.Coords) (t1 : Fin k0_t1_loop.trips) : Fin k0_t2_loop.trips → Unit → TP (F := F) L Unit :=
  k0_t2_body (F := F) L xM (Memref.isWhole_whole _) tM (Memref.isWhole_whole _) oM (Memref.isWhole_whole _)
      slabM (Memref.isWhole_whole _) nbM (Memref.isWhole_whole _) ostM (Memref.isWhole_whole _)
      cc0_scratch3 cc0_scratch4 cc0_scratch5 cc0_scratch6 cc0_scoped0 t1 (iv1 t1)
abbrev t3B (L : grid0.Coords) (t1 : Fin k0_t1_loop.trips) (t2 : Fin k0_t2_loop.trips) : Fin k0_t3_loop.trips → Unit → TP (F := F) L Unit :=
  k0_t3_body (F := F) L xM (Memref.isWhole_whole _) tM (Memref.isWhole_whole _) oM (Memref.isWhole_whole _)
      slabM (Memref.isWhole_whole _) nbM (Memref.isWhole_whole _) ostM (Memref.isWhole_whole _)
      cc0_scratch3 cc0_scratch4 cc0_scratch5 cc0_scratch6 cc0_scoped0 t1 (iv1 t1) 0#32 1#32 t2
abbrev t4B (L : grid0.Coords) (t1 : Fin k0_t1_loop.trips) (t2 : Fin k0_t2_loop.trips) (b : BitVec 32) : Fin k0_t4_loop.trips → Unit → TP (F := F) L Unit :=
  k0_t4_body (F := F) L xM (Memref.isWhole_whole _) tM (Memref.isWhole_whole _) oM (Memref.isWhole_whole _)
      slabM (Memref.isWhole_whole _) nbM (Memref.isWhole_whole _) ostM (Memref.isWhole_whole _)
      cc0_scratch3 cc0_scratch4 cc0_scratch5 cc0_scratch6 cc0_scoped0 t1 (iv1 t1) t2 b

/-- The head of the block at half 0. -/
abbrev head0 (L : grid0.Coords) (t1 : Fin k0_t1_loop.trips) (t2 : Fin k0_t2_loop.trips) : TP (F := F) L (BitVec 32) :=
  halfHead L 0 1 cc0_scratch3 cc0_scratch4 cc0_scratch5 (k0_cond1 t2 = 1#1) (k0_off3 t2) (k0_off3_inb t2)
    (busy (iv1 t1) (iv2 t2) = 1#1) (Scf.Loop.for k0_t3_loop k0_t3_ok ⟨⟩ (t3B L t1 t2)) (iv2 t2)
/-- The head of the block at half 1. -/
abbrev head1 (L : grid0.Coords) (t1 : Fin k0_t1_loop.trips) (t2 : Fin k0_t2_loop.trips) (b : BitVec 32) : TP (F := F) L PUnit :=
  halfHead L 1 0 cc0_scratch4 cc0_scratch3 cc0_scratch6 (k0_cond3 t2 = 1#1) (k0_off29 t2) (k0_off29_inb t2)
    (busy (iv1 t1) b = 1#1) (Scf.Loop.for k0_t4_loop k0_t4_ok ⟨⟩ (t4B L t1 t2 b)) PUnit.unit

theorem part15_eq (L : grid0.Coords) (t1 : Fin k0_t1_loop.trips) (t2 : Fin k0_t2_loop.trips) :
    k0_part15 (F := F) L xM (Memref.isWhole_whole _) tM (Memref.isWhole_whole _) oM (Memref.isWhole_whole _)
      slabM (Memref.isWhole_whole _) nbM (Memref.isWhole_whole _) ostM (Memref.isWhole_whole _)
      cc0_scratch3 cc0_scratch4 cc0_scratch5 cc0_scratch6 cc0_scoped0 t1 (iv1 t1) 0#32 1#32 t2 = head0 L t1 t2 := by
  rw [k0_part15_eq_skeleton]; rfl

theorem part16_eq (L : grid0.Coords) (t1 : Fin k0_t1_loop.trips) (t2 : Fin k0_t2_loop.trips) (b : BitVec 32) :
    k0_part16 (F := F) L xM (Memref.isWhole_whole _) tM (Memref.isWhole_whole _) oM (Memref.isWhole_whole _)
      slabM (Memref.isWhole_whole _) nbM (Memref.isWhole_whole _) ostM (Memref.isWhole_whole _)
      cc0_scratch3 cc0_scratch4 cc0_scratch5 cc0_scratch6 cc0_scoped0 t1 (iv1 t1) t2 b
      = (outStart L 0 cc0_scratch5 (k0_off28 L t1 t2 0#32) (k0_off28_inb L t1 t2 0) >>= fun _ => head1 L t1 t2 b) := by
  rw [k0_part16_eq_skeleton]; rfl

/-- A pass is the two halves. -/
theorem t2_body_eq (L : grid0.Coords) (t1 : Fin k0_t1_loop.trips) (t2 : Fin k0_t2_loop.trips) :
    t2B (F := F) L t1 t2 ⟨⟩
      = head0 L t1 t2 >>= fun b =>
        (outStart L 0 cc0_scratch5 (k0_off28 L t1 t2 0#32) (k0_off28_inb L t1 t2 0) >>= fun _ => head1 L t1 t2 b) >>= fun _ =>
        outStart L 1 cc0_scratch6 (k0_off28 L t1 t2 1#32) (k0_off28_inb L t1 t2 1) >>= fun _ => pure ⟨⟩ := by
  rw [← part15_eq]
  simp only [← part16_eq]
  rfl

/-! ## Conditions and offsets in closed form -/

theorem trips1 : k0_t1_loop.trips = 4 := by decide +kernel
theorem trips2 : k0_t2_loop.trips = 5 := by decide +kernel
theorem trips3 : k0_t3_loop.trips = 32 := by decide +kernel
theorem trips4 : k0_t4_loop.trips = 32 := by decide +kernel

theorem cond1_iff : ∀ t2 : Fin k0_t2_loop.trips, k0_cond1 t2 = 1#1 := by decide +kernel
theorem cond3_iff : ∀ t2 : Fin k0_t2_loop.trips, k0_cond3 t2 = 1#1 ↔ t2.val < 4 := by decide +kernel
theorem busy_iff : ∀ (t1 : Fin k0_t1_loop.trips) (t2 : Fin k0_t2_loop.trips),
    busy (iv1 t1) (iv2 t2) = 1#1 ↔ 0 < 5 * t1.val + t2.val := by decide +kernel

/-- The flat number of the row of `x` a tile's round starts at. -/
abbrev row0 (L : grid0.Coords) (r : Nat) : Nat := (2 * (L 1).val + (L 0).val) * 32 + 8 * r

theorem off2_eq : ∀ (L : grid0.Coords) (t1 : Fin k0_t1_loop.trips),
    k0_off2 L t1 = ![row0 L t1.val / 128, row0 L t1.val % 128, 0] := by decide +kernel
theorem off28_eq : ∀ (p : Fin 2) (L : grid0.Coords) (t1 : Fin k0_t1_loop.trips) (t2 : Fin k0_t2_loop.trips),
    k0_off28 L t1 t2 (BitVec.ofNat 32 p.val)
      = ![row0 L t1.val / 128, row0 L t1.val % 128, min (1024 * t2.val + 512 * p.val) 4488] := by decide +kernel

end Cert.Proof.MaxPool

end
end
-- ==== Proof.Value.lean ====
/- The values: what the kernel's result is, what a slab, an index block and a staged block hold of it, and the sets of
   elements the copies move. -/
module

public import proofs.«01_k».proof.Proof.Half

@[expose] public section

noncomputable section

namespace Cert.Proof.MaxPool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

/-! ## The result -/

/-- Element `n` of row `R` of the input, the rows numbered through the batches; out of range, taken modulo. -/
def xIx (R n : Nat) : S8x128x10000.Idx
  | 0 => (⟨R / 128 % 8, Nat.mod_lt _ (by decide)⟩ : Fin 8)
  | 1 => (⟨R % 128, Nat.mod_lt _ (by decide)⟩ : Fin 128)
  | 2 => (⟨n % 10000, Nat.mod_lt _ (by decide)⟩ : Fin 10000)
/-- Element `(j, o)` of the transposed index array. -/
def tIx (j : Fin 16) (o : Nat) : S16x5000.Idx
  | 0 => j
  | 1 => (⟨o % 5000, Nat.mod_lt _ (by decide)⟩ : Fin 5000)

/-- The row of an output element, numbered through the batches. -/
def orow (y : S8x128x5000.Idx) : Nat := (y 0).val * 128 + (y 1).val

/-- The result: the largest over the sixteen neighbours. -/
def G (X : S8x128x10000.Idx → F .f32) (T : S16x5000.Idx → BitVec 32) (y : S8x128x5000.Idx) : F .f32 :=
  tmax fun j => X (xIx (orow y) (T (tIx j (y 2).val)).toNat)

/-- The column block `k` of half `p` starts at. -/
abbrev col (p : Fin 2) (k : Nat) : Nat := min (1024 * k + 512 * p.val) 4488

/-- The output elements of a tile. -/
def tileRows (L : grid0.Coords) : Finset S8x128x5000.Idx := Finset.univ.filter fun y => orow y / 32 = 2 * (L 1).val + (L 0).val

/-- The output elements of the `s`-th block of half `p` of a tile. -/
def blk (L : grid0.Coords) (p : Fin 2) (s : Nat) : Finset S8x128x5000.Idx :=
  Finset.univ.filter fun y => (row0 L (s / 5) ≤ orow y ∧ orow y < row0 L (s / 5) + 8) ∧ col p (s % 5) ≤ (y 2).val ∧ (y 2).val < col p (s % 5) + 512

/-- The slab at row `R` of the input. -/
def SlabOK (X : S8x128x10000.Idx → F .f32) (R : Nat) (fS : S8x10000.Idx → F .f32) : Prop :=
  ∀ (r : Fin 8) (n : Nat), fS (sIx r n) = X (xIx (R + r.val) n)
/-- The index block at column `c` in half `p`. -/
def IdxOK (T : S16x5000.Idx → BitVec 32) (c : Nat) (p : Fin 2) (fN : S2x16x512.Idx → BitVec 32) : Prop :=
  ∀ (j : Fin 16) (k : Fin 512), fN (nIx p j k) = T (tIx j (c + k.val))
/-- The output block at row `R` and column `c` staged in half `p`. -/
def OutOK (X : S8x128x10000.Idx → F .f32) (T : S16x5000.Idx → BitVec 32) (R c : Nat) (p : Fin 2) (g : S2x8x512.Idx → F .f32) : Prop :=
  ∀ (z : S2x8x512.Idx) (y : S8x128x5000.Idx), (z 0).val = p.val → orow y = R + (z 1).val → (y 2).val = c + (z 2).val → g z = G X T y

theorem OutOK.of_done {X : S8x128x10000.Idx → F .f32} {T : S16x5000.Idx → BitVec 32} {R c : Nat} {p : Fin 2} {fS : S8x10000.Idx → F .f32}
    {fN : S2x16x512.Idx → BitVec 32} {g : S2x8x512.Idx → F .f32} (hS : SlabOK X R fS) (hN : IdxOK T c p fN)
    (hg : Done fS fN p.val 32 0 g) : OutOK X T R c p g := by
  intro z y h0 h1 h2
  have hz : (z 2).val < 512 := (z 2).isLt
  rw [hg z h0 (Or.inl (by omega))]
  unfold grp G
  congr 1
  funext j
  have e0 : z 0 = p := Fin.ext h0
  have eN : fN (nIx (z 0) j (z 2)) = T (tIx j (y 2).val) := by
    rw [e0, h2]; exact hN j (z 2)
  rw [eN, h1]
  exact hS (z 1) _

/-- The index block's entries are in range if the array's are. -/
theorem IdxOK.lt {T : S16x5000.Idx → BitVec 32} {c : Nat} {p : Fin 2} {fN : S2x16x512.Idx → BitVec 32} (hN : IdxOK T c p fN)
    (hT : ∀ i, (T i).toNat < 10000) (y : S2x16x512.Idx) (hy : (y 0).val = p.val) : (fN y).toNat < 10000 := by
  have e : y = nIx p (y 1) (y 2) := by
    funext a
    fin_cases a
    · exact Fin.ext hy
    · rfl
    · rfl
  have eN : fN y = T (tIx (y 1) (c + (y 2).val)) := by
    rw [e]; exact hN (y 1) (y 2)
  rw [eN]
  exact hT _

/-! ## The sets -/

theorem nbH_set (p : Fin 2) : (nbH p).view.set = nbSet p := by
  show ((nbM.view.slice (Rect.unit (s := S2x16x512) ![p.val, 0, 0] S1x16x512.size (nbH_inb p))).reshape S16x512 _).set = _
  rw [View.set_reshape, View.set_slice]
  ext y
  rw [Finset.mem_filter]
  have h1 : (y 1).val < 16 := (y 1).isLt
  have h2 : (y 2).val < 512 := (y 2).isLt
  constructor
  · intro h
    obtain ⟨x, hx, rfl⟩ := Finset.mem_map.1 h
    have h0 : p.val ≤ (x 0).val ∧ (x 0).val < p.val + 1 := Rect.mem_set_unit.1 hx 0
    refine ⟨Finset.mem_univ _, ?_⟩
    show (x 0).val = p.val
    omega
  · rintro ⟨-, h⟩
    refine Finset.mem_map.2 ⟨y, Rect.mem_set_unit.2 fun a => ?_, rfl⟩
    fin_cases a
    · show p.val ≤ (y 0).val ∧ (y 0).val < p.val + 1; omega
    · show 0 ≤ (y 1).val ∧ (y 1).val < 0 + 16; omega
    · show 0 ≤ (y 2).val ∧ (y 2).val < 0 + 512; omega

theorem ostH_set (p : Fin 2) : (ostH p).view.set = ostSet p := by
  show ((ostM.view.slice (Rect.unit (s := S2x8x512) ![p.val, 0, 0] S1x8x512.size (ostH_inb p))).reshape S8x512 _).set = _
  rw [View.set_reshape, View.set_slice]
  ext y
  rw [Finset.mem_filter]
  have h1 : (y 1).val < 8 := (y 1).isLt
  have h2 : (y 2).val < 512 := (y 2).isLt
  constructor
  · intro h
    obtain ⟨x, hx, rfl⟩ := Finset.mem_map.1 h
    have h0 : p.val ≤ (x 0).val ∧ (x 0).val < p.val + 1 := Rect.mem_set_unit.1 hx 0
    refine ⟨Finset.mem_univ _, ?_⟩
    show (x 0).val = p.val
    omega
  · rintro ⟨-, h⟩
    refine Finset.mem_map.2 ⟨y, Rect.mem_set_unit.2 fun a => ?_, rfl⟩
    fin_cases a
    · show p.val ≤ (y 0).val ∧ (y 0).val < p.val + 1; omega
    · show 0 ≤ (y 1).val ∧ (y 1).val < 0 + 8; omega
    · show 0 ≤ (y 2).val ∧ (y 2).val < 0 + 512; omega

theorem oB_set (L : grid0.Coords) (p : Fin 2) (s : Nat) (o : Fin 3 → Nat) (ho : ∀ a, o a + S1x8x512.size a ≤ S8x128x5000.size a)
    (e : o = ![row0 L (s / 5) / 128, row0 L (s / 5) % 128, col p (s % 5)]) : (oB o ho).view.set = blk L p s := by
  subst e
  show ((oM.view.slice (Rect.unit (s := S8x128x5000) ![row0 L (s / 5) / 128, row0 L (s / 5) % 128, col p (s % 5)] S1x8x512.size ho)).reshape S8x512 _).set = _
  rw [View.set_reshape, View.set_slice]
  ext y
  have h1 : (y 1).val < 128 := (y 1).isLt
  unfold blk orow
  rw [Finset.mem_filter]
  constructor
  · intro h
    obtain ⟨x, hx, rfl⟩ := Finset.mem_map.1 h
    have h0 : row0 L (s / 5) / 128 ≤ (x 0).val ∧ (x 0).val < row0 L (s / 5) / 128 + 1 := Rect.mem_set_unit.1 hx 0
    have h1 : row0 L (s / 5) % 128 ≤ (x 1).val ∧ (x 1).val < row0 L (s / 5) % 128 + 8 := Rect.mem_set_unit.1 hx 1
    have h2 : col p (s % 5) ≤ (x 2).val ∧ (x 2).val < col p (s % 5) + 512 := Rect.mem_set_unit.1 hx 2
    refine ⟨Finset.mem_univ _, ?_, h2⟩
    show row0 L (s / 5) ≤ (x 0).val * 128 + (x 1).val ∧ (x 0).val * 128 + (x 1).val < row0 L (s / 5) + 8
    omega
  · rintro ⟨-, ⟨ha, hb⟩, hc⟩
    refine Finset.mem_map.2 ⟨y, Rect.mem_set_unit.2 fun a => ?_, rfl⟩
    fin_cases a
    · show row0 L (s / 5) / 128 ≤ (y 0).val ∧ (y 0).val < row0 L (s / 5) / 128 + 1
      unfold row0 at ha hb ⊢; omega
    · show row0 L (s / 5) % 128 ≤ (y 1).val ∧ (y 1).val < row0 L (s / 5) % 128 + 8
      unfold row0 at ha hb ⊢; omega
    · exact hc

/-- A tile's blocks are among its elements, and cover them. -/
theorem blk_sub (L : grid0.Coords) (p : Fin 2) {s : Nat} (hs : s < 20) : blk L p s ⊆ tileRows L := by
  intro y hy
  obtain ⟨-, ⟨ha, hb⟩, -⟩ := Finset.mem_filter.1 hy
  refine Finset.mem_filter.2 ⟨Finset.mem_univ _, ?_⟩
  unfold row0 at ha hb
  omega

theorem blk_cover (L : grid0.Coords) {y : S8x128x5000.Idx} (hy : y ∈ tileRows L) : ∃ p : Fin 2, ∃ s < 20, y ∈ blk L p s := by
  have h := (Finset.mem_filter.1 hy).2
  have h2 : (y 2).val < 5000 := (y 2).isLt
  refine ⟨⟨(y 2).val / 512 % 2, by omega⟩, 5 * (orow y / 8 % 4) + (y 2).val / 1024, by omega, ?_⟩
  refine Finset.mem_filter.2 ⟨Finset.mem_univ _, ⟨?_, ?_⟩, ?_, ?_⟩
  · unfold row0; omega
  · unfold row0; omega
  · show min (1024 * ((5 * (orow y / 8 % 4) + (y 2).val / 1024) % 5) + 512 * ((y 2).val / 512 % 2)) 4488 ≤ (y 2).val; omega
  · show (y 2).val < min (1024 * ((5 * (orow y / 8 % 4) + (y 2).val / 1024) % 5) + 512 * ((y 2).val / 512 % 2)) 4488 + 512; omega

/-! ## What the copies bring -/

/-- The squeeze of a block's leading dimension, by coordinates. -/
theorem squeeze_eq {a b : Nat} (h : (⟨2, ![a, b]⟩ : Shape).numel = (⟨3, ![1, a, b]⟩ : Shape).numel) (x : (⟨2, ![a, b]⟩ : Shape).Idx) :
    Shape.reshapeEquiv h x = (Fin.cons ⟨0, Nat.one_pos⟩ x : (⟨3, ![1, a, b]⟩ : Shape).Idx) :=
  Shape.reshapeEquiv_cons_one (d := ![a, b]) h x

/-- An index block copied into half `p`. -/
theorem idx_copied (T : S16x5000.Idx → BitVec 32) (p : Fin 2) (c : Nat) (hc : c ≤ 4488) (o : Fin 2 → Nat)
    (ho : ∀ a, o a + S16x512.size a ≤ S16x5000.size a) (e : o = ![0, c]) (fd : S2x16x512.Idx → BitVec 32) :
    IdxOK T c p ((nbH p).view.write (Elt F) fd ((tB o ho).view.read (Elt F) T) Finset.univ) := by
  subst e
  intro j k
  let x : S16x512.Idx := Fin.cons j (Fin.cons k fun i => i.elim0)
  have hk : k.val < 512 := k.isLt
  have hx : (nbH p).view.emb x = nIx p j k := by
    show nbM.view.emb ((Rect.unit (s := S2x16x512) ![p.val, 0, 0] S1x16x512.size (nbH_inb p)).emb (Shape.reshapeEquiv _ x)) = _
    rw [show Shape.reshapeEquiv (s := S1x16x512) (s' := S16x512) _ x = _ from squeeze_eq _ x]
    funext a
    apply Fin.ext
    fin_cases a
    · show p.val + 1 * 0 = p.val; omega
    · show 0 + 1 * j.val = j.val; omega
    · show 0 + 1 * k.val = k.val; omega
  have hw := View.write_emb_of_mem (Val := Elt F) (v := (nbH p).view) fd ((tB ![0, c] ho).view.read (Elt F) T) (M := Finset.univ) (x := x) (Finset.mem_univ _)
  rw [hx] at hw
  refine (show _ = (tB ![0, c] ho).view.read (Elt F) T x from hw).trans ?_
  refine congrArg T ?_
  funext a
  apply Fin.ext
  fin_cases a
  · show 0 + 1 * j.val = j.val; omega
  · show c + 1 * k.val = (c + k.val) % 5000; omega

/-- A slab copied in. -/
theorem slab_copied (X : S8x128x10000.Idx → F .f32) (R : Nat) (hR : R < 1024) (hR8 : R % 8 = 0) (o : Fin 3 → Nat)
    (ho : ∀ a, o a + S1x8x10000.size a ≤ S8x128x10000.size a) (e : o = ![R / 128, R % 128, 0]) (fd : S8x10000.Idx → F .f32) :
    SlabOK X R (slabM.view.write (Elt F) fd ((xB o ho).view.read (Elt F) X) Finset.univ) := by
  subst e
  intro r n
  have hr : r.val < 8 := r.isLt
  have hw := View.write_emb_of_mem (Val := Elt F) (v := slabM.view) fd ((xB ![R / 128, R % 128, 0] ho).view.read (Elt F) X) (M := Finset.univ)
    (x := sIx r n) (Finset.mem_univ _)
  refine (show _ = (xB ![R / 128, R % 128, 0] ho).view.read (Elt F) X (sIx r n) from hw).trans ?_
  show X (xM.view.emb ((Rect.unit (s := S8x128x10000) ![R / 128, R % 128, 0] S1x8x10000.size ho).emb (Shape.reshapeEquiv _ (sIx r n)))) = X _
  rw [show Shape.reshapeEquiv (s := S1x8x10000) (s' := S8x10000) _ (sIx r n) = _ from squeeze_eq _ (sIx r n)]
  refine congrArg X ?_
  funext a
  apply Fin.ext
  fin_cases a
  · show R / 128 + 1 * 0 = (R + r.val) / 128 % 8; omega
  · show R % 128 + 1 * r.val = (R + r.val) % 128; omega
  · show 0 + 1 * (n % 10000) = n % 10000; omega

/-- A staged block agrees with the result on the elements it goes to. -/
theorem out_admitted (X : S8x128x10000.Idx → F .f32) (T : S16x5000.Idx → BitVec 32) (R c : Nat) (p : Fin 2) (g : S2x8x512.Idx → F .f32)
    (hg : OutOK X T R c p g) (o : Fin 3 → Nat) (ho : ∀ a, o a + S1x8x512.size a ≤ S8x128x5000.size a) (e : o = ![R / 128, R % 128, c]) :
    (oB o ho).view.Admitted (Elt F) (fun i => some (G X T i)) ((ostH p).view.read (Elt F) g) Finset.univ := by
  subst e
  refine View.admitted_some_iff.2 fun x _ => ?_
  show g (ostM.view.emb ((Rect.unit (s := S2x8x512) ![p.val, 0, 0] S1x8x512.size (ostH_inb p)).emb (Shape.reshapeEquiv _ x)))
    = G X T (oM.view.emb ((Rect.unit (s := S8x128x5000) ![R / 128, R % 128, c] S1x8x512.size ho).emb (Shape.reshapeEquiv _ x)))
  rw [show Shape.reshapeEquiv (s := S1x8x512) (s' := S8x512) _ x = _ from squeeze_eq _ x]
  refine hg _ _ ?_ ?_ ?_
  · show p.val + 1 * 0 = p.val; omega
  · show (R / 128 + 1 * 0) * 128 + (R % 128 + 1 * (x 0).val) = R + (0 + 1 * (x 0).val); omega
  · show c + 1 * (x 1).val = c + (0 + 1 * (x 1).val); omega

end Cert.Proof.MaxPool

end
end
-- ==== Proof.Copy.lean ====
/- The copies of a tile: index blocks and slabs in, staged blocks out. The output blocks of the two halves overlap and
   are in flight together, each writing the same values where they meet: a tile's output elements are held in write
   mode, a half share by each half of the staging buffer. -/
module

public import proofs.«01_k».proof.Proof.Value
public import Idealize.ShloMosaic.Lib.WriteMode

@[expose] public section

noncomputable section

namespace Cert.Proof.MaxPool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

section Ops

variable (d : Dev nD) (L : grid0.Coords)

/-! ## What is held -/

/-- The transposed index array, held at a share. -/
abbrev tPt (q : PosShare TreeShare) (T : S16x5000.Idx → BitVec 32) : sProp 𝕄 :=
  (thr d L).loc main_v0_scv ↦[Finset.univ]{q} T
/-- The input, held at a share. -/
abbrev xPt (q : PosShare TreeShare) (X : S8x128x10000.Idx → F .f32) : sProp 𝕄 :=
  (thr d L).loc main_arg0_scv ↦[Finset.univ]{q} X
/-- A semaphore at nothing. -/
abbrev semPt (s : DmaSems sig S_) : sProp 𝕄 := semVal (thr d L, SemLoc.dma s.sem) 0

/-- Half `p` of the index buffer, at the index block of column `c`. -/
def idxD (T : S16x5000.Idx → BitVec 32) (p : Fin 2) (c : Nat) : sProp 𝕄 :=
  iprop(∃ fN, ⌜IdxOK T c p fN⌝ ∗ nbPt (F := F) d L p fN)
/-- That block's copy, in flight. -/
def idxFl (T : S16x5000.Idx → BitVec 32) (p : Fin 2) (s : DmaSems sig S_) (c : Nat) : sProp 𝕄 :=
  Transfers.Flight (EC F) (thr d L) (.dma s.sem) none (nbH p).view.dmaCredit (idxD d L T p c)
/-- Half `p` of the index buffer at anything, its semaphore at nothing. -/
def idxIdle (p : Fin 2) (s : DmaSems sig S_) : sProp 𝕄 :=
  iprop(semPt d L s ∗ ∃ fN, nbPt (F := F) d L p fN)

/-- A share of the tile's output elements in write mode. -/
abbrev wmPt (f₀ : S8x128x5000.Idx → F .f32) (X : S8x128x10000.Idx → F .f32) (T : S16x5000.Idx → BitVec 32) (q : PosShare TreeShare)
    (W : Finset S8x128x5000.Idx) : sProp 𝕄 :=
  willBeTo (wmE F) ((thr d L).loc main_v1_scv) (tileRows L) q f₀ (fun i => some (G X T i)) W

/-- After `n` output copies from half `p`: its share of the output elements, those copies' blocks known to be written,
    and the staging half. -/
def outD (f₀ : S8x128x5000.Idx → F .f32) (X : S8x128x10000.Idx → F .f32) (T : S16x5000.Idx → BitVec 32) (q : PosShare TreeShare)
    (p : Fin 2) (n : Nat) : sProp 𝕄 :=
  iprop(∃ W g, ⌜∀ s < n, blk L p s ⊆ W⌝ ∗ wmPt d L f₀ X T q W ∗ ostPt d L p g)
/-- The `n`-th output copy, in flight. -/
def outFl (f₀ : S8x128x5000.Idx → F .f32) (X : S8x128x10000.Idx → F .f32) (T : S16x5000.Idx → BitVec 32) (q : PosShare TreeShare)
    (p : Fin 2) (s : DmaSems sig S_) (n : Nat) : sProp 𝕄 :=
  Transfers.Flight (EC F) (thr d L) (.dma s.sem) none (oB ![0, 0, 0] inb_S8x128x5000_S1x8x512_0_0_0).view.dmaCredit (outD d L f₀ X T q p n)
/-- After `n` output copies were started: the last is in flight, if there is one. -/
def outSt (f₀ : S8x128x5000.Idx → F .f32) (X : S8x128x10000.Idx → F .f32) (T : S16x5000.Idx → BitVec 32) (q : PosShare TreeShare)
    (p : Fin 2) (s : DmaSems sig S_) : Nat → sProp 𝕄
  | 0 => iprop(outD d L f₀ X T q p 0 ∗ semPt d L s)
  | n + 1 => outFl d L f₀ X T q p s (n + 1)

/-! ## The operations -/

variable {O : CellTallies nD τ sig (HIx 1)}

/-- What the tile owes, having waited at no launch's index beyond the waits `W`. -/
def ow (O : CellTallies nD τ sig (HIx 1)) (W : Waits sig (HIx 1)) : sProp 𝕄 :=
  iprop(∃ W', ⌜∀ p ∈ W', p ∈ W ∨ p.2 = none⌝ ∗ owes (thr d L) O W')

theorem ow_open {W : Waits sig (HIx 1)} :
    (ow (F := F) d L O W : sProp 𝕄) ⊢ iprop(∃ W', ⌜∀ p ∈ W', p ∈ W ∨ p.2 = none⌝ ∗ owes (thr d L) O W') := .rfl

theorem ow_step {W W' : Waits sig (HIx 1)} (h : ∀ p ∈ W', p ∈ W ∨ p.2 = none) (s : SemLoc sig) :
    (owes (thr d L) O (insert (s, none) W') : sProp 𝕄) ⊢ ow (F := F) d L O W := by
  unfold ow
  iintro H
  iexists _
  isplitr
  · ipureintro
    intro p hp
    rcases (show p = (s, none) ∨ p ∈ W' from Finset.mem_insert.1 hp) with hp | hp
    · exact Or.inr (by rw [hp])
    · exact h p hp
  · iexact H

/-- A share of an array lends any part of it, and stays an array's share. -/
theorem lend {ℓ : Loc nD τ sig} (I : Finset (Idx ℓ)) {q : PosShare TreeShare} {f : Buf (Elt F) ℓ} :
    (ℓ ↦[Finset.univ]{q} f : sProp 𝕄) ⊢ iprop((∃ q', ℓ ↦[Finset.univ]{q'} f) ∗ ∃ q', ℓ ↦[I]{q'} f) := by
  refine (pointsTo_share (PosShare.mem_left_op_right q)).1.trans ?_
  iintro ⟨H1, H2⟩
  isplitl [H1]
  · iexists _; iexact H1
  · ihave H2 := (pointsTo_split_subset (Finset.subset_univ I)).1 $$ H2
    icases H2 with ⟨H2, -⟩
    iexists _; iexact H2

theorem wp_slabCopy {α : Type} {Q : α → sProp 𝕄} (q : PosShare TreeShare) (X : S8x128x10000.Idx → F .f32) (s : DmaSems sig S_) (R : Nat)
    (hR : R < 1024) (hR8 : R % 8 = 0) (o : Fin 3 → Nat) (ho : ∀ a, o a + S1x8x10000.size a ≤ S8x128x10000.size a)
    (e : o = ![R / 128, R % 128, 0]) (W : Waits sig (HIx 1)) (fd : S8x10000.Idx → F .f32) (k : TP (F := F) L α) :
    iprop(xPt (F := F) d L q X ∗ slabPt d L fullShare fd ∗ semPt d L s ∗ ow (F := F) d L O W ∗ Transfers.MayWaits (thr d L) none O)
      ⊢ iprop((∀ fS, ⌜SlabOK X R fS⌝ -∗ (∃ q', xPt (F := F) d L q' X) -∗ slabPt d L fullShare fS -∗ semPt d L s
            -∗ ow (F := F) d L O W -∗ twp d L k Q)
          -∗ twp d L (slabCopy L s o ho >>= fun _ => k) Q) := by
  iintro ⟨HX, HD, HS, HO, HM⟩ Hk
  ihave HO := (ow_open (F := F) d L) $$ HO
  icases HO with ⟨%W', %hW, HO⟩
  ihave HX := (lend (F := F) (xB o ho).view.set) $$ HX
  icases HX with ⟨HX', %q₁, HX⟩
  iapply (Transfers.wp_dmaLocal (EC F) 𝒱₀ (thr d L) none (src := xB o ho) (dst := slabM) (Sd := Finset.univ) none slabM.view.dmaCredit rfl
    (View.dmaCredit_pos _ (by decide)) (Finset.subset_univ _)) $$ [HX HD HS]
  · isplitl [HX]; · iexact HX
    isplitl [HD] <;> iassumption
  iintro HF
  iapply (Transfers.wp_waitLocalO (EC F) 𝒱₀ (thr d L) none none rfl) $$ [HF HO HM]
  · isplitl [HF]; · iexact HF
    isplitl [HO]; · iexact HO
    iapply (Transfers.MayWaits.elim (SemLoc.dma s.sem)) $$ HM
  iintro ⟨⟨HD, -⟩, HS, HO⟩
  ihave HO := (ow_step (F := F) d L hW _) $$ HO
  iapply Hk $$ %_ [] HX' HD HS HO
  ipureintro
  exact slab_copied X R hR hR8 o ho e fd

theorem wp_idxStart {α : Type} {Q : α → sProp 𝕄} (q : PosShare TreeShare) (T : S16x5000.Idx → BitVec 32) (p : Fin 2) (s : DmaSems sig S_) (c : Nat)
    (hc : c ≤ 4488) (o : Fin 2 → Nat) (ho : ∀ a, o a + S16x512.size a ≤ S16x5000.size a) (e : o = ![0, c]) (k : TP (F := F) L α) :
    iprop(tPt (F := F) d L q T ∗ idxIdle (F := F) d L p s)
      ⊢ iprop(((∃ q', tPt (F := F) d L q' T) -∗ idxFl (F := F) d L T p s c -∗ twp d L k Q) -∗ twp d L (idxStart L p s o ho >>= fun _ => k) Q) := by
  unfold idxIdle
  iintro ⟨HT, HS, %fd, HN⟩ Hk
  ihave HT := (lend (F := F) (tB o ho).view.set) $$ HT
  icases HT with ⟨HT', %q₁, HT⟩
  iapply (Transfers.wp_dmaLocal (EC F) 𝒱₀ (thr d L) none (src := tB o ho) (dst := nbH p) (Sd := nbSet p) none (nbH p).view.dmaCredit rfl
    (View.dmaCredit_pos _ (by decide)) (nbH_set p).subset) $$ [HT HN HS]
  · isplitl [HT]; · iexact HT
    isplitl [HN] <;> iassumption
  iintro HF
  iapply Hk $$ HT'
  unfold idxFl
  iapply (Transfers.Flight_mono ?_) $$ HF
  unfold idxD
  iintro ⟨HN, -⟩
  iexists _
  isplitr
  · ipureintro; exact idx_copied (F := F) T p c hc o ho e fd
  · iexact HN

theorem wp_idxWait {α : Type} {Q : α → sProp 𝕄} (T : S16x5000.Idx → BitVec 32) (p : Fin 2) (s : DmaSems sig S_) (c : Nat) (W : Waits sig (HIx 1))
    (k : TP (F := F) L α) :
    iprop(idxFl (F := F) d L T p s c ∗ ow (F := F) d L O W ∗ Transfers.MayWaits (thr d L) none O)
      ⊢ iprop((idxD (F := F) d L T p c -∗ semPt (F := F) d L s -∗ ow (F := F) d L O W -∗ twp d L k Q)
        -∗ twp d L (idxWait L p s >>= fun _ => k) Q) := by
  unfold idxFl
  iintro ⟨HF, HO, HM⟩ Hk
  ihave HO := (ow_open (F := F) d L) $$ HO
  icases HO with ⟨%W', %hW, HO⟩
  iapply (Transfers.wp_waitLocalO (EC F) 𝒱₀ (thr d L) none none rfl) $$ [HF HO HM]
  · isplitl [HF]; · iexact HF
    isplitl [HO]; · iexact HO
    iapply (Transfers.MayWaits.elim (SemLoc.dma s.sem)) $$ HM
  iintro ⟨HD, HS, HO⟩
  ihave HO := (ow_step (F := F) d L hW _) $$ HO
  iapply Hk $$ HD HS HO

theorem wp_outWait {α : Type} {Q : α → sProp 𝕄} (f₀ : S8x128x5000.Idx → F .f32) (X : S8x128x10000.Idx → F .f32) (T : S16x5000.Idx → BitVec 32)
    (q : PosShare TreeShare) (p : Fin 2) (s : DmaSems sig S_) (n : Nat) (W : Waits sig (HIx 1)) (k : TP (F := F) L α) :
    iprop(outFl (F := F) d L f₀ X T q p s n ∗ ow (F := F) d L O W ∗ Transfers.MayWaits (thr d L) none O)
      ⊢ iprop((outD (F := F) d L f₀ X T q p n -∗ semPt (F := F) d L s -∗ ow (F := F) d L O W -∗ twp d L k Q)
        -∗ twp d L (outWait L p s >>= fun _ => k) Q) := by
  unfold outFl
  iintro ⟨HF, HO, HM⟩ Hk
  ihave HO := (ow_open (F := F) d L) $$ HO
  icases HO with ⟨%W', %hW, HO⟩
  iapply (Transfers.wp_waitLocalO (EC F) 𝒱₀ (thr d L) none none rfl) $$ [HF HO HM]
  · isplitl [HF]; · iexact HF
    isplitl [HO]; · iexact HO
    iapply (Transfers.MayWaits.elim (SemLoc.dma s.sem)) $$ HM
  iintro ⟨HD, HS, HO⟩
  ihave HO := (ow_step (F := F) d L hW _) $$ HO
  iapply Hk $$ HD HS HO

/-- An output copy may land: it writes what its elements will be. -/
theorem out_update (ι : ℕ) (f₀ : S8x128x5000.Idx → F .f32) (X : S8x128x10000.Idx → F .f32) (T : S16x5000.Idx → BitVec 32)
    (q : PosShare TreeShare) (p : Fin 2) (n : Nat) (hn : n < 20) (Wm : Finset S8x128x5000.Idx)
    (g : S2x8x512.Idx → F .f32) (hg : OutOK X T (row0 L (n / 5)) (col p (n % 5)) p g)
    (o : Fin 3 → Nat) (ho : ∀ a, o a + S1x8x512.size a ≤ S8x128x5000.size a)
    (e : o = ![row0 L (n / 5) / 128, row0 L (n / 5) % 128, col p (n % 5)]) :
    iprop(wmInv (wmE F) ι ∗ wmPt d L f₀ X T q Wm)
      ⊢ (writeUpdate (thr d L) (oB o ho).view ((ostH p).view.read (Elt F) g) (wmPt d L f₀ X T q (Wm ∪ blk L p n)) : sProp 𝕄) := by
  have hs : (oB o ho).view.set = blk L p n := oB_set L p n o ho e
  rw [← hs]
  exact willBeTo_writeUpdate (emb := wmE F) (ιwm := ι) (thr d L) (v := (oB o ho).view) (w := (ostH p).view.read (Elt F) g)
    (S := tileRows L) (q := q) (f := f₀) (g := fun i => some (G X T i)) (W := Wm) (hs.trans_subset (blk_sub L p hn)) (out_admitted X T _ _ p g hg o ho e)

theorem wp_outStart {α : Type} {Q : α → sProp 𝕄} (ι : ℕ) (f₀ : S8x128x5000.Idx → F .f32) (X : S8x128x10000.Idx → F .f32) (T : S16x5000.Idx → BitVec 32)
    (q : PosShare TreeShare) (p : Fin 2) (s : DmaSems sig S_) (n : Nat) (hn : n < 20) (Wm : Finset S8x128x5000.Idx) (hW : ∀ s < n, blk L p s ⊆ Wm)
    (g : S2x8x512.Idx → F .f32) (hg : OutOK X T (row0 L (n / 5)) (col p (n % 5)) p g)
    (o : Fin 3 → Nat) (ho : ∀ a, o a + S1x8x512.size a ≤ S8x128x5000.size a)
    (e : o = ![row0 L (n / 5) / 128, row0 L (n / 5) % 128, col p (n % 5)]) (k : TP (F := F) L α) :
    iprop(wmInv (wmE F) ι ∗ wmPt d L f₀ X T q Wm ∗ ostPt d L p g ∗ semPt d L s)
      ⊢ iprop((outFl (F := F) d L f₀ X T q p s (n + 1) -∗ twp d L k Q) -∗ twp d L (outStart L p s o ho >>= fun _ => k) Q) := by
  iintro ⟨#HI, HW, HO, HS⟩ Hk
  ihave HW := (out_update (F := F) d L ι f₀ X T q p n hn Wm g hg o ho e) $$ [HW]
  · isplitr; · iexact HI
    iexact HW
  imod (Transfers.flight_alloc (EC F) (View.dmaCredit_pos (oB ![0, 0, 0] inb_S8x128x5000_S1x8x512_0_0_0).view (by decide))
      iprop(wmPt d L f₀ X T q (Wm ∪ blk L p n) ∗ ostPt d L p g)
      (g := (thr d L, SemLoc.dma s.sem))) $$ HS with ⟨%γ, %δ, %κ, #Hinv, Hγ, Hδ⟩
  iapply (wp_enqueueDmaAs 𝒱₀ (thr d L) none Set.univ (src := ostH p) (dst := oB o ho) (q := fullShare) (fs := g)
    (R := wmPt d L f₀ X T q (Wm ∪ blk L p n)) none
    (oB ![0, 0, 0] inb_S8x128x5000_S1x8x512_0_0_0).view.dmaCredit rfl) $$ [HW HO] [Hγ]
  · isplitl [HO]
    · rw [ostH_set]; iexact HO
    · iexact HW
  · rw [ostH_set]
    iapply (Transfers.flight_creditUpdate (EC F) (γ := γ) (δ := δ) (ι := κ))
    isplitr; · iexact Hinv
    iexact Hγ
  iintro Hcred
  iapply Hk
  unfold outFl
  iapply (Transfers.Flight_mono (EC F) (D := iprop(wmPt d L f₀ X T q (Wm ∪ blk L p n) ∗ ostPt d L p g)) ?_)
  · unfold outD
    iintro ⟨HW, HO⟩
    iexists (Wm ∪ blk L p n), g
    isplitr
    · ipureintro
      intro s hs'
      rcases Nat.lt_succ_iff_lt_or_eq.1 hs' with h | rfl
      · exact (hW s h).trans Finset.subset_union_left
      · exact Finset.subset_union_right
    isplitl [HW]; · iexact HW
    iexact HO
  iapply (Transfers.flight_intro (EC F) (thr d L) (κ := κ))
  isplitr; · iexact Hinv
  isplitl [Hδ] <;> iassumption

end Ops

end Cert.Proof.MaxPool

end
end
-- ==== Proof.Pass.lean ====
/- The blocks of a tile run: a block takes its index block out of flight, stages the output block and puts it in flight;
   a pass over two blocks, the five passes of a round. -/
module

public import proofs.«01_k».proof.Proof.Copy

@[expose] public section

noncomputable section

namespace Cert.Proof.MaxPool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

section Pass

variable (d : Dev nD) (L : grid0.Coords) {O : CellTallies nD τ sig (HIx 1)} {W : Waits sig (HIx 1)}

/-- Half `p` of the index buffer: an index block's copy in flight, or nothing. -/
def idxSt (T : S16x5000.Idx → BitVec 32) (p : Fin 2) (s : DmaSems sig S_) : Option Nat → sProp 𝕄
  | some c => idxFl (F := F) d L T p s c
  | none => idxIdle (F := F) d L p s

/-- The slab holds the eight rows of `X` from row `R`. -/
def slabD (X : S8x128x10000.Idx → F .f32) (R : Nat) : sProp 𝕄 := iprop(∃ fS, ⌜SlabOK X R fS⌝ ∗ slabPt d L fullShare fS)
/-- Some share of the transposed index array. -/
def tSome (T : S16x5000.Idx → BitVec 32) : sProp 𝕄 := iprop(∃ q, tPt (F := F) d L q T)

theorem wp_whenIdx {α : Type} {Q : α → sProp 𝕄} (T : S16x5000.Idx → BitVec 32) (p : Fin 2) (s : DmaSems sig S_) (c : Prop) [Decidable c]
    (oN : Fin 2 → Nat) (hoN : c → ∀ a, oN a + S16x512.size a ≤ S16x5000.size a) (m : Option Nat)
    (hm : c → ∃ cN, cN ≤ 4488 ∧ oN = ![0, cN] ∧ m = some cN) (hm' : ¬ c → m = none) (k : TP (F := F) L α) :
    iprop(tSome (F := F) d L T ∗ idxIdle (F := F) d L p s)
      ⊢ iprop((tSome (F := F) d L T -∗ idxSt (F := F) d L T p s m -∗ twp d L k Q)
        -∗ twp d L (whenThen c (fun h => idxStart L p s oN (hoN h)) k) Q) := by
  by_cases h : c
  · obtain ⟨cN, hc, e, rfl⟩ := hm h
    simp only [whenThen, dif_pos h]
    unfold tSome
    iintro ⟨⟨%q, HT⟩, HI⟩ Hk
    iapply (wp_idxStart (F := F) d L q T p s cN hc oN (hoN h) e) $$ [HT HI]
    · isplitl [HT] <;> iassumption
    iexact Hk
  · obtain rfl := hm' h
    simp only [whenThen, dif_neg h, idxSt]
    iintro ⟨HT, HI⟩ Hk
    iapply Hk $$ HT HI

theorem wp_whenOut {α : Type} {Q : α → sProp 𝕄} (f₀ : S8x128x5000.Idx → F .f32) (X : S8x128x10000.Idx → F .f32) (T : S16x5000.Idx → BitVec 32)
    (q : PosShare TreeShare) (p : Fin 2) (s : DmaSems sig S_) (n : Nat) (u : Prop) [Decidable u] (hu : u ↔ 0 < n) (k : TP (F := F) L α) :
    iprop(outSt (F := F) d L f₀ X T q p s n ∗ ow (F := F) d L O W ∗ Transfers.MayWaits (thr d L) none O)
      ⊢ iprop((outD (F := F) d L f₀ X T q p n -∗ semPt (F := F) d L s -∗ ow (F := F) d L O W -∗ twp d L k Q)
        -∗ twp d L (whenThen u (fun _ => outWait L p s) k) Q) := by
  by_cases h : u
  · obtain ⟨n, rfl⟩ := Nat.exists_eq_succ_of_ne_zero (hu.1 h).ne'
    simp only [whenThen, dif_pos h]
    exact wp_outWait (F := F) d L f₀ X T q p s (n + 1) W k
  · obtain rfl : n = 0 := by have := mt hu.2 h; omega
    simp only [whenThen, dif_neg h, outSt]
    iintro ⟨⟨HD, HS⟩, HO, -⟩ Hk
    iapply Hk $$ HD HS HO

/-- `inner` stages the output of half `p`'s index block. -/
def Groups (p : Fin 2) (inner : TP (F := F) L Unit) : Prop :=
  ∀ (Q : Unit → sProp 𝕄) (fS : S8x10000.Idx → F .f32) (fN : S2x16x512.Idx → BitVec 32) (g : S2x8x512.Idx → F .f32),
    (∀ y : S2x16x512.Idx, (y 0).val = p.val → (fN y).toNat < 10000) →
    iprop(slabPt d L fullShare fS ∗ nbPt (F := F) d L p fN ∗ ostPt d L p g)
      ⊢ iprop((∀ g', ⌜Done fS fN p.val 32 0 g'⌝ -∗ slabPt d L fullShare fS -∗ nbPt (F := F) d L p fN -∗ ostPt d L p g' -∗ Q ⟨⟩) -∗ twp d L inner Q)

theorem groups0 (t1 : Fin k0_t1_loop.trips) (t2 : Fin k0_t2_loop.trips) :
    Groups (F := F) d L 0 (Scf.Loop.for k0_t3_loop k0_t3_ok ⟨⟩ (t3B L t1 t2)) := fun Q fS fN g hN =>
  wp_groups d L fullShare fS fN 0 hN k0_t3_loop k0_t3_ok trips3 (t3B L t1 t2) o3 o3_inb o3_eq w3 w3_inb w3_eq
    (fun t => t3_body_eq L t1 _ _ _ t2 t) g

theorem groups1 (t1 : Fin k0_t1_loop.trips) (t2 : Fin k0_t2_loop.trips) (b : BitVec 32) :
    Groups (F := F) d L 1 (Scf.Loop.for k0_t4_loop k0_t4_ok ⟨⟩ (t4B L t1 t2 b)) := fun Q fS fN g hN =>
  wp_groups d L fullShare fS fN 1 hN k0_t4_loop k0_t4_ok trips4 (t4B L t1 t2 b) o4 o4_inb o4_eq w4 w4_inb w4_eq
    (fun t => t4_body_eq L t1 _ _ t2 t) g

/-- A block, from its index block in flight to its output block in flight. -/
theorem wp_half {α β : Type} {Q : β → sProp 𝕄} (ι : ℕ) (f₀ : S8x128x5000.Idx → F .f32) (X : S8x128x10000.Idx → F .f32) (T : S16x5000.Idx → BitVec 32)
    (hT : ∀ i, (T i).toNat < 10000) (q : PosShare TreeShare) (p p' : Fin 2) (sI sI' sO : DmaSems sig S_) (n : Nat) (hn : n < 20)
    (c : Prop) [Decidable c] (oN : Fin 2 → Nat) (hoN : c → ∀ a, oN a + S16x512.size a ≤ S16x5000.size a) (m : Option Nat)
    (hm : c → ∃ cN, cN ≤ 4488 ∧ oN = ![0, cN] ∧ m = some cN) (hm' : ¬ c → m = none)
    (u : Prop) [Decidable u] (hu : u ↔ 0 < n) (inner : TP (F := F) L Unit) (hin : Groups (F := F) d L p inner) (a : α)
    (o : Fin 3 → Nat) (ho : ∀ a, o a + S1x8x512.size a ≤ S8x128x5000.size a)
    (e : o = ![row0 L (n / 5) / 128, row0 L (n / 5) % 128, col p (n % 5)]) (k : α → TP (F := F) L β) :
    iprop(wmInv (wmE F) ι ∗ Transfers.MayWaits (thr d L) none O ∗ slabD d L X (row0 L (n / 5)) ∗ tSome (F := F) d L T
        ∗ idxFl (F := F) d L T p sI (col p (n % 5)) ∗ idxIdle (F := F) d L p' sI' ∗ outSt d L f₀ X T q p sO n ∗ ow (F := F) d L O W)
      ⊢ iprop((slabD d L X (row0 L (n / 5)) -∗ tSome (F := F) d L T -∗ idxIdle (F := F) d L p sI -∗ idxSt (F := F) d L T p' sI' m
            -∗ outSt d L f₀ X T q p sO (n + 1) -∗ ow (F := F) d L O W -∗ twp d L (k a) Q)
        -∗ twp d L (halfHead L p p' sI sI' sO c oN hoN u inner a >>= fun b => outStart L p sO o ho >>= fun _ => k b) Q) := by
  iintro ⟨#HI, #HM, HS, HT, HF, HF', HO, HW⟩ Hk
  unfold twp
  rw [wp_bind]
  unfold halfHead
  iapply (wp_idxWait (F := F) d L T p sI _ W) $$ [HF HW]
  · isplitl [HF]; · iexact HF
    isplitl [HW]; · iexact HW
    iexact HM
  iintro HD Hs HW
  iapply (wp_whenIdx (F := F) d L T p' sI' c oN hoN m hm hm') $$ [HT HF']
  · isplitl [HT] <;> iassumption
  iintro HT HF'
  iapply (wp_whenOut (F := F) d L f₀ X T q p sO n u hu) $$ [HO HW]
  · isplitl [HO]; · iexact HO
    isplitl [HW]; · iexact HW
    iexact HM
  iintro HO Hs' HW
  unfold slabD idxD outD
  icases HS with ⟨%fS, %hS, HS⟩
  icases HD with ⟨%fN, %hN, HN⟩
  icases HO with ⟨%Wm, %g, %hWm, HWm, HO⟩
  unfold twp
  rw [wp_bind]
  iapply (hin _ fS fN g (hN.lt hT)) $$ [HS HN HO]
  · isplitl [HS]; · iexact HS
    isplitl [HN] <;> iassumption
  iintro %g' %hg' HS HN HO
  iapply (twp_pure d L a)
  iapply (wp_outStart (F := F) d L ι f₀ X T q p sO n hn Wm hWm g' (OutOK.of_done hS hN hg') o ho e) $$ [HWm HO Hs']
  · isplitr; · iexact HI
    isplitl [HWm]; · iexact HWm
    isplitl [HO] <;> iassumption
  iintro HO
  simp only [outSt]
  iapply Hk $$ [HS] HT [Hs HN] HF' HO HW
  · iexists fS
    isplitr
    · ipureintro; exact hS
    · iexact HS
  · unfold idxIdle
    isplitl [Hs]; · iexact Hs
    iexists fN
    iexact HN

end Pass

end Cert.Proof.MaxPool

end
end
-- ==== Proof.Round.lean ====
/- A tile's program: a pass over two blocks, the five passes of a round, the four rounds, and the last two waits. -/
module

public import proofs.«01_k».proof.Proof.Pass

@[expose] public section

noncomputable section

namespace Cert.Proof.MaxPool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

section Round

variable (d : Dev nD) (L : grid0.Coords) {O : CellTallies nD τ sig (HIx 1)} {W : Waits sig (HIx 1)}

/-! ## The programs -/

/-- A round. -/
abbrev t1B (L : grid0.Coords) : Fin k0_t1_loop.trips → Unit → TP (F := F) L Unit :=
  k0_t1_body (F := F) L xM (Memref.isWhole_whole _) tM (Memref.isWhole_whole _) oM (Memref.isWhole_whole _)
      slabM (Memref.isWhole_whole _) nbM (Memref.isWhole_whole _) ostM (Memref.isWhole_whole _)
      cc0_scratch3 cc0_scratch4 cc0_scratch5 cc0_scratch6 cc0_scoped0
      (Scalar.addi (Scalar.muli (BitVec.ofNat 32 (L 1).val) 2#32) (BitVec.ofNat 32 (L 0).val))

theorem t1_body_eq (L : grid0.Coords) (t1 : Fin k0_t1_loop.trips) :
    t1B (F := F) L t1 ⟨⟩
      = idxStart L 0 cc0_scratch3 k0_off1 k0_off1_inb >>= fun _ => slabCopy L cc0_scoped0 (k0_off2 L t1) (k0_off2_inb L t1) >>= fun _ =>
        Scf.Loop.for k0_t2_loop k0_t2_ok ⟨⟩ (t2B L t1) >>= fun _ => pure ⟨⟩ := by
  unfold t1B k0_t1_body
  rw [k0_part17_eq_skeleton]
  rfl

/-- The tile's program. -/
abbrev tileP (L : grid0.Coords) : TP (F := F) L PUnit :=
  cc0_k (F := F) L xM (Memref.isWhole_whole _) tM (Memref.isWhole_whole _) oM (Memref.isWhole_whole _)
      slabM (Memref.isWhole_whole _) nbM (Memref.isWhole_whole _) ostM (Memref.isWhole_whole _)
      cc0_scratch3 cc0_scratch4 cc0_scratch5 cc0_scratch6 cc0_scoped0

theorem tileP_eq (L : grid0.Coords) :
    tileP (F := F) L = Scf.Loop.for k0_t1_loop k0_t1_ok ⟨⟩ (t1B L) >>= fun _ => outWait L 0 cc0_scratch5 >>= fun _ =>
      outWait L 1 cc0_scratch6 >>= fun _ => pure ⟨⟩ := by
  unfold tileP
  rw [cc0_k_eq_skeleton]
  rfl

/-! ## A pass -/

/-- What every step may use: the write mode, and that the tile's own waits are allowed. -/
def ctx (ι : ℕ) (O : CellTallies nD τ sig (HIx 1)) : sProp 𝕄 := iprop(wmInv (wmE F) ι ∗ Transfers.MayWaits (thr d L) none O)

theorem keep {α : Type} {x : TP (F := F) L α} {A I J : sProp 𝕄} [Persistent A] (h : iprop(A ∗ I) ⊢ twp d L x (fun _ => J)) :
    iprop(A ∗ I) ⊢ twp d L x (fun _ => iprop(A ∗ J)) := by
  iintro ⟨#HA, HI⟩
  iapply (wp_wand _ _ _) $$ [HI]
  · iapply h
    isplitr; · iexact HA
    iexact HI
  iintro %_ HJ
  isplitr; · iexact HA
  iexact HJ

/-- A loop under what every step may use. -/
theorem wp_loop {A : sProp 𝕄} [Persistent A] {Q : Unit → sProp 𝕄} (l : Scf.Loop 32) (hok : l.OK) (n : Nat) (hl : l.trips = n)
    (body : Fin l.trips → Unit → TP (F := F) L Unit) (I : Nat → sProp 𝕄)
    (h : ∀ t : Fin l.trips, iprop(A ∗ I t.val) ⊢ twp d L (body t ⟨⟩) (fun _ => I (t.val + 1))) :
    iprop(A ∗ I 0) ⊢ iprop((I n -∗ Q ⟨⟩) -∗ twp d L (Scf.Loop.for l hok ⟨⟩ body) Q) := by
  have hbody : ∀ (t : Fin (Scf.trips l.lb l.ub l.st)) (acc : Unit),
      iprop(A ∗ I t.val) ⊢ twp d L (body t acc) (fun _ => iprop(A ∗ I (t.val + 1))) := fun t _ => keep d L (h t)
  subst hl
  iintro H Hk
  iapply (Scf.wp_for _ _ _ l.lb l.ub l.st hok ⟨⟩ body (fun k _ => iprop(A ∗ I k)) hbody)
  isplitl [H]; · iexact H
  iintro %_ ⟨-, H⟩
  iapply Hk $$ H

instance (ι : ℕ) : Persistent (ctx (F := F) d L ι O) := by unfold ctx; infer_instance

/-- The share of the output elements that goes with half `p`. -/
def hs : Fin 2 → PosShare TreeShare
  | 0 => fullShare.left
  | 1 => fullShare.right

/-- What the tile holds before pass `k` of round `r`. -/
def passI (f₀ : S8x128x5000.Idx → F .f32) (X : S8x128x10000.Idx → F .f32) (T : S16x5000.Idx → BitVec 32)
    (O : CellTallies nD τ sig (HIx 1)) (W : Waits sig (HIx 1)) (r k : Nat) : sProp 𝕄 :=
  iprop(slabD d L X (row0 L r) ∗ tSome (F := F) d L T
    ∗ idxSt (F := F) d L T 0 cc0_scratch3 (if k < 5 then some (col 0 k) else none) ∗ idxIdle (F := F) d L 1 cc0_scratch4
    ∗ outSt d L f₀ X T (hs 0) 0 cc0_scratch5 (5 * r + k) ∗ outSt d L f₀ X T (hs 1) 1 cc0_scratch6 (5 * r + k) ∗ ow (F := F) d L O W)

theorem idxSt_some (T : S16x5000.Idx → BitVec 32) (p : Fin 2) (s : DmaSems sig S_) (c : Nat) :
    idxSt (F := F) d L T p s (some c) = idxFl (F := F) d L T p s c := rfl

theorem idxSt_zero (T : S16x5000.Idx → BitVec 32) :
    idxSt (F := F) d L T 0 cc0_scratch3 (if 0 < 5 then some (col 0 0) else none) = idxFl (F := F) d L T 0 cc0_scratch3 0 := rfl

theorem idxSt_five (T : S16x5000.Idx → BitVec 32) :
    idxSt (F := F) d L T 0 cc0_scratch3 (if 5 < 5 then some (col 0 5) else none) = idxIdle (F := F) d L 0 cc0_scratch3 := rfl

theorem wp_pass (ι : ℕ) (f₀ : S8x128x5000.Idx → F .f32) (X : S8x128x10000.Idx → F .f32) (T : S16x5000.Idx → BitVec 32)
    (hT : ∀ i, (T i).toNat < 10000) (t1 : Fin k0_t1_loop.trips) (t2 : Fin k0_t2_loop.trips) :
    iprop(ctx (F := F) d L ι O ∗ passI d L f₀ X T O W t1.val t2.val)
      ⊢ twp d L (t2B L t1 t2 ⟨⟩) (fun _ => passI d L f₀ X T O W t1.val (t2.val + 1)) := by
  have h1 : t1.val < 4 := lt_of_lt_of_eq t1.isLt trips1
  have h2 : t2.val < 5 := lt_of_lt_of_eq t2.isLt trips2
  have e5 : (5 * t1.val + t2.val) / 5 = t1.val := by omega
  have e5' : (5 * t1.val + t2.val) % 5 = t2.val := by omega
  have eo : ∀ p : Fin 2, k0_off28 L t1 t2 (BitVec.ofNat 32 p.val) = ![row0 L ((5 * t1.val + t2.val) / 5) / 128,
      row0 L ((5 * t1.val + t2.val) / 5) % 128, col p ((5 * t1.val + t2.val) % 5)] := by
    intro p; rw [e5, e5']; exact off28_eq p L t1 t2
  have hm0 : k0_cond1 t2 = 1#1 → ∃ cN, cN ≤ 4488 ∧ k0_off3 t2 = ![0, cN] ∧ some (col 1 t2.val) = some cN :=
    fun _ => ⟨col 1 t2.val, Nat.min_le_right _ _, k0_off3_eq t2, rfl⟩
  have hm1 : k0_cond3 t2 = 1#1 → ∃ cN, cN ≤ 4488 ∧ k0_off29 t2 = ![0, cN]
      ∧ (if t2.val + 1 < 5 then some (col 0 (t2.val + 1)) else none) = some cN := by
    intro h
    have := (cond3_iff t2).1 h
    refine ⟨col 0 (t2.val + 1), Nat.min_le_right _ _, ?_, if_pos (by omega)⟩
    rw [k0_off29_eq t2]
    rfl
  rw [t2_body_eq]
  simp only [bind_assoc]
  unfold passI
  rw [if_pos h2, idxSt_some]
  unfold ctx
  iintro ⟨⟨#HI, #HM⟩, HS, HT, HF, HF', HO, HO', HW⟩
  iapply (wp_half (F := F) d L ι f₀ X T hT (hs 0) 0 1 cc0_scratch3 cc0_scratch4 cc0_scratch5 (5 * t1.val + t2.val) (by omega)
    (k0_cond1 t2 = 1#1) (k0_off3 t2) (k0_off3_inb t2) (some (col 1 t2.val)) hm0 (fun h => absurd (cond1_iff t2) h)
    (busy (iv1 t1) (iv2 t2) = 1#1) (busy_iff t1 t2) _ (groups0 d L t1 t2) (iv2 t2)
    (k0_off28 L t1 t2 0#32) (k0_off28_inb L t1 t2 0) (eo 0)) $$ [HS HT HF HF' HO HW]
  · rw [e5, e5']
    isplitr; · iexact HI
    isplitr; · iexact HM
    isplitl [HS]; · iexact HS
    isplitl [HT]; · iexact HT
    isplitl [HF]; · iexact HF
    isplitl [HF']; · iexact HF'
    isplitl [HO] <;> iassumption
  iintro HS HT HF HF' HO HW
  ihave HF' := (Entails.of_eq (idxSt_some (F := F) d L T 1 cc0_scratch4 (col 1 t2.val))) $$ HF'
  iapply (wp_half (F := F) d L ι f₀ X T hT (hs 1) 1 0 cc0_scratch4 cc0_scratch3 cc0_scratch6 (5 * t1.val + t2.val) (by omega)
    (k0_cond3 t2 = 1#1) (k0_off29 t2) (k0_off29_inb t2) (if t2.val + 1 < 5 then some (col 0 (t2.val + 1)) else none) hm1
    (fun h => if_neg fun h' => h ((cond3_iff t2).2 (by omega)))
    (busy (iv1 t1) (iv2 t2) = 1#1) (busy_iff t1 t2) _ (groups1 d L t1 t2 (iv2 t2)) PUnit.unit
    (k0_off28 L t1 t2 1#32) (k0_off28_inb L t1 t2 1) (eo 1)) $$ [HS HT HF HF' HO' HW]
  · rw [e5']
    isplitr; · iexact HI
    isplitr; · iexact HM
    isplitl [HS]; · iexact HS
    isplitl [HT]; · iexact HT
    isplitl [HF']; · iexact HF'
    isplitl [HF]; · iexact HF
    isplitl [HO'] <;> iassumption
  rw [e5]
  iintro HS HT HF HF' HO' HW
  iapply (twp_pure d L PUnit.unit)
  isplitl [HS]; · iexact HS
  isplitl [HT]; · iexact HT
  isplitl [HF']; · iexact HF'
  isplitl [HF]; · iexact HF
  isplitl [HO]; · iexact HO
  isplitl [HO'] <;> iassumption

/-! ## A round -/

/-- What the tile holds before round `r`. -/
def roundI (f₀ : S8x128x5000.Idx → F .f32) (X : S8x128x10000.Idx → F .f32) (T : S16x5000.Idx → BitVec 32)
    (O : CellTallies nD τ sig (HIx 1)) (W : Waits sig (HIx 1)) (r : Nat) : sProp 𝕄 :=
  iprop((∃ fS, slabPt d L fullShare fS) ∗ (∃ q, xPt (F := F) d L q X) ∗ tSome (F := F) d L T
    ∗ idxIdle (F := F) d L 0 cc0_scratch3 ∗ idxIdle (F := F) d L 1 cc0_scratch4 ∗ semPt (F := F) d L cc0_scoped0
    ∗ outSt d L f₀ X T (hs 0) 0 cc0_scratch5 (5 * r) ∗ outSt d L f₀ X T (hs 1) 1 cc0_scratch6 (5 * r) ∗ ow (F := F) d L O W)

theorem wp_round (ι : ℕ) (f₀ : S8x128x5000.Idx → F .f32) (X : S8x128x10000.Idx → F .f32) (T : S16x5000.Idx → BitVec 32)
    (hT : ∀ i, (T i).toNat < 10000) (t1 : Fin k0_t1_loop.trips) :
    iprop(ctx (F := F) d L ι O ∗ roundI d L f₀ X T O W t1.val)
      ⊢ twp d L (t1B L t1 ⟨⟩) (fun _ => roundI d L f₀ X T O W (t1.val + 1)) := by
  have h1 : t1.val < 4 := lt_of_lt_of_eq t1.isLt trips1
  have hL0 : (L 0).val < 2 := (L 0).isLt
  have hL1 : (L 1).val < 16 := (L 1).isLt
  rw [t1_body_eq]
  unfold roundI ctx
  iintro ⟨⟨#HI, #HM⟩, ⟨%fS, HS⟩, ⟨%q, HX⟩, HT, HF, HF', Hs, HO, HO', HW⟩
  unfold tSome
  icases HT with ⟨%q', HT⟩
  iapply (wp_idxStart (F := F) d L q' T 0 cc0_scratch3 0 (by omega) k0_off1 k0_off1_inb k0_off1_eq) $$ [HT HF]
  · isplitl [HT] <;> iassumption
  iintro HT HF
  iapply (wp_slabCopy (F := F) d L q X cc0_scoped0 (row0 L t1.val) (by unfold row0; omega) (by unfold row0; omega)
    (k0_off2 L t1) (k0_off2_inb L t1) (off2_eq L t1) W fS) $$ [HX HS Hs HW]
  · isplitl [HX]; · iexact HX
    isplitl [HS]; · iexact HS
    isplitl [Hs]; · iexact Hs
    isplitl [HW]; · iexact HW
    iexact HM
  iintro %fS' %hS HX HS Hs HW
  unfold twp
  rw [wp_bind]
  iapply (wp_loop (F := F) (A := ctx (F := F) d L ι O) d L k0_t2_loop k0_t2_ok 5 trips2 (t2B L t1) (passI d L f₀ X T O W t1.val)
    (wp_pass (F := F) d L ι f₀ X T hT t1)) $$ [HT HF HF' HO HO' HW HS]
  · isplitr
    · unfold ctx
      isplitr; · iexact HI
      iexact HM
    unfold passI slabD tSome
    isplitl [HS]
    · iexists fS'
      isplitr
      · ipureintro; exact hS
      · iexact HS
    isplitl [HT]; · iexact HT
    isplitl [HF]; · iapply (Entails.of_eq (idxSt_zero (F := F) d L T).symm) $$ HF
    isplitl [HF']; · iexact HF'
    isplitl [HO]; · iexact HO
    isplitl [HO'] <;> iassumption
  iintro H
  iapply (twp_pure d L PUnit.unit)
  unfold passI slabD tSome
  icases H with ⟨⟨%fS'', -, HS⟩, HT, HF, HF', HO, HO', HW⟩
  isplitl [HS]
  · iexists fS''; iexact HS
  isplitl [HX]; · iexact HX
  isplitl [HT]; · iexact HT
  isplitl [HF]; · iapply (Entails.of_eq (idxSt_five (F := F) d L T)) $$ HF
  isplitl [HF']; · iexact HF'
  isplitl [Hs]; · iexact Hs
  isplitl [HO]; · iexact HO
  isplitl [HO'] <;> iassumption

end Round

end Cert.Proof.MaxPool

end
end
-- ==== Proof.Tile.lean ====
/- A tile's program from its buffers to its output rows: the rows enter write mode, run through the four rounds, and
   leave it holding the largest gathered values. -/
module

public import proofs.«01_k».proof.Proof.Round

@[expose] public section

noncomputable section

namespace Cert.Proof.MaxPool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

section Tile

variable (d : Dev nD) (L : grid0.Coords) {O : CellTallies nD τ sig (HIx 1)} {W : Waits sig (HIx 1)}

/-! ## The halves of a buffer -/

theorem nb_cover : (Finset.univ : Finset S2x16x512.Idx) = nbSet 0 ∪ nbSet 1 := by
  ext y
  have h0 : (y 0).val < 2 := (y 0).isLt
  simp only [Finset.mem_univ, Finset.mem_union, Finset.mem_filter, true_and, true_iff]
  show (y 0).val = 0 ∨ (y 0).val = 1
  omega
theorem nb_disj : Disjoint (nbSet 0) (nbSet 1) := by
  refine Finset.disjoint_filter.2 fun y _ h => ?_
  rw [h]
  exact fun h' => absurd h' (by decide)
theorem ost_cover : (Finset.univ : Finset S2x8x512.Idx) = ostSet 0 ∪ ostSet 1 := by
  ext y
  have h0 : (y 0).val < 2 := (y 0).isLt
  simp only [Finset.mem_univ, Finset.mem_union, Finset.mem_filter, true_and, true_iff]
  show (y 0).val = 0 ∨ (y 0).val = 1
  omega
theorem ost_disj : Disjoint (ostSet 0) (ostSet 1) := by
  refine Finset.disjoint_filter.2 fun y _ h => ?_
  rw [h]
  exact fun h' => absurd h' (by decide)

/-- A whole buffer, at anything. -/
abbrev someB (b : Ref sig .scVector) : sProp 𝕄 := iprop(∃ f, (thr d L).loc b ↦[Finset.univ]{fullShare} f)

theorem nb_split : someB (F := F) d L cc0_scratch1 ⊢ iprop((∃ f, nbPt (F := F) d L 0 f) ∗ ∃ f, nbPt (F := F) d L 1 f) := by
  iintro ⟨%f, H⟩
  ihave H := (Entails.of_eq (congrArg (fun I => ((thr d L).loc cc0_scratch1 ↦[I]{fullShare} f : sProp 𝕄)) nb_cover)) $$ H
  ihave H := (pointsTo_union nb_disj).1 $$ H
  icases H with ⟨H0, H1⟩
  isplitl [H0]
  · iexists f; iexact H0
  · iexists f; iexact H1
theorem nb_join : iprop((∃ f, nbPt (F := F) d L 0 f) ∗ ∃ f, nbPt (F := F) d L 1 f) ⊢ someB (F := F) d L cc0_scratch1 := by
  iintro ⟨⟨%f, H0⟩, %g, H1⟩
  ihave H := (pointsTo_join (ℓ := (thr d L).loc cc0_scratch1) nb_disj) $$ [H0 H1]
  · isplitl [H0] <;> iassumption
  iexists _
  iapply (Entails.of_eq (congrArg (fun I => ((thr d L).loc cc0_scratch1 ↦[I]{fullShare} (nbSet 1).piecewise g f : sProp 𝕄)) nb_cover.symm)) $$ H
theorem ost_split : someB (F := F) d L cc0_scratch2 ⊢ iprop((∃ f, ostPt (F := F) d L 0 f) ∗ ∃ f, ostPt (F := F) d L 1 f) := by
  iintro ⟨%f, H⟩
  ihave H := (Entails.of_eq (congrArg (fun I => ((thr d L).loc cc0_scratch2 ↦[I]{fullShare} f : sProp 𝕄)) ost_cover)) $$ H
  ihave H := (pointsTo_union ost_disj).1 $$ H
  icases H with ⟨H0, H1⟩
  isplitl [H0]
  · iexists f; iexact H0
  · iexists f; iexact H1
theorem ost_join : iprop((∃ f, ostPt (F := F) d L 0 f) ∗ ∃ f, ostPt (F := F) d L 1 f) ⊢ someB (F := F) d L cc0_scratch2 := by
  iintro ⟨⟨%f, H0⟩, %g, H1⟩
  ihave H := (pointsTo_join (ℓ := (thr d L).loc cc0_scratch2) ost_disj) $$ [H0 H1]
  · isplitl [H0] <;> iassumption
  iexists _
  iapply (Entails.of_eq (congrArg (fun I => ((thr d L).loc cc0_scratch2 ↦[I]{fullShare} (ostSet 1).piecewise g f : sProp 𝕄)) ost_cover.symm)) $$ H

/-! ## Write mode, by halves -/

instance : IsOp fullShare (hs 0) (hs 1) := ⟨PosShare.mem_left_op_right fullShare⟩

theorem wm_split (f₀ : S8x128x5000.Idx → F .f32) (X : S8x128x10000.Idx → F .f32) (T : S16x5000.Idx → BitVec 32) :
    wmPt d L f₀ X T fullShare ∅ ⊢ iprop(wmPt d L f₀ X T (hs 0) ∅ ∗ wmPt d L f₀ X T (hs 1) ∅) := by
  unfold wmPt willBeTo
  exact IntoSep.into_sep
theorem wm_join (f₀ : S8x128x5000.Idx → F .f32) (X : S8x128x10000.Idx → F .f32) (T : S16x5000.Idx → BitVec 32) (W₀ W₁ : Finset S8x128x5000.Idx) :
    iprop(wmPt d L f₀ X T (hs 0) W₀ ∗ wmPt d L f₀ X T (hs 1) W₁) ⊢ wmPt d L f₀ X T fullShare (W₀ ∪ W₁) := by
  unfold wmPt willBeTo
  exact FromSep.from_sep

/-- The tile's output rows. -/
abbrev rowsPt (f : S8x128x5000.Idx → F .f32) : sProp 𝕄 := (thr d L).loc main_v1_scv ↦[tileRows L]{fullShare} f

theorem rows_in (ι : ℕ) (f₀ : S8x128x5000.Idx → F .f32) (X : S8x128x10000.Idx → F .f32) (T : S16x5000.Idx → BitVec 32) :
    iprop(wmInv (wmE F) ι ∗ rowsPt d L f₀)
      ⊢ |={Set.univ}=> (iprop(wmPt d L f₀ X T (hs 0) ∅ ∗ wmPt d L f₀ X T (hs 1) ∅) : sProp 𝕄) := by
  iintro H
  imod (pointsTo_castIn (emb := wmE F) (ιwm := ι) (ℓ := (thr d L).loc main_v1_scv) (fun i => some (G X T i))) $$ H with H
  imodintro
  iapply (wm_split (F := F) d L f₀ X T) $$ H

theorem rows_out (ι : ℕ) (f₀ : S8x128x5000.Idx → F .f32) (X : S8x128x10000.Idx → F .f32) (T : S16x5000.Idx → BitVec 32) (W₀ W₁ : Finset S8x128x5000.Idx)
    (h₀ : ∀ s < 20, blk L 0 s ⊆ W₀) (h₁ : ∀ s < 20, blk L 1 s ⊆ W₁) :
    iprop(wmInv (wmE F) ι ∗ wmPt d L f₀ X T (hs 0) W₀ ∗ wmPt d L f₀ X T (hs 1) W₁) ⊢ |={Set.univ}=> (rowsPt d L (G X T) : sProp 𝕄) := by
  have hc : ∀ y ∈ tileRows L, (W₀ ∪ W₁).piecewise (G X T) f₀ y = G X T y := by
    intro y hy
    obtain ⟨p, s, hs, hy⟩ := blk_cover L hy
    refine Finset.piecewise_eq_of_mem _ _ _ (Finset.mem_union.2 ?_)
    fin_cases p
    · exact Or.inl (h₀ s hs hy)
    · exact Or.inr (h₁ s hs hy)
  iintro ⟨#HI, H0, H1⟩
  ihave H := (wm_join (F := F) d L f₀ X T W₀ W₁) $$ [H0 H1]
  · isplitl [H0] <;> iassumption
  imod (willBeTo_castOut_some (emb := wmE F) (ιwm := ι)) $$ [H] with H
  · isplitr; · iexact HI
    iexact H
  imodintro
  iapply (Entails.of_eq (pointsTo_congr hc)) $$ H

/-! ## The tile -/

theorem ctx_open (ι : ℕ) : ctx (F := F) d L ι O ⊢ iprop(wmInv (wmE F) ι ∗ Transfers.MayWaits (thr d L) none O) := .rfl

theorem out_last (f₀ : S8x128x5000.Idx → F .f32) (X : S8x128x10000.Idx → F .f32) (T : S16x5000.Idx → BitVec 32) (q : PosShare TreeShare)
    (p : Fin 2) (s : DmaSems sig S_) : outSt d L f₀ X T q p s (5 * 4) ⊢ outFl d L f₀ X T q p s 20 := .rfl

theorem wp_tile (ι : ℕ) (f₀ : S8x128x5000.Idx → F .f32) (X : S8x128x10000.Idx → F .f32) (T : S16x5000.Idx → BitVec 32)
    (hT : ∀ i, (T i).toNat < 10000) :
    iprop(ctx (F := F) d L ι O ∗ (∃ q, xPt (F := F) d L q X) ∗ tSome (F := F) d L T ∗ rowsPt d L f₀
        ∗ (someB (F := F) d L cc0_scratch0 ∗ someB (F := F) d L cc0_scratch1 ∗ someB (F := F) d L cc0_scratch2)
        ∗ (semPt (F := F) d L cc0_scratch3 ∗ semPt (F := F) d L cc0_scratch4 ∗ semPt (F := F) d L cc0_scratch5 ∗ semPt (F := F) d L cc0_scratch6
          ∗ semPt (F := F) d L cc0_scoped0)
        ∗ ow (F := F) d L O W)
      ⊢ twp d L (tileP L) (fun _ => iprop(rowsPt d L (G X T)
        ∗ (someB (F := F) d L cc0_scratch0 ∗ someB (F := F) d L cc0_scratch1 ∗ someB (F := F) d L cc0_scratch2)
        ∗ (semPt (F := F) d L cc0_scratch3 ∗ semPt (F := F) d L cc0_scratch4 ∗ semPt (F := F) d L cc0_scratch5 ∗ semPt (F := F) d L cc0_scratch6
          ∗ semPt (F := F) d L cc0_scoped0)
        ∗ ow (F := F) d L O W)) := by
  rw [tileP_eq]
  iintro ⟨#HC, HX, HT, HR, ⟨HS, HN, HO⟩, ⟨s3, s4, s5, s6, s0⟩, HW⟩
  ihave #HC' := (ctx_open (F := F) d L ι) $$ HC
  icases HC' with ⟨#HI, #HM⟩
  ihave HN := (nb_split (F := F) d L) $$ HN
  icases HN with ⟨HN0, HN1⟩
  ihave HO := (ost_split (F := F) d L) $$ HO
  icases HO with ⟨⟨%g0, HO0⟩, %g1, HO1⟩
  imod (rows_in (F := F) d L ι f₀ X T) $$ [HR] with ⟨HR0, HR1⟩
  · isplitr; · iexact HI
    iexact HR
  rw [wp_bind]
  iapply (wp_loop (F := F) (A := ctx (F := F) d L ι O) d L k0_t1_loop k0_t1_ok 4 trips1 (t1B L) (roundI d L f₀ X T O W)
    (wp_round (F := F) d L ι f₀ X T hT)) $$ [HX HT HS HN0 HN1 HO0 HO1 HR0 HR1 s3 s4 s5 s6 s0 HW]
  · isplitr; · iexact HC
    unfold roundI idxIdle
    simp only [Nat.mul_zero, outSt]
    unfold outD
    isplitl [HS]; · iexact HS
    isplitl [HX]; · iexact HX
    isplitl [HT]; · iexact HT
    isplitl [HN0 s3]; · isplitl [s3] <;> iassumption
    isplitl [HN1 s4]; · isplitl [s4] <;> iassumption
    isplitl [s0]; · iexact s0
    isplitl [HR0 HO0 s5]
    · isplitl [HR0 HO0]
      · iexists ∅, g0
        isplitr
        · ipureintro; exact fun s h => absurd h (Nat.not_lt_zero s)
        isplitl [HR0] <;> iassumption
      · iexact s5
    isplitl [HR1 HO1 s6]
    · isplitl [HR1 HO1]
      · iexists ∅, g1
        isplitr
        · ipureintro; exact fun s h => absurd h (Nat.not_lt_zero s)
        isplitl [HR1] <;> iassumption
      · iexact s6
    iexact HW
  unfold roundI
  iintro ⟨HS, HX, HT, HF0, HF1, s0, HO0, HO1, HW⟩
  iapply (wp_outWait (F := F) d L f₀ X T (hs 0) 0 cc0_scratch5 20 W) $$ [HO0 HW]
  · isplitl [HO0]; · iapply (out_last (F := F) d L f₀ X T (hs 0) 0 cc0_scratch5) $$ HO0
    isplitl [HW]; · iexact HW
    iexact HM
  iintro HO0 s5 HW
  iapply (wp_outWait (F := F) d L f₀ X T (hs 1) 1 cc0_scratch6 20 W) $$ [HO1 HW]
  · isplitl [HO1]; · iapply (out_last (F := F) d L f₀ X T (hs 1) 1 cc0_scratch6) $$ HO1
    isplitl [HW]; · iexact HW
    iexact HM
  iintro HO1 s6 HW
  unfold outD idxIdle
  icases HO0 with ⟨%W₀, %g0', %h₀, HR0, HO0⟩
  icases HO1 with ⟨%W₁, %g1', %h₁, HR1, HO1⟩
  icases HF0 with ⟨s3, HN0⟩
  icases HF1 with ⟨s4, HN1⟩
  imod (rows_out (F := F) d L ι f₀ X T W₀ W₁ h₀ h₁) $$ [HR0 HR1] with HR
  · isplitr; · iexact HI
    isplitl [HR0] <;> iassumption
  ihave HN := (nb_join (F := F) d L) $$ [HN0 HN1]
  · isplitl [HN0] <;> iassumption
  ihave HO := (ost_join (F := F) d L) $$ [HO0 HO1]
  · isplitl [HO0]
    · iexists g0'; iexact HO0
    · iexists g1'; iexact HO1
  iapply (twp_pure d L PUnit.unit)
  isplitl [HR]; · iexact HR
  isplitl [HS HN HO]
  · isplitl [HS]; · iexact HS
    isplitl [HN] <;> iassumption
  isplitl [s3 s4 s5 s6 s0]
  · isplitl [s3]; · iexact s3
    isplitl [s4]; · iexact s4
    isplitl [s5]; · iexact s5
    isplitl [s6] <;> iassumption
  iexact HW

end Tile

end Cert.Proof.MaxPool

end
end
-- ==== Proof.Task.lean ====
/- What a tile is handed and hands back: its semaphores and buffers out of those the launch gives a vector subcore, and the obligation of the launch theorem for the kernel's body. -/
module

public import proofs.«01_k».proof.Proof.Tile

@[expose] public section

noncomputable section

namespace Cert.Proof.MaxPool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

open Idealize.ShloMosaic.SparseCore.Cfg (Pay ownBufs ownSems0 ownCells ownRefs mem_ownCells mem_ownRefs mem_ownRefs_of_owner)
open Idealize.ShloMosaic.Rounds

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-- The grid point of SparseCore `c`, subcore `s`. -/
def gp (c : Fin (grid0.bound 0)) (s : Fin (grid0.bound 1)) : grid0.Coords :=
  fun | 0 => c | 1 => s | ⟨_ + 2, h⟩ => absurd h (Nat.not_lt.2 (Nat.le_add_left _ _))

section Own

variable (d : Dev nD) (L : grid0.Coords)

/-- The tile's five semaphores. -/
def mySem : Fin 5 → SemLoc sig
  | 0 => .dma cc0_scratch3.sem
  | 1 => .dma cc0_scratch4.sem
  | 2 => .dma cc0_scratch5.sem
  | 3 => .dma cc0_scratch6.sem
  | 4 => .dma cc0_scoped0.sem
/-- Its three buffers. -/
def myBuf : Fin 3 → Ref sig .scVector
  | 0 => cc0_scratch0
  | 1 => cc0_scratch1
  | 2 => cc0_scratch2

theorem mySem_inj : Function.Injective mySem := by decide
theorem myBuf_inj : Function.Injective myBuf := by decide

theorem five (Φ : Fin 5 → sProp 𝕄) : bigSep Finset.univ Φ = iprop(Φ 0 ∗ Φ 1 ∗ Φ 2 ∗ Φ 3 ∗ Φ 4) := by
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]
theorem three (Φ : Fin 3 → sProp 𝕄) : bigSep Finset.univ Φ = iprop(Φ 0 ∗ Φ 1 ∗ Φ 2) := by
  rw [show (Finset.univ : Finset (Fin 3)) = {0, 1, 2} by decide, SparseCore.bigSep_insert' (by decide), SparseCore.bigSep_insert' (by decide), bigSep_singleton]

theorem sems_eq : ∃ R : sProp 𝕄, (ownSems0 (thr d L) : sProp 𝕄)
    = iprop((semPt (F := F) d L cc0_scratch3 ∗ semPt (F := F) d L cc0_scratch4 ∗ semPt (F := F) d L cc0_scratch5 ∗ semPt (F := F) d L cc0_scratch6
        ∗ semPt (F := F) d L cc0_scoped0) ∗ R) := by
  have hs : Finset.univ.image (fun i => (thr d L, mySem i)) ⊆ ownCells (thr d L) := by
    intro g hg
    obtain ⟨i, -, rfl⟩ := Finset.mem_image.1 hg
    refine mem_ownCells.2 ⟨rfl, ?_⟩
    show (mySem i).isScoped .scVector = true
    exact (by decide : ∀ i, (mySem i).isScoped .scVector = true) i
  have hinj : Set.InjOn (fun i => ((thr d L, mySem i) : GSem nD τ sig)) ((Finset.univ : Finset (Fin 5)) : Set (Fin 5)) :=
    fun i _ j _ h => mySem_inj (Prod.mk.inj h).2
  refine ⟨bigSep (ownCells (thr d L) \ Finset.univ.image (fun i => (thr d L, mySem i))) fun g => semVal g 0, ?_⟩
  unfold SparseCore.Cfg.ownSems0
  rw [SparseCore.bigSep_sdiff_split' hs, SparseCore.bigSep_image_of_injOn hinj, five]
  rfl

theorem bufs_eq : ∃ R : sProp 𝕄, (ownBufs (thr d L) : sProp 𝕄)
    = iprop((someB (F := F) d L cc0_scratch0 ∗ someB (F := F) d L cc0_scratch1 ∗ someB (F := F) d L cc0_scratch2) ∗ R) := by
  have hs : Finset.univ.image (fun i => (thr d L).2.devRef (myBuf i)) ⊆ ownRefs (τ := τ) (sig := sig) (thr d L).2 := by
    intro g hg
    obtain ⟨i, -, rfl⟩ := Finset.mem_image.1 hg
    refine mem_ownRefs_of_owner ?_
    fin_cases i <;> rfl
  have hinj : Set.InjOn (fun i => (thr d L).2.devRef (myBuf i)) ((Finset.univ : Finset (Fin 3)) : Set (Fin 3)) :=
    fun i _ j _ h => myBuf_inj (Proc.devRef_injective _ h)
  refine ⟨bigSep (ownRefs (τ := τ) (sig := sig) (thr d L).2 \ Finset.univ.image (fun i => (thr d L).2.devRef (myBuf i)))
    fun b => iprop(∃ f, ((d, b) : Loc nD τ sig) ↦[Finset.univ]{fullShare} f), ?_⟩
  unfold SparseCore.Cfg.ownBufs
  refine (SparseCore.bigSep_sdiff_split' hs).trans ?_
  rw [SparseCore.bigSep_image_of_injOn hinj, three]
  rfl

/-- What a tile is handed: the input and the indices to read, its output rows as they are. -/
def goP (X : S8x128x10000.Idx → F .f32) (T : S16x5000.Idx → BitVec 32) (f₀ : S8x128x5000.Idx → F .f32) : sProp 𝕄 :=
  iprop((∃ q, xPt (F := F) d L q X) ∗ tSome (F := F) d L T ∗ rowsPt d L f₀)

theorem tile_body (ι : ℕ) (f₀ : S8x128x5000.Idx → F .f32) (X : S8x128x10000.Idx → F .f32) (T : S16x5000.Idx → BitVec 32)
    (hT : ∀ i, (T i).toNat < 10000) (O : CellTallies nD τ sig (HIx 1)) (W : Waits sig (HIx 1)) (hO : ∀ g, O g none = 0) :
    iprop(levAts (K (F := F)).L (K (F := F)).lev ∗ wmInv (wmE F) ι ∗ goP d L X T f₀
        ∗ scopedBufs (thr d L) ∗ scopedSems0 (thr d L) ∗ owes (thr d L) O W)
      ⊢ twp d L (tileP L) (fun _ => iprop(rowsPt d L (G X T) ∗ scopedBufs (thr d L) ∗ scopedSems0 (thr d L)
          ∗ ∃ W', ⌜∀ p ∈ W', p ∈ W ∨ p.2 = none⌝ ∗ owes (thr d L) O W')) := by
  obtain ⟨RB, hB⟩ := bufs_eq (F := F) d L
  obtain ⟨RS, hS⟩ := sems_eq (F := F) d L
  rw [(K (F := F)).scopedBufs_V facts d _ _, SparseCore.Cfg.scopedSems0_V (Val := Elt F) d _ _, hB, hS]
  unfold goP
  iintro ⟨#Hlv, #HI, ⟨HX, HT, HR⟩, ⟨HB, HBR⟩, ⟨HS, HSR⟩, HO⟩
  iapply (wp_wand _ _ _) $$ [HX HT HR HB HS HO]
  · iapply (wp_tile (F := F) (O := O) (W := W) d L ι f₀ X T hT)
    isplitr
    · unfold ctx
      isplitr; · iexact HI
      iapply ((K (F := F)).mayWaits_none (thr := thr d L) hO) $$ Hlv
    isplitl [HX]; · iexact HX
    isplitl [HT]; · iexact HT
    isplitl [HR]; · iexact HR
    isplitl [HB]; · iexact HB
    isplitl [HS]; · iexact HS
    unfold ow
    iexists W
    isplitr
    · ipureintro; exact fun p hp => Or.inl hp
    · iexact HO
  iintro %_ ⟨HR, HB, HS, HW⟩
  isplitl [HR]; · iexact HR
  isplitl [HB HBR]
  · isplitl [HB] <;> iassumption
  isplitl [HS HSR]
  · isplitl [HS] <;> iassumption
  unfold ow
  iexact HW

end Own

/-! ## The arrays and what the handshakes carry -/

variable (m : (ℓ : Loc nD τ sig) → Buf (Elt F) ℓ) (ρ : Dev nD → PrngReg)

abbrev xLoc (d : Dev nD) : Loc nD τ sig := (SparseCore.T d).loc main_arg0
abbrev aLoc (d : Dev nD) : Loc nD τ sig := (SparseCore.T d).loc main_arg1
abbrev tLoc (d : Dev nD) : Loc nD τ sig := (SparseCore.T d).loc main_v0
abbrev oLoc (d : Dev nD) : Loc nD τ sig := (SparseCore.T d).loc main_v1

/-- The input, the transposed indices, the result of the launch memory. -/
def Xv (d : Dev nD) : S8x128x10000.Idx → F .f32 := m (xLoc d)
def Tt (d : Dev nD) : S16x5000.Idx → BitVec 32 :=
  transpose S16x5000 [1, 0] (m (aLoc d) : (⟨S5000x16, .i32⟩ : BufTy).Contents (Elt F)) transposes_S5000x16_S16x5000_1_0
def Ov (d : Dev nD) : S8x128x5000.Idx → F .f32 := m (oLoc d)

/-- The output elements of SparseCore `c`'s tiles. -/
def coreRows (c : Nat) : Finset S8x128x5000.Idx := Finset.univ.filter fun y => orow y / 32 % 2 = c

/-- What a SparseCore is handed. -/
def stP (d : Dev nD) (c : Nat) : sProp 𝕄 :=
  iprop((∃ q, xLoc d ↦[Finset.univ]{q} Xv m d) ∗ (∃ q, tLoc d ↦[Finset.univ]{q} Tt m d) ∗ oLoc d ↦[coreRows c]{fullShare} Ov m d)
/-- What it hands back: its rows at the result. -/
def dnP (d : Dev nD) (c : Nat) : sProp 𝕄 := oLoc d ↦[coreRows c]{fullShare} G (Xv m d) (Tt m d)

instance stP_storable (d : Dev nD) (c : Nat) : BI.Storable (upEmb : UEmb _ 𝕄) (stP m d c) := by unfold stP; infer_instance
instance dnP_storable (d : Dev nD) (c : Nat) : BI.Storable (upEmb : UEmb _ 𝕄) (dnP m d c) := by unfold dnP; infer_instance
instance goP_storable (d : Dev nD) (L : grid0.Coords) (X : S8x128x10000.Idx → F .f32) (T : S16x5000.Idx → BitVec 32) (f₀ : S8x128x5000.Idx → F .f32) :
    BI.Storable (upEmb : UEmb _ 𝕄) (goP d L X T f₀) := by unfold goP tSome; infer_instance

def P : (K (F := F)).Pay (nD := nD) (Val := Elt F) (Name := ℕ) (U := UU F) where
  st := fun q d c => match q with | 0 => stP m d c.val
  dn := fun q d c => match q with | 0 => dnP m d c.val
  go := fun q d c i => match q with | 0 => goP d (gp c i) (Xv m d) (Tt m d) (Ov m d)
  td := fun q d c i => match q with | 0 => rowsPt d (gp c i) (G (Xv m d) (Tt m d))
  x := fun q thr => match q, thr with
    | 0, (_, .scVector _ _) => iprop(∃ ι, wmInv (wmE F) ι)
    | _, _ => iprop(emp)

instance P_storable : (P (F := F) m).IsStorable where
  st q d c := match q with | 0 => stP_storable m d c.val
  dn q d c := match q with | 0 => dnP_storable m d c.val
  go q d c i := match q with | 0 => goP_storable d (gp c i) (Xv m d) (Tt m d) (Ov m d)
  td q d c i := match q with | 0 => (inferInstance : BI.Storable (upEmb : UEmb _ 𝕄) (rowsPt d (gp c i) (G (Xv m d) (Tt m d))))

/-! ## The kernel's body, as the launch theorem asks for it -/

theorem defs₀_vector (c : Fin τ.nSC) (s : Fin τ.nSub) :
    defs₀ (F := F) (.scVector c s) 0 ()
      = SparseCore.onTile hcore0 hsub0 (fun c s => tileP (gp c s)) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

theorem tile_task (d : Dev nD) (L : grid0.Coords) (hT : ∀ d i, (Tt m d i).toNat < 10000)
    (O : CellTallies nD τ sig (HIx 1)) (W : Waits sig (HIx 1)) (hO : ∀ g, O g none = 0) :
    iprop(levAts (K (F := F)).L (K (F := F)).lev ∗ (∃ ι, wmInv (wmE F) ι) ∗ goP d L (Xv m d) (Tt m d) (Ov m d)
        ∗ scopedBufs (thr d L) ∗ scopedSems0 (thr d L) ∗ owes (thr d L) O W)
      ⊢ twp d L (tileP L) (fun _ => iprop(rowsPt d L (G (Xv m d) (Tt m d)) ∗ scopedBufs (thr d L) ∗ scopedSems0 (thr d L)
          ∗ ∃ W', ⌜∀ p ∈ W', p ∈ W ∨ p.2 = none ∨ p.2 = some (0 : Fin 1)⌝ ∗ owes (thr d L) O W')) := by
  iintro ⟨Hlv, ⟨%ι, HI⟩, H⟩
  iapply ((tile_body d L ι (Ov m d) (Xv m d) (Tt m d) (hT d) O W hO).trans (wp_mono frame _ _ fun _ => obl_post))
  isplitl [Hlv]; · iexact Hlv
  isplitl [HI]; · iexact HI
  iexact H

theorem tileObl (hT : ∀ d i, (Tt m d i).toNat < 10000) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact tile_task m d (gp ⟨_, hc.1⟩ ⟨_, hc.2⟩) hT O W hO

end Cert.Proof.MaxPool

end
end
-- ==== Proof.Launch.lean ====
/- The run of the whole program: the arrays dealt to the two SparseCores and their tiles, the host's transposition, the launch, and what every run leaves in memory. -/
module

public import proofs.«01_k».proof.Proof.Task

@[expose] public section

noncomputable section

namespace Cert.Proof.MaxPool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

open Idealize.ShloMosaic.SparseCore.Cfg (Pay)
open Idealize.ShloMosaic.Rounds
open Idealize.ShloMosaic.StableHlo (held wp_hlo_within)

variable (m : (ℓ : Loc nD τ sig) → Buf (Elt F) ℓ) (ρ : Dev nD → PrngReg)

/-! ## Dealing a buffer to read, and the output rows -/

theorem deal_toks {ℓ : Loc nD τ sig} (f : Buf (Elt F) ℓ) (n : Nat) (q : PosShare TreeShare) :
    (bigSep Finset.univ fun i : Fin n => ℓ ↦[Finset.univ]{Transfers.shareTok q n i} f)
      ⊢ (bigSep Finset.univ fun _ : Fin n => iprop(∃ q, ℓ ↦[Finset.univ]{q} f) : sProp 𝕄) :=
  bigSep_mono fun i _ => by
    show (ℓ ↦[Finset.univ]{Transfers.shareTok q n i} f) ⊢ (iprop(∃ q, ℓ ↦[Finset.univ]{q} f) : sProp 𝕄)
    iintro H; iexists _; iexact H

/-- What is held at a share can be held at `n` of them, and one more. -/
theorem deal {ℓ : Loc nD τ sig} (f : Buf (Elt F) ℓ) (n : Nat) (q : PosShare TreeShare) :
    (ℓ ↦[Finset.univ]{q} f : sProp 𝕄) ⊢ iprop((∃ q, ℓ ↦[Finset.univ]{q} f) ∗ bigSep Finset.univ fun _ : Fin n => iprop(∃ q, ℓ ↦[Finset.univ]{q} f)) := by
  iintro H
  ihave H := (Transfers.pointsTo_toks_split q n) $$ H
  icases H with ⟨H, HS⟩
  isplitl [H]
  · iexists _; iexact H
  iapply (deal_toks f n q) $$ HS

theorem deal_some {ℓ : Loc nD τ sig} (f : Buf (Elt F) ℓ) (n : Nat) :
    iprop(∃ q, ℓ ↦[Finset.univ]{q} f) ⊢ (bigSep Finset.univ fun _ : Fin n => iprop(∃ q, ℓ ↦[Finset.univ]{q} f) : sProp 𝕄) := by
  iintro ⟨%q, H⟩
  ihave H := (deal f n q) $$ H
  icases H with ⟨-, H⟩
  iexact H

theorem core_rows (c : Fin 2) : coreRows c.val = (Finset.univ : Finset (Fin 16)).biUnion fun i => tileRows (gp c i) := by
  ext y
  have h0 : (y 0).val < 8 := (y 0).isLt
  have h1 : (y 1).val < 128 := (y 1).isLt
  have hc := c.isLt
  simp only [coreRows, Finset.mem_filter, Finset.mem_univ, true_and, Finset.mem_biUnion, tileRows]
  constructor
  · intro h
    have hr : orow y < 1024 := by unfold orow; omega
    refine ⟨⟨orow y / 64, by omega⟩, ?_⟩
    show orow y / 32 = 2 * (orow y / 64) + c.val
    omega
  · rintro ⟨i, h⟩
    have h : orow y / 32 = 2 * i.val + c.val := h
    omega
theorem tile_disj (c : Fin 2) : ∀ i ∈ (Finset.univ : Finset (Fin 16)), ∀ j ∈ (Finset.univ : Finset (Fin 16)), i ≠ j →
    Disjoint (tileRows (gp c i)) (tileRows (gp c j)) := by
  intro i _ j _ hij
  refine Finset.disjoint_filter.2 fun y _ h h' => hij (Fin.ext ?_)
  have h : orow y / 32 = 2 * i.val + c.val := h
  have h' : orow y / 32 = 2 * j.val + c.val := h'
  omega
theorem all_rows : (Finset.univ : Finset S8x128x5000.Idx) = coreRows 0 ∪ coreRows 1 := by
  ext y
  simp only [coreRows, Finset.mem_univ, Finset.mem_union, Finset.mem_filter, true_and, true_iff]
  omega
theorem cores_disj : Disjoint (coreRows 0) (coreRows 1) := by
  refine Finset.disjoint_filter.2 fun y _ h => ?_
  rw [h]
  exact fun h' => absurd h' (by decide)

theorem rows_tiles (d : Dev nD) (c : Fin 2) (f : S8x128x5000.Idx → F .f32) :
    (oLoc d ↦[coreRows c.val]{fullShare} f : sProp 𝕄) = bigSep Finset.univ fun i : Fin 16 => rowsPt d (gp c i) f := by
  rw [core_rows]
  exact pointsTo_biUnion Finset.univ (ℓ := oLoc d) (fun i => tileRows (gp c i)) (tile_disj c)
theorem rows_cores (d : Dev nD) (f : S8x128x5000.Idx → F .f32) :
    (oLoc d ↦[Finset.univ]{fullShare} f : sProp 𝕄) ⊣⊢ iprop((oLoc d ↦[coreRows 0]{fullShare} f) ∗ oLoc d ↦[coreRows 1]{fullShare} f) := by
  rw [all_rows]
  exact pointsTo_union cores_disj

theorem split_core (d : Dev nD) (c : Fin 2) :
    stP m d c.val ⊢ |={Set.univ}=> iprop((bigSep Finset.univ fun i : Fin 16 => goP d (gp c i) (Xv m d) (Tt m d) (Ov m d))
      ∗ ((bigSep Finset.univ fun i : Fin 16 => rowsPt d (gp c i) (G (Xv m d) (Tt m d))) -∗ dnP m d c.val)) := by
  unfold stP dnP goP tSome
  rw [rows_tiles, rows_tiles, bigSep_sep', bigSep_sep']
  iintro ⟨HX, HT, HR⟩
  imodintro
  isplitl [HX HT HR]
  · isplitl [HX]; · iapply (deal_some (ℓ := xLoc d) (Xv m d) 16) $$ HX
    isplitl [HT]; · iapply (deal_some (ℓ := tLoc d) (Tt m d) 16) $$ HT
    iexact HR
  · iintro H; iexact H

theorem vecSplit : (K (F := F)).VecSplit' (P m) 0 := fun d c => split_core m d c

/-! ## The launch element -/

def u₀ : UU F := (initOf (K (F := F)).hsCells (K (F := F)).hsToks, (wm₀ nD τ sig (Elt F), 1))

theorem ownU_split (a : UH) (b : UWm F) :
    (ownU ((a, (b, 1)) : UU F) : sProp 𝕄) ⊢ iprop(BI.own (EH F a) ∗ ownU (wmE F b)) :=
  BI.own_op_elim ((uEmb (nD := nD) (sig := sig) (Ix := HIx 1) (Val := Elt F) (Name := ℕ) (U := UU F) (Lvl := ℕ)).toEmb.op_of_mem
    (Prod.mk_mem_op (URA.mem_op_one a) (URA.mem_one_op (b, 1))))

theorem emps {I : Type} (s : Finset I) : (bigSep s fun _ => iprop(emp)) = (iprop(emp) : sProp 𝕄) := bigSep_emp_const s

theorem x_deal : iprop(∃ ι, wmInv (wmE F) ι) ⊢ (bigSep Finset.univ fun thr : Thread nD τ => bigSep Finset.univ fun q : Fin 1 => (P m).x q thr : sProp 𝕄) := by
  iintro ⟨%ι, #HI⟩
  iapply (bigSep_intro_persistent (R := wmInv (wmE F) ι) fun thr _ => bigSep_intro_persistent fun q _ => ?_) $$ HI
  match q, thr with
  | 0, (_, .scVector _ _) => exact exists_intro ι
  | 0, (_, .tc) => exact Affine.affine
  | 0, (_, .scScalar _) => exact Affine.affine

include ρ in
theorem hu₀ : (ownU (u₀ (F := F)) : sProp 𝕄)
    ⊢ |={Set.univ}=> iprop(BI.own (EH F (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_split _ _) $$ Hu
  icases H with ⟨HH, HW⟩
  imod (wmInv_alloc (emb := wmE F) ⟨m, fun _ => 0, ρ⟩) $$ HW with ⟨%ι, -, HI⟩
  imodintro
  isplitl [HH]; · iexact HH
  isplitr; · rw [emps]; iempintro
  iapply (x_deal m)
  iexists ι; iexact HI

/-! ## The host's transposition -/

abbrev x' : DevRef τ sig := Proc.devRef .tc (main_arg0 : Ref sig .tc)
abbrev a' : DevRef τ sig := Proc.devRef .tc (main_arg1 : Ref sig .tc)
abbrev t' : DevRef τ sig := Proc.devRef .tc (main_v0 : Ref sig .tc)
abbrev o' : DevRef τ sig := Proc.devRef .tc (main_v1 : Ref sig .tc)

abbrev opT : HloOp τ sig (Elt F) := StableHlo.unary main_arg1 main_v0
  ((transpose S16x5000 [1, 0] · transposes_S5000x16_S16x5000_1_0) : (⟨S5000x16, .i32⟩ : BufTy).Contents (Elt F) → (⟨S16x5000, .i32⟩ : BufTy).Contents (Elt F))

/-- The TensorCore's arrays. -/
abbrev S4 : Finset (DevRef τ sig) := {x', a', t', o'}

theorem held_S4 (d : Dev nD) (V : Valuation τ sig (Elt F)) :
    (held (T d) S4 V : sProp 𝕄) = iprop((xLoc d ↦[Finset.univ]{fullShare} V x') ∗ (aLoc d ↦[Finset.univ]{fullShare} V a')
      ∗ (tLoc d ↦[Finset.univ]{fullShare} V t') ∗ oLoc d ↦[Finset.univ]{fullShare} V o') := by
  unfold held S4
  rw [SparseCore.bigSep_insert' (by decide), SparseCore.bigSep_insert' (by decide), SparseCore.bigSep_insert' (by decide), bigSep_singleton]

theorem unscopedBufs_eq (d : Dev nD) (V : (b : Ref sig .tc) → Buf (Elt F) ((d.tc : Thread nD τ).loc b)) :
    (unscopedBufs d V : sProp 𝕄) = iprop((xLoc d ↦[Finset.univ]{fullShare} V main_arg0) ∗ (aLoc d ↦[Finset.univ]{fullShare} V main_arg1)
      ∗ (tLoc d ↦[Finset.univ]{fullShare} V main_v0) ∗ oLoc d ↦[Finset.univ]{fullShare} V main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch memory, as the host's operation sees it. -/
def V0 (d : Dev nD) : Valuation τ sig (Elt F) := fun b => m (d, b)

theorem unscoped_held (d : Dev nD) : (unscopedBufs d (fun b => m ((SparseCore.T d).loc b)) : sProp 𝕄) = held (T d) S4 (V0 m d) := by
  rw [unscopedBufs_eq, held_S4]; rfl

theorem held_T (d : Dev nD) :
    (held (T d) S4 ((opT (F := F)).result (V0 m d)) : sProp 𝕄) = iprop((xLoc d ↦[Finset.univ]{fullShare} Xv m d) ∗ (aLoc d ↦[Finset.univ]{fullShare} m (aLoc d))
      ∗ (tLoc d ↦[Finset.univ]{fullShare} Tt m d) ∗ oLoc d ↦[Finset.univ]{fullShare} Ov m d) := by
  rw [held_S4, StableHlo.unary_result_ne (r := main_arg0) _ _ _ _ ?_, StableHlo.unary_result_ne (r := main_arg1) _ _ _ _ ?_,
    StableHlo.unary_result_ne (r := main_v1) _ _ _ _ ?_, StableHlo.unary_result]
  · rfl
  all_goals decide

theorem hT_sub : (opT (F := F)).bufs ⊆ S4 := show ({a', t'} : Finset (DevRef τ sig)) ⊆ S4 by decide

/-! ## The host's program -/

theorem two (Φ : Fin 2 → sProp 𝕄) : bigSep Finset.univ Φ = iprop(Φ 0 ∗ Φ 1) := by
  rw [show (Finset.univ : Finset (Fin 2)) = {0, 1} by decide, SparseCore.bigSep_insert' (by decide), bigSep_singleton]

theorem st_eq (d : Dev nD) : (bigSep Finset.univ fun c : Fin ((K (F := F)).nCore 0) => (P m).st 0 d c) = iprop(stP m d 0 ∗ stP m d 1) :=
  two fun c => stP m d c.val
theorem dn_eq (d : Dev nD) : (bigSep Finset.univ fun c : Fin ((K (F := F)).nCore 0) => (P m).dn 0 d c) = iprop(dnP m d 0 ∗ dnP m d 1) :=
  two fun c => dnP m d c.val

/-- What the host holds in the end: the arguments as they were, the result. -/
abbrev FIN (d : Dev nD) : sProp 𝕄 :=
  iprop((∃ q, xLoc d ↦[Finset.univ]{q} Xv m d) ∗ (aLoc d ↦[Finset.univ]{fullShare} m (aLoc d)) ∗ oLoc d ↦[Finset.univ]{fullShare} G (Xv m d) (Tt m d))

/-- The arrays dealt to the two SparseCores, the input kept at a share. -/
theorem to_cores (d : Dev nD) :
    iprop((xLoc d ↦[Finset.univ]{fullShare} Xv m d) ∗ (tLoc d ↦[Finset.univ]{fullShare} Tt m d) ∗ oLoc d ↦[Finset.univ]{fullShare} Ov m d)
      ⊢ iprop((∃ q, xLoc d ↦[Finset.univ]{q} Xv m d) ∗ stP m d 0 ∗ stP m d 1) := by
  iintro ⟨HX, HT, HO⟩
  ihave HX := (deal (ℓ := xLoc d) (Xv m d) 2 fullShare) $$ HX
  ihave HT := (deal (ℓ := tLoc d) (Tt m d) 2 fullShare) $$ HT
  ihave HO := (rows_cores d (Ov m d)).1 $$ HO
  icases HX with ⟨HX, HXs⟩
  icases HT with ⟨-, HTs⟩
  icases HO with ⟨HO0, HO1⟩
  ihave HXs := (Entails.of_eq (two (F := F) _)) $$ HXs
  ihave HTs := (Entails.of_eq (two (F := F) _)) $$ HTs
  icases HXs with ⟨HX0, HX1⟩
  icases HTs with ⟨HT0, HT1⟩
  isplitl [HX]; · iexact HX
  unfold stP
  isplitl [HX0 HT0 HO0]
  · isplitl [HX0]; · iexact HX0
    isplitl [HT0] <;> iassumption
  · isplitl [HX1]; · iexact HX1
    isplitl [HT1] <;> iassumption

theorem hmain (κ : GSem nD τ sig → ℕ) (d : Dev nD) :
    iprop((K (F := F)).ctx (EH F) (P m) κ ∗ (K (F := F)).tcSt (EH F) d 0 ∗ (K (F := F)).tcRes m ρ d ∗ emp)
      ⊢ wp frame (wpE ((K (F := F)).defs (D (F := F))) 𝒱 (SparseCore.T d) none) Set.univ (main d)
          fun _ => iprop((K (F := F)).tcSt (EH F) d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opT) (S := S4) hT_sub (V := V0 m d)) $$ [Hb Hheld]
  · isplitl [Hb] <;> iassumption
  iintro ⟨Hb, Hheld⟩
  ihave Hh := (Entails.of_eq (held_T (F := F) m d)) $$ Hheld
  icases Hh with ⟨HX, HA, HT, HO⟩
  ihave H := (to_cores m d) $$ [HX HT HO]
  · isplitl [HX]; · iexact HX
    isplitl [HT] <;> iassumption
  icases H with ⟨HX, HS⟩
  rw [wp_ret]; imodintro
  iapply ((K (F := F)).wp_run (D (F := F)) 𝒱 (EH := EH F) (P := P m) κ d 0) $$ [Hst HX HA HS Hb Hts]
  isplitr; · iexact Hctx
  isplitl [Hst]; · iexact Hst
  isplitl [HS]
  · rw [st_eq]; iexact HS
  iintro ⟨Hst, Hdn⟩
  ihave Hdn := (Entails.of_eq (dn_eq m d)) $$ Hdn
  unfold dnP
  ihave HO := (rows_cores d (G (Xv m d) (Tt m d))).2 $$ Hdn
  imodintro
  isplitl [Hst]; · iexact Hst
  isplitl [HX HA HO]
  · isplitl [HX]; · iexact HX
    isplitl [HA] <;> iassumption
  isplitl [Hb] <;> iassumption

/-! ## What every run leaves -/

/-- Of device `d`: the arguments unchanged, the result. -/
def fq (d : Dev nD) (s' : Phys nD τ sig (Elt F)) : Prop :=
  s'.mem.mem (xLoc d) = Xv m d ∧ s'.mem.mem (aLoc d) = m (aLoc d) ∧ s'.mem.mem (oLoc d) = G (Xv m d) (Tt m d)

theorem agree {ℓ : Loc nD τ sig} {q : PosShare TreeShare} {f : Buf (Elt F) ℓ} (s' : Phys nD τ sig (Elt F)) :
    iprop((ℓ ↦[Finset.univ]{q} f) ∗ SI s') ⊢ iprop(⌜s'.mem.mem ℓ = f⌝ ∗ (SI s' : sProp 𝕄)) := by
  iintro ⟨H, HSI⟩
  ihave H := (persistent_entails_right (SI_pointsTo_agree (st := s') (ℓ := ℓ) (I := Finset.univ) (q := q) (f := f))) $$ [HSI H]
  · isplitl [HSI] <;> iassumption
  icases H with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  iintro ⟨⟨⟨%q, HX⟩, HA, HO⟩, HSI⟩
  ihave H := (agree s') $$ [HX HSI]
  · isplitl [HX] <;> iassumption
  icases H with ⟨%hX, HSI⟩
  ihave H := (agree s') $$ [HA HSI]
  · isplitl [HA] <;> iassumption
  icases H with ⟨%hA, HSI⟩
  ihave H := (agree s') $$ [HO HSI]
  · isplitl [HO] <;> iassumption
  icases H with ⟨%hO, -⟩
  ipureintro; exact ⟨hX, hA, hO⟩

def QC : PUnit × MemSt nD τ sig (Elt F) → Prop := fun r =>
  (∀ c : Dev nD, r.2.mem (xLoc c) = Xv m c ∧ r.2.mem (aLoc c) = m (aLoc c) ∧ r.2.mem (oLoc c) = G (Xv m c) (Tt m c)) ∧ r.2.sem = fun _ => 0

/-- Every run, at any float values, ends with the arguments unchanged, the result, and every semaphore at zero. -/
theorem run_main [∀ e, Nonempty (Elt F e)] (hT : ∀ d i, (Tt m d i).toNat < 10000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH F) (P := P m) (A := ∅) facts v₀
    (fun q hq => match q with | 0 => nomatch hq)
    (fun q _ => match q with | 0 => tileObl m hT)
    (fun q _ => match q with | 0 => SparseCore.Cfg.VecSplit.of_plain (vecSplit m))
    m ρ main (fun _ => iprop(emp)) (FIN m) (u₀ (F := F)) (sep_elim_left.trans (hu₀ m ρ)) (hmain m ρ) (fq m) (hfin m) (QC m) (fun _ h hz => ⟨h, hz⟩)

end Cert.Proof.MaxPool

end
end
-- ==== Proof.Bounds.lean ====
/- The precondition read back: every word of the index array, read as a natural number, is below 10000. -/
module

public import proofs.«01_k».proof.Proof.Launch
public import proofs.«01_k».proof.Proof.Gen.Pre_in_range
public import Idealize.ShloMosaic.Lib.ReduceAll
public import Idealize.ShloMosaic.Lib.Affine
public import Idealize.ShloMosaic.Lib.Pipeline.Value

@[expose] public section

noncomputable section

namespace Cert.Proof.MaxPool

open Idealize.ShloMosaic

variable {F : FTy → Type} [FloatOps F]

/-- A word that is at least 0 and less than 10000, both read signed, is below 10000 read unsigned. -/
theorem word_lt (w : BitVec 32) (h0 : IntOp.cmpi .sge w 0#32 = 1#1) (h1 : IntOp.cmpi .slt w 10000#32 = 1#1) :
    w.toNat < 10000 := by
  have h0 := IntOp.cmpi_sge.1 h0
  have h1 := IntOp.cmpi_slt.1 h1
  have e0 : (0#32).toInt = 0 := by decide
  have e1 : (10000#32).toInt = 10000 := by decide
  rw [e0] at h0
  rw [e1] at h1
  have := w.isLt
  rw [BitVec.toInt_eq_toNat_cond] at h0 h1
  split at h0 <;> omega

instance : Subsingleton Cert.Pre_in_range.S_.Idx := ⟨fun _ _ => funext fun a => a.elim0⟩

/-- `in_range` all ones puts every index below 10000. -/
theorem in_range_lt (X : FVec F Cert.Pre_in_range.S8x128x10000 .f32) (A : IVec Cert.Pre_in_range.S5000x16 32)
    (h : @Cert.Pre_in_range.fn Cert.Pre_in_range.Gen.facts F _ X A = fun _ => 1#1) (i : Cert.Pre_in_range.S5000x16.Idx) :
    (A i).toNat < 10000 := by
  have e := congrFun h (fun a => a.elim0)
  have e := Host.reduce_andi_all _ _ _ _ _ e i
  have e := IntOp.andi_eq_one.1 e
  exact word_lt _ e.1 e.2

/-- An index of the untransposed array: entry `j` of output `o`. -/
def aIx (i : Cert.KernelIdeal.S16x5000.Idx) : Cert.KernelIdeal.S5000x16.Idx
  | 0 => (i 1 : Fin 5000)
  | 1 => (i 0 : Fin 16)

/-- The transposed array read at an index. -/
theorem transpose_at {α : Type} (A : Cert.KernelIdeal.S5000x16.Idx → α)
    (h : Cert.KernelIdeal.S5000x16.Transposes [1, 0] Cert.KernelIdeal.S16x5000) (i : Cert.KernelIdeal.S16x5000.Idx) :
    transpose Cert.KernelIdeal.S16x5000 [1, 0] A h i = A (aIx i) :=
  transpose_apply _ _ _ _ _ fun b => match b with
    | 0 => rfl
    | 1 => rfl

end Cert.Proof.MaxPool

end
-- ==== Proof.Reference.lean ====
/- The reference's value: over the extended reals its composed term is the kernel's result `G`, whenever every index
   is below 10000. -/
module

public import proofs.«01_k».proof.Proof.Bounds
public import proofs.«01_k».proof.Proof.Gen.ReferenceIdeal.Run
public import Idealize.ShloMosaic.PureOps.Ideal.Laws

@[expose] public section

noncomputable section

namespace Cert.Proof.MaxPool.Ref

open Cert.ReferenceIdeal Cert.ReferenceIdeal.Gen
open Idealize.ShloMosaic

variable {F : FTy → Type} [FloatOps F]

/-- The index array after the wrap of negative indices, with a last axis of size 1. -/
abbrev starts (A : IVec S5000x16 32) : IVec S5000x16x1 32 :=
  broadcastInDim S5000x16x1 ![0, 1] bcast_S5000x16_S5000x16x1_0_1
    (select (cmpi .slt A (broadcastInDim S5000x16 ![] bcast_S_S5000x16 (constantI S_ 32 0#32)))
      (addi A (broadcastInDim S5000x16 ![] bcast_S_S5000x16 (constantI S_ 32 10000#32))) A)
/-- Which start indices are in range. -/
def mask (A : IVec S5000x16 32) : IVec S5000x16 1 :=
  Host.reduce IntOp.andi
    (andi (cmpi .sge (starts A) (broadcastInDim S5000x16x1 ![] bcast_S_S5000x16x1 (constantI S_ 32 0#32)))
      (cmpi .sle (starts A) (broadcastInDim S5000x16x1 ![0, 1, 2] bcast_S1x1x1_S5000x16x1_0_1_2
        (broadcastInDim S1x1x1 ![2] bcast_S1_S1x1x1_2 (constantI S1 32 9999#32)))))
    (constantI S_ 1 1#1) reducesTo_S5000x16x1_S5000x16_d2 h_S_
/-- The gathered rows, out-of-range ones replaced. -/
def rows (X : FVec F S8x128x10000 .f32) (A : IVec S5000x16 32) : FVec F S8x128x5000x16 .f32 :=
  select (broadcastInDim S8x128x5000x16 ![2, 3] bcast_S5000x16_S8x128x5000x16_2_3 (mask A))
    (Host.gather gather_S8x128x10000_S5000x16x1_S8x128x5000x16_01_2_n_n_2_2_81281 X (starts A))
    (broadcastInDim S8x128x5000x16 ![] bcast_S_S8x128x5000x16 (constant S_ .f32 0x7FC00000#32))
/-- The reference's result. -/
abbrev out (X : FVec F S8x128x10000 .f32) (A : IVec S5000x16 32) : FVec F S8x128x5000 .f32 :=
  Host.reduce FloatOps.maximumf (rows X A) (constant S_ .f32 0xFF800000#32) reducesTo_S8x128x5000x16_S8x128x5000_d3 h_S_

/-! ## The indices -/

/-- A word below 10000 read signed is the same number. -/
theorem toInt_of_lt (w : BitVec 32) (h : w.toNat < 10000) : w.toInt = (w.toNat : Int) := by
  rw [BitVec.toInt_eq_toNat_cond]
  split <;> omega

/-- The start of entry `(o, j)`. -/
def sIx (o : Fin 5000) (j : Fin 16) : S5000x16x1.Idx
  | 0 => o
  | 1 => j
  | 2 => (0 : Fin 1)
/-- Entry `(o, j)` of the index array. -/
def eIx (o : Fin 5000) (j : Fin 16) : S5000x16.Idx
  | 0 => o
  | 1 => j

/-- A `select` whose condition fails takes its second value. -/
theorem sel_zero {α : Type} {c : BitVec 1} (h : ¬ c = 1#1) (a b : α) : Scalar.select c a b = b := if_neg h

/-- An in-range index is not wrapped. -/
theorem starts_at (A : IVec S5000x16 32) (hA : ∀ i, (A i).toNat < 10000) (k : S5000x16x1.Idx) :
    starts A k = A (eIx (k 0) (k 1)) := by
  have hk : starts A k = _ := broadcastInDim_apply _ _ _ k (eIx (k 0) (k 1)) fun a => match a with
    | 0 => rfl
    | 1 => rfl
  rw [hk]
  have h0 : ¬ IntOp.cmpi .slt (A (eIx (k 0) (k 1))) 0#32 = 1#1 := by
    rw [IntOp.cmpi_slt, toInt_of_lt _ (hA _), show (0#32).toInt = 0 from by decide]
    omega
  exact sel_zero h0 _ _

/-- Every index is in range. -/
theorem mask_at (A : IVec S5000x16 32) (hA : ∀ i, (A i).toNat < 10000) (k : S5000x16.Idx) : mask A k = 1#1 := by
  refine Host.reduce_andi_one _ _ _ _ _ rfl fun i => IntOp.andi_eq_one.2 ⟨?_, ?_⟩
  · refine IntOp.cmpi_sge.2 ?_
    show (0#32).toInt ≤ (starts A i).toInt
    rw [starts_at A hA, toInt_of_lt _ (hA _), show (0#32).toInt = 0 from by decide]
    omega
  · refine IntOp.cmpi_sle.2 ?_
    show (starts A i).toInt ≤ (9999#32).toInt
    rw [starts_at A hA, toInt_of_lt _ (hA _), show (9999#32).toInt = 9999 from by decide]
    have := hA (eIx (i 0) (i 1))
    omega

/-! ## The gather -/

/-- The input element that output entry `j` reads. -/
def gIx (b : Fin 8) (f : Fin 128) (n : Fin 10000) : S8x128x10000.Idx
  | 0 => b
  | 1 => f
  | 2 => n

/-- The gather's dimension numbers. -/
abbrev GD : GatherDims S8x128x10000 S5000x16x1 S8x128x5000x16 :=
  gather_S8x128x10000_S5000x16x1_S8x128x5000x16_01_2_n_n_2_2_81281

/-- On the gathered axis the start is the index read signed and clamped. -/
theorem start_two (I : IVec S5000x16x1 32) (j : S8x128x5000x16.Idx) :
    GD.start j I 2 = min (I (sIx (j 2) (j 3))).toInt.toNat 9999 := by
  unfold GatherDims.start
  rw [dif_pos (show (2 : Fin 3) ∈ GD.startIndexMap from List.mem_singleton.mpr rfl)]
  have hsi : GD.siIdx j ⟨List.idxOf (2 : Fin 3) GD.startIndexMap,
      List.idxOf_lt_length_iff.2 (List.mem_singleton.mpr rfl)⟩ = sIx (j 2) (j 3) := by
    funext b
    refine Fin.ext ?_
    match b with
    | ⟨0, _⟩ => rfl
    | ⟨1, _⟩ => rfl
    | ⟨2, _⟩ => rfl
  rw [hsi]
  rfl

/-- The gather at an index. -/
theorem gather_at {α : Type} (X : S8x128x10000.Idx → α) (I : IVec S5000x16x1 32) (j : S8x128x5000x16.Idx) :
    Host.gather GD X I j = X (gIx (j 0) (j 1) ⟨min (I (sIx (j 2) (j 3))).toInt.toNat 9999, by omega⟩) := by
  unfold Host.gather
  congr 1
  funext a
  refine Fin.ext ?_
  match a with
  | ⟨0, _⟩ =>
    show GD.start j I 0 + GD.batchCoord j 0 + GD.offCoord j 0 = (j 0).val
    rw [GatherDims.batchCoord_eq_zero _ _ _ List.not_mem_nil]
    unfold GatherDims.start
    rw [dif_neg (show ¬ (0 : Fin 3) ∈ GD.startIndexMap from by show ¬ (0 : Fin 3) ∈ [(2 : Fin 3)]; decide)]
    unfold GatherDims.offCoord
    rw [dif_pos ((GatherDims.mem_sKept _ _).2 ⟨by show ¬ (0 : Fin 3) ∈ [(2 : Fin 3)]; decide, List.not_mem_nil⟩)]
    simp only [Nat.zero_add]
    rfl
  | ⟨1, _⟩ =>
    show GD.start j I 1 + GD.batchCoord j 1 + GD.offCoord j 1 = (j 1).val
    rw [GatherDims.batchCoord_eq_zero _ _ _ List.not_mem_nil]
    unfold GatherDims.start
    rw [dif_neg (show ¬ (1 : Fin 3) ∈ GD.startIndexMap from by show ¬ (1 : Fin 3) ∈ [(2 : Fin 3)]; decide)]
    unfold GatherDims.offCoord
    rw [dif_pos ((GatherDims.mem_sKept _ _).2 ⟨by show ¬ (1 : Fin 3) ∈ [(2 : Fin 3)]; decide, List.not_mem_nil⟩)]
    simp only [Nat.zero_add]
    rfl
  | ⟨2, _⟩ =>
    show GD.start j I 2 + GD.batchCoord j 2 + GD.offCoord j 2 = min (I (sIx (j 2) (j 3))).toInt.toNat 9999
    rw [GatherDims.batchCoord_eq_zero _ _ _ List.not_mem_nil,
      GatherDims.offCoord_eq_zero _ _ _ (fun h => ((GatherDims.mem_sKept _ _).mp h).1 (List.mem_singleton.mpr rfl)), start_two]
    rfl

/-- A vector `select` at an index where its condition holds. -/
theorem select_one_at {s : Shape} {α : Type} (c : IVec s 1) (a b : s.Idx → α) (i : s.Idx) (h : c i = 1#1) :
    select c a b i = a i := if_pos h

/-- A gathered element: the input at the index the array holds. -/
theorem rows_at (X : FVec F S8x128x10000 .f32) (A : IVec S5000x16 32) (hA : ∀ i, (A i).toNat < 10000)
    (j : S8x128x5000x16.Idx) :
    rows X A j = X (gIx (j 0) (j 1) ⟨(A (eIx (j 2) (j 3))).toNat, hA _⟩) := by
  have hm : broadcastInDim S8x128x5000x16 ![2, 3] bcast_S5000x16_S8x128x5000x16_2_3 (mask A) j = 1#1 := mask_at A hA _
  unfold rows
  rw [select_one_at _ _ _ _ hm]
  rw [gather_at]
  have e : starts A (sIx (j 2) (j 3)) = A (eIx (j 2) (j 3)) := starts_at A hA _
  refine congrArg X (congrArg (gIx (j 0) (j 1)) (Fin.ext ?_))
  show min (starts A (sIx (j 2) (j 3))).toInt.toNat 9999 = (A (eIx (j 2) (j 3))).toNat
  rw [e, toInt_of_lt _ (hA _)]
  have := hA (eIx (j 2) (j 3))
  omega

/-! ## The maximum -/

/-- Over the extended reals, the fold of `max` from the bottom is the kernel's tree of pairwise maxima. -/
theorem fold_tmax (f : Fin 16 → Ideal .f32) :
    (Finset.univ : Finset (Fin 16)).fold (FloatOps.maximumf (F := Ideal) (φ := .f32)) (FloatOps.ofBits (F := Ideal) .f32 0xFF800000#32) f
      = tmax (F := Ideal) f := by
  have hb : (FloatOps.ofBits (F := Ideal) .f32 0xFF800000#32 : EReal) = ⊥ := by
    show Ideal.ofBits .f32 0xFF800000#32 = ⊥
    simp [Ideal.ofBits, Ideal.ieee]
  have hf : ∀ c : EReal, (Finset.univ : Finset (Fin 16)).fold (max : EReal → EReal → EReal) ⊥ f ≤ c ↔ ∀ k, (f k : EReal) ≤ c :=
    fun c => by simp [Finset.fold_max_le]
  have ht : ∀ c : EReal, (tmax (F := Ideal) f : EReal) ≤ c ↔ ∀ k, (f k : EReal) ≤ c := by
    intro c
    have hm : ∀ a b : Ideal .f32, (FloatOps.maximumf (F := Ideal) (φ := .f32) a b : EReal) ≤ c ↔ (a : EReal) ≤ c ∧ (b : EReal) ≤ c :=
      fun a b => max_le_iff (α := EReal)
    simp only [tmax, hm]
    constructor
    · intro h k
      fin_cases k <;> tauto
    · intro h
      simp only [h, and_self]
  rw [hb]
  exact le_antisymm ((hf _).2 ((ht _).1 le_rfl)) ((ht _).2 ((hf _).1 le_rfl))

/-- The elements that a maximum runs over, by their number. -/
theorem comp_lift {α : Type} (x : S8x128x5000x16.Idx → α) (hr : S8x128x5000x16.Reduces [3] S8x128x5000) (y : S8x128x5000.Idx) :
    x ∘ hr.lift y = fun k : Fin 16 => x (hr.lift y k) := rfl

/-- The reference's result is the kernel's. -/
theorem out_eq (X : FVec Ideal S8x128x10000 .f32) (A : IVec S5000x16 32) (hA : ∀ i, (A i).toNat < 10000)
    (h : Cert.KernelIdeal.S5000x16.Transposes [1, 0] Cert.KernelIdeal.S16x5000) :
    out X A = G X (transpose Cert.KernelIdeal.S16x5000 [1, 0] A h) := by
  funext y
  have hr : S8x128x5000x16.Reduces [3] S8x128x5000 := by decide
  refine (Host.reduce_eq_fold_single _ _ _ _ hr _ _).trans ?_
  rw [comp_lift]
  refine (fold_tmax _).trans ?_
  refine congrArg (tmax (F := Ideal)) (funext fun (k : Fin 16) => ?_)
  have er := rows_at X A hA (hr.lift y k)
  rw [er]
  show _ = X (xIx (orow y) (transpose Cert.KernelIdeal.S16x5000 [1, 0] A h (tIx k (y 2).val)).toNat)
  rw [transpose_at]
  have e2 : (eIx ((hr.lift y k) 2) ((hr.lift y k) 3)) = aIx (tIx k (y 2).val) := by
    funext a
    refine Fin.ext ?_
    match a with
    | ⟨0, _⟩ => exact (Nat.mod_eq_of_lt (y 2).isLt).symm
    | ⟨1, _⟩ => rfl
  have h0 : (y 0).val < 8 := (y 0).isLt
  have h1 : (y 1).val < 128 := (y 1).isLt
  refine congrArg X (funext fun a => Fin.ext ?_)
  match a with
  | ⟨0, _⟩ =>
    show (y 0).val = ((y 0).val * 128 + (y 1).val) / 128 % 8
    omega
  | ⟨1, _⟩ =>
    show (y 1).val = ((y 0).val * 128 + (y 1).val) % 128
    omega
  | ⟨2, _⟩ =>
    show (A (eIx ((hr.lift y k) 2) ((hr.lift y k) 3))).toNat = (A (aIx (tIx k (y 2).val))).toNat % 10000
    rw [e2, Nat.mod_eq_of_lt (hA _)]

end Cert.Proof.MaxPool.Ref

end
-- ==== Proof.lean ====
/- The claims about the max pooling over gathered neighbours, assembled: the kernel runs and leaves its arguments alone, read at
   bit patterns and at the extended reals; the reference does; and the two have the same result, element by element. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Launch
public import proofs.«01_k».proof.Proof.Bounds
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel's run at any float values, its index array in range. -/
theorem run_kernel {F : FTy → Type} [FloatOps F] [∀ e, Nonempty (Elt F e)]
    (m : (ℓ : Loc Cert.KernelIdeal.nD Cert.KernelIdeal.τ Cert.KernelIdeal.sig) → Buf (Elt F) ℓ)
    (ρ : Dev Cert.KernelIdeal.nD → PrngReg)
    (h : ∀ c : Dev Cert.KernelIdeal.nD, @Cert.Pre_in_range.fn Cert.Pre_in_range.Gen.facts F _ (m (MaxPool.xLoc c)) (m (MaxPool.aLoc c)) = fun _ => 1#1) :
    θ_run (Cert.KernelIdeal.defs (F := F)) (Cert.KernelIdeal.threads (F := F)) ⟨m, fun _ => 0, ρ⟩ (MaxPool.QC m) :=
  MaxPool.run_main m ρ fun d i => by
    unfold MaxPool.Tt
    rw [MaxPool.transpose_at]
    exact MaxPool.in_range_lt _ _ (h d) _

/-- The kernel at bit patterns is the same program, so its run is the same theorem at those values. -/
theorem frame_kernel : Cert.quiescent_Kernel (hKernel := Cert.Kernel.Gen.facts) (hPre_in_range := Cert.Pre_in_range.Gen.facts) :=
  fun m ρ hp => (θ_run Cert.KernelIdeal.defs _ _).mono (fun _ h => ⟨fun c => ⟨(h.1 c).1, (h.1 c).2.1⟩, h.2⟩)
    (run_kernel (F := Bits) m ρ hp)

/-- The kernel over the extended reals. -/
theorem frame_kernelIdeal : Cert.quiescent_KernelIdeal (hKernelIdeal := Cert.KernelIdeal.Gen.facts) (hPre_in_range := Cert.Pre_in_range.Gen.facts) :=
  fun m ρ hp => (θ_run Cert.KernelIdeal.defs _ _).mono (fun _ h => ⟨fun c => ⟨(h.1 c).1, (h.1 c).2.1⟩, h.2⟩)
    (run_kernel (F := Ideal) m ρ hp)

/-- The reference's arguments stay as they are, whatever they hold; it declares no semaphore. -/
theorem frame_referenceIdeal : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩) (Cert.ReferenceIdeal.Value.run (F := Ideal) m ρ)

/-- The same under the precondition of the value claim. -/
theorem frame_referenceIdeal_in_range : Cert.quiescent_ReferenceIdeal_pre_in_range
    (hReferenceIdeal := Cert.ReferenceIdeal.Gen.facts) (hPre_in_range := Cert.Pre_in_range.Gen.facts) :=
  fun m ρ _ => frame_referenceIdeal m ρ trivial

/-- Over the extended reals the kernel's result and the reference's are the one function `MaxPool.G` of the arguments. -/
theorem algebraic : Cert.algebraic_KernelIdeal_ReferenceIdeal (hKernelIdeal := Cert.KernelIdeal.Gen.facts)
    (hReferenceIdeal := Cert.ReferenceIdeal.Gen.facts) (hPre_in_range := Cert.Pre_in_range.Gen.facts) := by
  intro m ρ m' ρ' hp hm
  refine ⟨fun c => MaxPool.G (MaxPool.Xv m c) (MaxPool.Tt m c), ?_, ?_⟩
  · exact (θ_run Cert.KernelIdeal.defs _ _).mono (fun _ h c => ⟨(h.1 c).2.2, (h.1 c).1, (h.1 c).2.1⟩)
      (run_kernel (F := Ideal) m ρ hp)
  · refine (θ_run Cert.ReferenceIdeal.defs _ _).mono (fun _ h c => ⟨(h c).1.trans ?_, (h c).2⟩)
      (Cert.ReferenceIdeal.Value.run (F := Ideal) m' ρ')
    rw [(hm c).1, (hm c).2]
    exact MaxPool.Ref.out_eq _ _ (fun i => MaxPool.in_range_lt _ _ (hp c) i) _

/-- All of them. -/
theorem claim : Cert.Claim :=
  ⟨Cert.Kernel.Gen.facts, Cert.KernelIdeal.Gen.facts, Cert.ReferenceIdeal.Gen.facts, Cert.Pre_in_range.Gen.facts,
    frame_kernel, frame_kernelIdeal, frame_referenceIdeal, frame_referenceIdeal_in_range,
    trivial, algebraic⟩

end Cert.Proof

end
